-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  IdealRules.named_const.Statement Cert.KernelIdeal.κ "qscale" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_v43) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v22) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_v34) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_v22) = v1 c
          ∧ r.2.mem ((c.tc : Thread Cert.Reference9Ideal.nD Cert.Reference9Ideal.τ).loc Cert.Reference9Ideal.main_v28) = v2 c
          ∧ r.2.mem ((c.tc : Thread Cert.Reference9Ideal.nD Cert.Reference9Ideal.τ).loc Cert.Reference9Ideal.main_v34) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S2x16 : Shape := ⟨2, ![2, 16]⟩
abbrev S3x8192x2048 : Shape := ⟨3, ![3, 8192, 2048]⟩
abbrev S8192x2048 : Shape := ⟨2, ![8192, 2048]⟩
abbrev S2x128 : Shape := ⟨2, ![2, 128]⟩
abbrev S1x16 : Shape := ⟨2, ![1, 16]⟩
abbrev S16 : Shape := ⟨1, ![16]⟩
abbrev S2x1x128 : Shape := ⟨3, ![2, 1, 128]⟩
abbrev S1x256x512 : Shape := ⟨3, ![1, 256, 512]⟩
abbrev S2048x512 : Shape := ⟨2, ![2048, 512]⟩
abbrev S1x1x128 : Shape := ⟨3, ![1, 1, 128]⟩
abbrev S256x512 : Shape := ⟨2, ![256, 512]⟩
abbrev S4x256x1 : Shape := ⟨3, ![4, 256, 1]⟩
abbrev S512x256 : Shape := ⟨2, ![512, 256]⟩
abbrev S256x256 : Shape := ⟨2, ![256, 256]⟩
abbrev S1x256x128 : Shape := ⟨3, ![1, 256, 128]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S1 : Shape := ⟨1, ![1]⟩
abbrev S1x256x1 : Shape := ⟨3, ![1, 256, 1]⟩

abbrev nBuf : Space → Nat
  | .hbm => 9
  | .vmem => 12
  | .smem => 1
  | _ => 0

abbrev bufTy : (tb : Table) → Fin (tcTables nBuf tb) → BufTy
  | .hbm, ⟨0, _⟩ => ⟨S2x16, .f32⟩
  | .hbm, ⟨1, _⟩ => ⟨S3x8192x2048, .f32⟩
  | .hbm, ⟨2, _⟩ => ⟨S8192x2048, .bf16⟩
  | .hbm, ⟨3, _⟩ => ⟨S8192x2048, .bf16⟩
  | .hbm, ⟨4, _⟩ => ⟨S2x128, .f32⟩
  | .hbm, ⟨5, _⟩ => ⟨S1x16, .f32⟩
  | .hbm, ⟨6, _⟩ => ⟨S16, .f32⟩
  | .hbm, ⟨7, _⟩ => ⟨S2x1x128, .f32⟩
  | .hbm, ⟨8, _⟩ => ⟨S8192x2048, .bf16⟩
  | .local _ .vmem, ⟨0, _⟩ => ⟨S1x256x512, .f32⟩
  | .local _ .vmem, ⟨1, _⟩ => ⟨S1x256x512, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x1x128, .f32⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S4x256x1, .f32⟩
  | .local _ .smem, ⟨0, _⟩ => ⟨S16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c256_i32_55 : BitVec 32 := 256#32
  let v122 : BitVec 32 := Scalar.muli arg2 c256_i32_55
  v122
def k0_off1 (i : grid0.Coords) : Fin 2 → Nat :=
  let arg2 : BitVec 32 := BitVec.ofNat 32 (i 2).val
  let c256_i32_55 : BitVec 32 := 256#32
  let v122 : BitVec 32 := Scalar.muli arg2 c256_i32_55
  let v123 : BitVec 32 := v122
  let v125 : Index := Scalar.indexCast v123
  let c0_58 : Index := 0#32
  ![v125.toNat, 0]
def k0_off2 (i : grid0.Coords) (c0_i32_60 : BitVec 32) : Fin 1 → Nat :=
  let arg1 : BitVec 32 := BitVec.ofNat 32 (i 1).val
  let c4_i32 : BitVec 32 := 4#32
  let v128 : BitVec 32 := Scalar.muli arg1 c4_i32
  let v129 : BitVec 32 := Scalar.addi v128 c0_i32_60
  let v130 : Index := Scalar.indexCast v129
  ![v130.toNat]
def k0_off3 (i : grid0.Coords) : Fin 2 → Nat :=
  let arg2 : BitVec 32 := BitVec.ofNat 32 (i 2).val
  let c256_i32_55 : BitVec 32 := 256#32
  let v122 : BitVec 32 := Scalar.muli arg2 c256_i32_55
  let v123 : BitVec 32 := v122
  let v136 : Index := Scalar.indexCast v123
  let c128_64 : Index := 128#32
  ![v136.toNat, 128]
def k0_off4 (i : grid0.Coords) : Fin 2 → Nat :=
  let arg2 : BitVec 32 := BitVec.ofNat 32 (i 2).val
  let c256_i32_55 : BitVec 32 := 256#32
  let v122 : BitVec 32 := Scalar.muli arg2 c256_i32_55
  let v123 : BitVec 32 := v122
  let v147 : Index := Scalar.indexCast v123
  let c256_71 : Index := 256#32
  ![v147.toNat, 256]
def k0_off5 (i : grid0.Coords) : Fin 2 → Nat :=
  let arg2 : BitVec 32 := BitVec.ofNat 32 (i 2).val
  let c256_i32_55 : BitVec 32 := 256#32
  let v122 : BitVec 32 := Scalar.muli arg2 c256_i32_55
  let v123 : BitVec 32 := v122
  let v158 : Index := Scalar.indexCast v123
  let c384_77 : Index := 384#32
  ![v158.toNat, 384]
@[reducible] def k0_t1_loop (i : grid0.Coords) : Scf.Loop 32 :=
  let c0_i32_174 : BitVec 32 := 0#32
  let arg2 : BitVec 32 := BitVec.ofNat 32 (i 2).val
  let v360 : BitVec 32 := Scalar.subi arg2 c0_i32_174
  let c1_i32_176 : BitVec 32 := 1#32
  let v362 : BitVec 32 := Scalar.divsi v360 c1_i32_176
  let v363 : BitVec 32 := Scalar.muli v362 c1_i32_176
  let v364 : BitVec 32 := Scalar.addi c0_i32_174 v363
  let c1_i32_177 : BitVec 32 := 1#32
  ⟨c0_i32_174, v364, c1_i32_177⟩
def k0_mult2 (i : grid0.Coords) (k0_t1 : Fin (k0_t1_loop i).trips) : BitVec 32 :=
  let arg2 : BitVec 32 := BitVec.ofNat 32 (i 2).val
  let c1_i32_183 : BitVec 32 := 1#32
  let v370 : BitVec 32 := Scalar.subi arg2 c1_i32_183
  let c0_i32_174 : BitVec 32 := 0#32
  let c1_i32_177 : BitVec 32 := 1#32
  let arg12 : BitVec 32 := Scf.iv c0_i32_174 c1_i32_177 k0_t1
  let v371 : BitVec 32 := Scalar.subi v370 arg12
  let c256_i32_184 : BitVec 32 := 256#32
  let v372 : BitVec 32 := Scalar.muli v371 c256_i32_184
  v372
def k0_off6 (i : grid0.Coords) (k0_t1 : Fin (k0_t1_loop i).trips) : Fin 2 → Nat :=
  let arg2 : BitVec 32 := BitVec.ofNat 32 (i 2).val
  let c1_i32_183 : BitVec 32 := 1#32
  let v370 : BitVec 32 := Scalar.subi arg2 c1_i32_183
  let c0_i32_174 : BitVec 32 := 0#32
  let c1_i32_177 : BitVec 32 := 1#32
  let arg12 : BitVec 32 := Scf.iv c0_i32_174 c1_i32_177 k0_t1
  let v371 : BitVec 32 := Scalar.subi v370 arg12
  let c256_i32_184 : BitVec 32 := 256#32
  let v372 : BitVec 32 := Scalar.muli v371 c256_i32_184
  let v373 : BitVec 32 := v372
  let v375 : Index := Scalar.indexCast v373
  let c0_187 : Index := 0#32
  ![v375.toNat, 0]
def k0_off7 (i : grid0.Coords) (c0_i32_190 : BitVec 32) : Fin 1 → Nat :=
  let arg1 : BitVec 32 := BitVec.ofNat 32 (i 1).val
  let c4_i32_189 : BitVec 32 := 4#32
  let v378 : BitVec 32 := Scalar.muli arg1 c4_i32_189
  let v379 : BitVec 32 := Scalar.addi v378 c0_i32_190
  let v380 : Index := Scalar.indexCast v379
  ![v380.toNat]
def k0_off8 (i : grid0.Coords) (k0_t1 : Fin (k0_t1_loop i).trips) : Fin 2 → Nat :=
  let arg2 : BitVec 32 := BitVec.ofNat 32 (i 2).val
  let c1_i32_183 : BitVec 32 := 1#32
  let v370 : BitVec 32 := Scalar.subi arg2 c1_i32_183
  let c0_i32_174 : BitVec 32 := 0#32
  let c1_i32_177 : BitVec 32 := 1#32
  let arg12 : BitVec 32 := Scf.iv c0_i32_174 c1_i32_177 k0_t1
  let v371 : BitVec 32 := Scalar.subi v370 arg12
  let c256_i32_184 : BitVec 32 := 256#32
  let v372 : BitVec 32 := Scalar.muli v371 c256_i32_184
  let v373 : BitVec 32 := v372
  let v386 : Index := Scalar.indexCast v373
  let c128_194 : Index := 128#32
  ![v386.toNat, 128]
def k0_off9 (i : grid0.Coords) (k0_t1 : Fin (k0_t1_loop i).trips) : Fin 2 → Nat :=
  let arg2 : BitVec 32 := BitVec.ofNat 32 (i 2).val
  let c1_i32_183 : BitVec 32 := 1#32
  let v370 : BitVec 32 := Scalar.subi arg2 c1_i32_183
  let c0_i32_174 : BitVec 32 := 0#32
  let c1_i32_177 : BitVec 32 := 1#32
  let arg12 : BitVec 32 := Scf.iv c0_i32_174 c1_i32_177 k0_t1
  let v371 : BitVec 32 := Scalar.subi v370 arg12
  let c256_i32_184 : BitVec 32 := 256#32
  let v372 : BitVec 32 := Scalar.muli v371 c256_i32_184
  let v373 : BitVec 32 := v372
  let v397 : Index := Scalar.indexCast v373
  let c256_201 : Index := 256#32
  ![v397.toNat, 256]
def k0_off10 (i : grid0.Coords) (k0_t1 : Fin (k0_t1_loop i).trips) : Fin 2 → Nat :=
  let arg2 : BitVec 32 := BitVec.ofNat 32 (i 2).val
  let c1_i32_183 : BitVec 32 := 1#32
  let v370 : BitVec 32 := Scalar.subi arg2 c1_i32_183
  let c0_i32_174 : BitVec 32 := 0#32
  let c1_i32_177 : BitVec 32 := 1#32
  let arg12 : BitVec 32 := Scf.iv c0_i32_174 c1_i32_177 k0_t1
  let v371 : BitVec 32 := Scalar.subi v370 arg12
  let c256_i32_184 : BitVec 32 := 256#32
  let v372 : BitVec 32 := Scalar.muli v371 c256_i32_184
  let v373 : BitVec 32 := v372
  let v408 : Index := Scalar.indexCast v373
  let c384_208 : Index := 384#32
  ![v408.toNat, 384]
@[reducible] def k0_t2_loop (i : grid0.Coords) : Scf.Loop 32 :=
  let c0_i32_174 : BitVec 32 := 0#32
  let arg2 : BitVec 32 := BitVec.ofNat 32 (i 2).val
  let v360 : BitVec 32 := Scalar.subi arg2 c0_i32_174
  let c1_i32_176 : BitVec 32 := 1#32
  let v362 : BitVec 32 := Scalar.divsi v360 c1_i32_176
  let v363 : BitVec 32 := Scalar.muli v362 c1_i32_176
  let v364 : BitVec 32 := Scalar.addi c0_i32_174 v363
  let v361 : BitVec 32 := Scalar.addi c0_i32_174 v360
  let c1_i32_178 : BitVec 32 := 1#32
  ⟨v364, v361, c1_i32_178⟩
def k0_mult3 (i : grid0.Coords) (k0_t2 : Fin (k0_t2_loop i).trips) : BitVec 32 :=
  let arg2 : BitVec 32 := BitVec.ofNat 32 (i 2).val
  let c1_i32_183 : BitVec 32 := 1#32
  let v370 : BitVec 32 := Scalar.subi arg2 c1_i32_183
  let c0_i32_174 : BitVec 32 := 0#32
  let v360 : BitVec 32 := Scalar.subi arg2 c0_i32_174
  let c1_i32_176 : BitVec 32 := 1#32
  let v362 : BitVec 32 := Scalar.divsi v360 c1_i32_176
  let v363 : BitVec 32 := Scalar.muli v362 c1_i32_176
  let v364 : BitVec 32 := Scalar.addi c0_i32_174 v363
  let c1_i32_178 : BitVec 32 := 1#32
  let arg12 : BitVec 32 := Scf.iv v364 c1_i32_178 k0_t2
  let v371 : BitVec 32 := Scalar.subi v370 arg12
  let c256_i32_184 : BitVec 32 := 256#32
  let v372 : BitVec 32 := Scalar.muli v371 c256_i32_184
  v372
def k0_off11 (i : grid0.Coords) (k0_t2 : Fin (k0_t2_loop i).trips) : Fin 2 → Nat :=
  let arg2 : BitVec 32 := BitVec.ofNat 32 (i 2).val
  let c1_i32_183 : BitVec 32 := 1#32
  let v370 : BitVec 32 := Scalar.subi arg2 c1_i32_183
  let c0_i32_174 : BitVec 32 := 0#32
  let v360 : BitVec 32 := Scalar.subi arg2 c0_i32_174
  let c1_i32_176 : BitVec 32 := 1#32
  let v362 : BitVec 32 := Scalar.divsi v360 c1_i32_176
  let v363 : BitVec 32 := Scalar.muli v362 c1_i32_176
  let v364 : BitVec 32 := Scalar.addi c0_i32_174 v363
  let c1_i32_178 : BitVec 32 := 1#32
  let arg12 : BitVec 32 := Scf.iv v364 c1_i32_178 k0_t2
  let v371 : BitVec 32 := Scalar.subi v370 arg12
  let c256_i32_184 : BitVec 32 := 256#32
  let v372 : BitVec 32 := Scalar.muli v371 c256_i32_184
  let v373 : BitVec 32 := v372
  let v375 : Index := Scalar.indexCast v373
  let c0_187 : Index := 0#32
  ![v375.toNat, 0]
def k0_off12 (i : grid0.Coords) (c0_i32_190 : BitVec 32) : Fin 1 → Nat :=
  let arg1 : BitVec 32 := BitVec.ofNat 32 (i 1).val
  let c4_i32_189 : BitVec 32 := 4#32
  let v378 : BitVec 32 := Scalar.muli arg1 c4_i32_189
  let v379 : BitVec 32 := Scalar.addi v378 c0_i32_190
  let v380 : Index := Scalar.indexCast v379
  ![v380.toNat]
def k0_off13 (i : grid0.Coords) (k0_t2 : Fin (k0_t2_loop i).trips) : Fin 2 → Nat :=
  let arg2 : BitVec 32 := BitVec.ofNat 32 (i 2).val
  let c1_i32_183 : BitVec 32 := 1#32
  let v370 : BitVec 32 := Scalar.subi arg2 c1_i32_183
  let c0_i32_174 : BitVec 32 := 0#32
  let v360 : BitVec 32 := Scalar.subi arg2 c0_i32_174
  let c1_i32_176 : BitVec 32 := 1#32
  let v362 : BitVec 32 := Scalar.divsi v360 c1_i32_176
  let v363 : BitVec 32 := Scalar.muli v362 c1_i32_176
  let v364 : BitVec 32 := Scalar.addi c0_i32_174 v363
  let c1_i32_178 : BitVec 32 := 1#32
  let arg12 : BitVec 32 := Scf.iv v364 c1_i32_178 k0_t2
  let v371 : BitVec 32 := Scalar.subi v370 arg12
  let c256_i32_184 : BitVec 32 := 256#32
  let v372 : BitVec 32 := Scalar.muli v371 c256_i32_184
  let v373 : BitVec 32 := v372
  let v386 : Index := Scalar.indexCast v373
  let c128_194 : Index := 128#32
  ![v386.toNat, 128]
def k0_off14 (i : grid0.Coords) (k0_t2 : Fin (k0_t2_loop i).trips) : Fin 2 → Nat :=
  let arg2 : BitVec 32 := BitVec.ofNat 32 (i 2).val
  let c1_i32_183 : BitVec 32 := 1#32
  let v370 : BitVec 32 := Scalar.subi arg2 c1_i32_183
  let c0_i32_174 : BitVec 32 := 0#32
  let v360 : BitVec 32 := Scalar.subi arg2 c0_i32_174
  let c1_i32_176 : BitVec 32 := 1#32
  let v362 : BitVec 32 := Scalar.divsi v360 c1_i32_176
  let v363 : BitVec 32 := Scalar.muli v362 c1_i32_176
  let v364 : BitVec 32 := Scalar.addi c0_i32_174 v363
  let c1_i32_178 : BitVec 32 := 1#32
  let arg12 : BitVec 32 := Scf.iv v364 c1_i32_178 k0_t2
  let v371 : BitVec 32 := Scalar.subi v370 arg12
  let c256_i32_184 : BitVec 32 := 256#32
  let v372 : BitVec 32 := Scalar.muli v371 c256_i32_184
  let v373 : BitVec 32 := v372
  let v397 : Index := Scalar.indexCast v373
  let c256_201 : Index := 256#32
  ![v397.toNat, 256]
def k0_off15 (i : grid0.Coords) (k0_t2 : Fin (k0_t2_loop i).trips) : Fin 2 → Nat :=
  let arg2 : BitVec 32 := BitVec.ofNat 32 (i 2).val
  let c1_i32_183 : BitVec 32 := 1#32
  let v370 : BitVec 32 := Scalar.subi arg2 c1_i32_183
  let c0_i32_174 : BitVec 32 := 0#32
  let v360 : BitVec 32 := Scalar.subi arg2 c0_i32_174
  let c1_i32_176 : BitVec 32 := 1#32
  let v362 : BitVec 32 := Scalar.divsi v360 c1_i32_176
  let v363 : BitVec 32 := Scalar.muli v362 c1_i32_176
  let v364 : BitVec 32 := Scalar.addi c0_i32_174 v363
  let c1_i32_178 : BitVec 32 := 1#32
  let arg12 : BitVec 32 := Scf.iv v364 c1_i32_178 k0_t2
  let v371 : BitVec 32 := Scalar.subi v370 arg12
  let c256_i32_184 : BitVec 32 := 256#32
  let v372 : BitVec 32 := Scalar.muli v371 c256_i32_184
  let v373 : BitVec 32 := v372
  let v408 : Index := Scalar.indexCast v373
  let c384_208 : Index := 384#32
  ![v408.toNat, 384]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![c0_i32.toNat, v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((11863283 / 134217728) * (Real.log 2)⁻¹ : ℝ) : EReal)
  | _ => none
-- ==== ReferenceIdeal.lean ====
abbrev S2x16 : Shape := ⟨2, ![2, 16]⟩
abbrev S3x8192x2048 : Shape := ⟨3, ![3, 8192, 2048]⟩
abbrev S8192x2048 : Shape := ⟨2, ![8192, 2048]⟩
abbrev S2x128 : Shape := ⟨2, ![2, 128]⟩
abbrev S1x8192x2048 : Shape := ⟨3, ![1, 8192, 2048]⟩
abbrev S4x2048x16x128 : Shape := ⟨4, ![4, 2048, 16, 128]⟩
abbrev S1x128 : Shape := ⟨2, ![1, 128]⟩
abbrev S128 : Shape := ⟨1, ![128]⟩
abbrev S_ : Shape := ⟨0, ![]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩
abbrev S4x16x2048x2048 : Shape := ⟨4, ![4, 16, 2048, 2048]⟩
abbrev S1x16 : Shape := ⟨2, ![1, 16]⟩
abbrev S16 : Shape := ⟨1, ![16]⟩
abbrev S1x16x1x1 : Shape := ⟨4, ![1, 16, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩

abbrev nBuf : Space → Nat
  | .hbm => 97
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S3x8192x2048, .f32⟩
  | .hbm, ⟨2, _⟩ => ⟨S8192x2048, .bf16⟩
  | .hbm, ⟨3, _⟩ => ⟨S8192x2048, .bf16⟩
  | .hbm, ⟨4, _⟩ => ⟨S2x128, .f32⟩
  | .hbm, ⟨5, _⟩ => ⟨S1x8192x2048, .f32⟩
  | .hbm, ⟨6, _⟩ => ⟨S8192x2048, .f32⟩
  | .hbm, ⟨7, _⟩ => ⟨S4x2048x16x128, .f32⟩
  | .hbm, ⟨8, _⟩ => ⟨S1x128, .f32⟩
  | .hbm, ⟨9, _⟩ => ⟨S128, .f32⟩
  | .hbm, ⟨10, _⟩ => ⟨S4x2048x16x128, .f32⟩
  | .hbm, ⟨11, _⟩ => ⟨S_, .f32⟩
  | .hbm, ⟨12, _⟩ => ⟨S4x2048x16, .f32⟩
  | .hbm, ⟨13, _⟩ => ⟨S4x2048x16x1, .f32⟩
  | .hbm, ⟨14, _⟩ => ⟨S_, .f32⟩
  | .hbm, ⟨15, _⟩ => ⟨S4x2048x16x1, .f32⟩
  | .hbm, ⟨16, _⟩ => ⟨S4x2048x16x1, .f32⟩
  | .hbm, ⟨17, _⟩ => ⟨S_, .f32⟩
  | .hbm, ⟨18, _⟩ => ⟨S4x2048x16x1, .f32⟩
  | .hbm, ⟨19, _⟩ => ⟨S4x2048x16x1, .f32⟩
  | .hbm, ⟨20, _⟩ => ⟨S4x2048x16x1, .f32⟩
  | .hbm, ⟨21, _⟩ => ⟨S4x2048x16x128, .f32⟩
  | .hbm, ⟨22, _⟩ => ⟨S4x2048x16x128, .f32⟩
  | .hbm, ⟨23, _⟩ => ⟨S1x1x1x128, .f32⟩
  | .hbm, ⟨24, _⟩ => ⟨S4x2048x16x128, .f32⟩
  | .hbm, ⟨25, _⟩ => ⟨S4x2048x16x128, .f32⟩
  | .hbm, ⟨26, _⟩ => ⟨S8192x2048, .f32⟩
  | .hbm, ⟨27, _⟩ => ⟨S4x2048x16x128, .f32⟩
  | .hbm, ⟨28, _⟩ => ⟨S8192x2048, .f32⟩
  | .hbm, ⟨29, _⟩ => ⟨S4x2048x16x128, .f32⟩
  | .hbm, ⟨30, _⟩ => ⟨S4x16x2048x2048, .f32⟩
  | .hbm, ⟨31, _⟩ => ⟨S_, .f32⟩
  | .hbm, ⟨32, _⟩ => ⟨S4x16x2048x2048, .f32⟩
  | .hbm, ⟨33, _⟩ => ⟨S4x16x2048x2048, .f32⟩
  | .hbm, ⟨34, _⟩ => ⟨S1x16, .f32⟩
  | .hbm, ⟨35, _⟩ => ⟨S16, .f32⟩
  | .hbm, ⟨36, _⟩ => ⟨S1x16x1x1, .f32⟩
  | .hbm, ⟨37, _⟩ => ⟨S4x16x2048x2048, .f32⟩
  | .hbm, ⟨38, _⟩ => ⟨S4x16x2048x2048, .f32⟩
  | .hbm, ⟨39, _⟩ => ⟨S2048, .i32⟩
  | .hbm, ⟨40, _⟩ => ⟨S1x2048, .i32⟩
  | .hbm, ⟨41, _⟩ => ⟨S2048, .i32⟩
  | .hbm, ⟨42, _⟩ => ⟨S2048x1, .i32⟩
  | .hbm, ⟨43, _⟩ => ⟨S2048x2048, .i32⟩
  | .hbm, ⟨44, _⟩ => ⟨S2048x2048, .i32⟩
  | .hbm, ⟨45, _⟩ => ⟨S2048x2048, .i1⟩
  | .hbm, ⟨46, _⟩ => ⟨S_, .f32⟩
  | .hbm, ⟨47, _⟩ => ⟨S4x16x2048x2048, .f32⟩
  | .hbm, ⟨48, _⟩ => ⟨S4x16x2048x2048, .f32⟩
  | .hbm, ⟨49, _⟩ => ⟨S4x16x2048x2048, .f32⟩
  | .hbm, ⟨50, _⟩ => ⟨S4x16x2048x2048, .f32⟩
  | .hbm, ⟨51, _⟩ => ⟨S4x16x2048x2048, .i1⟩
  | .hbm, ⟨52, _⟩ => ⟨S4x16x2048x2048, .f32⟩
  | .hbm, ⟨53, _⟩ => ⟨S4x16x2048x2048, .f32⟩
  | .hbm, ⟨54, _⟩ => ⟨S4x16x2048x2048, .f32⟩
  | .hbm, ⟨55, _⟩ => ⟨S4x16x2048x2048, .f32⟩
  | .hbm, ⟨56, _⟩ => ⟨S4x16x2048x2048, .f32⟩
  | .hbm, ⟨57, _⟩ => ⟨S4x16x2048x2048, .f32⟩
  | .hbm, ⟨58, _⟩ => ⟨S4x16x2048x2048, .f32⟩
  | .hbm, ⟨59, _⟩ => ⟨S4x16x2048x2048, .f32⟩
  | .hbm, ⟨60, _⟩ => ⟨S4x16x2048x2048, .f32⟩
  | .hbm, ⟨61, _⟩ => ⟨S_, .f32⟩
  | .hbm, ⟨62, _⟩ => ⟨S_, .f32⟩
  | .hbm, ⟨63, _⟩ => ⟨S4x16x2048x2048, .i1⟩
  | .hbm, ⟨64, _⟩ => ⟨S4x16x2048x2048, .f32⟩
  | .hbm, ⟨65, _⟩ => ⟨S4x16x2048x2048, .f32⟩
  | .hbm, ⟨66, _⟩ => ⟨S_, .f32⟩
  | .hbm, ⟨67, _⟩ => ⟨S_, .f32⟩
  | .hbm, ⟨68, _⟩ => ⟨S4x16x2048x2048, .f32⟩
  | .hbm, ⟨69, _⟩ => ⟨S4x16x2048x2048, .f32⟩
  | .hbm, ⟨70, _⟩ => ⟨S4x16x2048x2048, .f32⟩
  | .hbm, ⟨71, _⟩ => ⟨S_, .f32⟩
  | .hbm, ⟨72, _⟩ => ⟨S4x16x2048x2048, .f32⟩
  | .hbm, ⟨73, _⟩ => ⟨S4x16x2048x2048, .f32⟩
  | .hbm, ⟨74, _⟩ => ⟨S4x16x2048x2048, .f32⟩
  | .hbm, ⟨75, _⟩ => ⟨S4x16x2048x2048, .f32⟩
  | .hbm, ⟨76, _⟩ => ⟨S4x16x2048x2048, .i1⟩
  | .hbm, ⟨77, _⟩ => ⟨S4x16x2048x2048, .f32⟩
  | .hbm, ⟨78, _⟩ => ⟨S4x16x2048x2048, .f32⟩
  | .hbm, ⟨79, _⟩ => ⟨S4x16x2048x2048, .f32⟩
  | .hbm, ⟨80, _⟩ => ⟨S4x16x2048x2048, .f32⟩
  | .hbm, ⟨81, _⟩ => ⟨S4x16x2048x2048, .f32⟩
  | .hbm, ⟨82, _⟩ => ⟨S4x16x2048x2048, .f32⟩
  | .hbm, ⟨83, _⟩ => ⟨S4x16x2048x2048, .f32⟩
  | .hbm, ⟨84, _⟩ => ⟨S4x16x2048x2048, .f32⟩
  | .hbm, ⟨85, _⟩ => ⟨S4x16x2048x2048, .f32⟩
  | .hbm, ⟨86, _⟩ => ⟨S4x16x2048x2048, .f32⟩
  | .hbm, ⟨87, _⟩ => ⟨S4x16x2048x2048, .f32⟩
  | .hbm, ⟨88, _⟩ => ⟨S_, .f32⟩
  | .hbm, ⟨89, _⟩ => ⟨S_, .f32⟩
  | .hbm, ⟨90, _⟩ => ⟨S4x16x2048x2048, .i1⟩
  | .hbm, ⟨91, _⟩ => ⟨S4x16x2048x2048, .f32⟩
  | .hbm, ⟨92, _⟩ => ⟨S4x16x2048x2048, .f32⟩
  | .hbm, ⟨93, _⟩ => ⟨S4x16x128x2048, .f32⟩
  | .hbm, ⟨94, _⟩ => ⟨S4x2048x16x128, .f32⟩
  | .hbm, ⟨95, _⟩ => ⟨S8192x2048, .f32⟩
  | .hbm, ⟨96, _⟩ => ⟨S8192x2048, .bf16⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_call3_v0 : Ref sig .tc := ⟨.hbm, 70, rfl⟩
abbrev main_call3_call0_cst : Ref sig .tc := ⟨.hbm, 71, rfl⟩
abbrev main_call3_call0_v0 : Ref sig .tc := ⟨.hbm, 72, rfl⟩
abbrev main_call3_call0_v1 : Ref sig .tc := ⟨.hbm, 73, rfl⟩
abbrev main_call3_call0_v2 : Ref sig .tc := ⟨.hbm, 74, rfl⟩
abbrev main_call3_call0_v3 : Ref sig .tc := ⟨.hbm, 75, rfl⟩
abbrev main_call3_call0_v4 : Ref sig .tc := ⟨.hbm, 76, rfl⟩
abbrev main_call3_call0_v5 : Ref sig .tc := ⟨.hbm, 77, rfl⟩
abbrev main_call3_call0_v6 : Ref sig .tc := ⟨.hbm, 78, rfl⟩
abbrev main_call3_call0_v7 : Ref sig .tc := ⟨.hbm, 79, rfl⟩
abbrev main_call3_call0_v8 : Ref sig .tc := ⟨.hbm, 80, rfl⟩
abbrev main_call3_call0_v9 : Ref sig .tc := ⟨.hbm, 81, rfl⟩
abbrev main_call3_call0_v10 : Ref sig .tc := ⟨.hbm, 82, rfl⟩
abbrev main_call3_call0_v11 : Ref sig .tc := ⟨.hbm, 83, rfl⟩
abbrev main_call3_v1 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_4 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩

abbrev nD : Nat := 1
abbrev τ : Topo := Topo.v7x

variable {F : FTy → Type} [FloatOps F]
-- ==== Kernel2.lean ====
abbrev S8192x2048 : Shape := ⟨2, ![8192, 2048]⟩
abbrev S32x2048 : Shape := ⟨2, ![32, 2048]⟩
abbrev S4x2048x11264 : Shape := ⟨3, ![4, 2048, 11264]⟩
abbrev S4x3x5632 : Shape := ⟨3, ![4, 3, 5632]⟩
abbrev S4x5632 : Shape := ⟨2, ![4, 5632]⟩
abbrev S4x1x5632 : Shape := ⟨3, ![4, 1, 5632]⟩
abbrev S8192x5632 : Shape := ⟨2, ![8192, 5632]⟩
abbrev S4x2x5632 : Shape := ⟨3, ![4, 2, 5632]⟩
abbrev S32x5632 : Shape := ⟨2, ![32, 5632]⟩
abbrev S1024x2048 : Shape := ⟨2, ![1024, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1024x512 : Shape := ⟨2, ![1024, 512]⟩
abbrev S1x2x512 : Shape := ⟨3, ![1, 2, 512]⟩
abbrev S32x512 : Shape := ⟨2, ![32, 512]⟩
abbrev S2048x512 : Shape := ⟨2, ![2048, 512]⟩
abbrev S2x512 : Shape := ⟨2, ![2, 512]⟩
abbrev S8x512 : Shape := ⟨2, ![8, 512]⟩
abbrev S128x2048 : Shape := ⟨2, ![128, 2048]⟩
abbrev S128x512 : Shape := ⟨2, ![128, 512]⟩
abbrev S1x512 : Shape := ⟨2, ![1, 512]⟩
abbrev S120x512 : Shape := ⟨2, ![120, 512]⟩

abbrev nBuf : Space → Nat
  | .hbm => 10
  | .vmem => 22
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S4x2048x11264, .f32⟩
  | .hbm, ⟨3, _⟩ => ⟨S4x3x5632, .f32⟩
  | .hbm, ⟨4, _⟩ => ⟨S4x5632, .f32⟩
  | .hbm, ⟨5, _⟩ => ⟨S4x1x5632, .f32⟩
  | .hbm, ⟨6, _⟩ => ⟨S8192x5632, .bf16⟩
  | .hbm, ⟨7, _⟩ => ⟨S4x2x5632, .f32⟩
  | .hbm, ⟨8, _⟩ => ⟨S32x5632, .f32⟩
  | .hbm, ⟨9, _⟩ => ⟨S32x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S32x2048, .bf16⟩
  | .local _ .vmem, ⟨7, _⟩ => ⟨S1x3x512, .f32⟩
  | .local _ .vmem, ⟨8, _⟩ => ⟨S1x3x512, .f32⟩
  | .local _ .vmem, ⟨9, _⟩ => ⟨S1x1x512, .f32⟩
  | .local _ .vmem, ⟨10, _⟩ => ⟨S1x1x512, .f32⟩
  | .local _ .vmem, ⟨11, _⟩ => ⟨S1024x512, .bf16⟩
  | .local _ .vmem, ⟨12, _⟩ => ⟨S1024x512, .bf16⟩
  | .local _ .vmem, ⟨13, _⟩ => ⟨S1x2x512, .f32⟩
  | .local _ .vmem, ⟨14, _⟩ => ⟨S1x2x512, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | .local _ .vmem, ⟨18, _⟩ => ⟨S32x512, .f32⟩
  | .local _ .vmem, ⟨19, _⟩ => ⟨S2048x512, .bf16⟩
  | .local _ .vmem, ⟨20, _⟩ => ⟨S2048x512, .bf16⟩
  | .local _ .vmem, ⟨21, _⟩ => ⟨S2x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S8192x2048 : Shape := ⟨2, ![8192, 2048]⟩
abbrev S32x2048 : Shape := ⟨2, ![32, 2048]⟩
abbrev S4x2048x11264 : Shape := ⟨3, ![4, 2048, 11264]⟩
abbrev S4x3x5632 : Shape := ⟨3, ![4, 3, 5632]⟩
abbrev S4x5632 : Shape := ⟨2, ![4, 5632]⟩
abbrev S4x2048x2048 : Shape := ⟨3, ![4, 2048, 2048]⟩
abbrev S1x2048x11264 : Shape := ⟨3, ![1, 2048, 11264]⟩
abbrev S2048x11264 : Shape := ⟨2, ![2048, 11264]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S8192x5632 : Shape := ⟨2, ![8192, 5632]⟩
abbrev S32x11264 : Shape := ⟨2, ![32, 11264]⟩
abbrev S32x5632 : Shape := ⟨2, ![32, 5632]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S4x2048x11264, .f32⟩
  | .hbm, ⟨3, _⟩ => ⟨S4x3x5632, .f32⟩
  | .hbm, ⟨4, _⟩ => ⟨S4x5632, .f32⟩
  | .hbm, ⟨5, _⟩ => ⟨S8192x2048, .f32⟩
  | .hbm, ⟨6, _⟩ => ⟨S4x2048x2048, .f32⟩
  | .hbm, ⟨7, _⟩ => ⟨S1x2048x11264, .f32⟩
  | .hbm, ⟨8, _⟩ => ⟨S2048x11264, .f32⟩
  | .hbm, ⟨9, _⟩ => ⟨S4x2048x11264, .f32⟩
  | .hbm, ⟨10, _⟩ => ⟨S4x2048x5632, .f32⟩
  | .hbm, ⟨11, _⟩ => ⟨S4x2048x5632, .f32⟩
  | .hbm, ⟨12, _⟩ => ⟨S_, .f32⟩
  | .hbm, ⟨13, _⟩ => ⟨S4x2x5632, .f32⟩
  | .hbm, ⟨14, _⟩ => ⟨S4x2050x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S5632, .f32⟩
  | .hbm, ⟨19, _⟩ => ⟨S4x2048x5632, .f32⟩
  | .hbm, ⟨20, _⟩ => ⟨S1x1x5632, .f32⟩
  | .hbm, ⟨21, _⟩ => ⟨S4x2048x5632, .f32⟩
  | .hbm, ⟨22, _⟩ => ⟨S4x2048x5632, .f32⟩
  | .hbm, ⟨23, _⟩ => ⟨S1x1x5632, .f32⟩
  | .hbm, ⟨24, _⟩ => ⟨S4x2048x5632, .f32⟩
  | .hbm, ⟨25, _⟩ => ⟨S4x2048x5632, .f32⟩
  | .hbm, ⟨26, _⟩ => ⟨S1x1x5632, .f32⟩
  | .hbm, ⟨27, _⟩ => ⟨S5632, .f32⟩
  | .hbm, ⟨28, _⟩ => ⟨S4x2048x5632, .f32⟩
  | .hbm, ⟨29, _⟩ => ⟨S1x1x5632, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S1x1x5632, .f32⟩
  | .hbm, ⟨34, _⟩ => ⟨S5632, .f32⟩
  | .hbm, ⟨35, _⟩ => ⟨S4x2048x5632, .f32⟩
  | .hbm, ⟨36, _⟩ => ⟨S1x1x5632, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x5632, .f32⟩
  | .hbm, ⟨42, _⟩ => ⟨S_, .f32⟩
  | .hbm, ⟨43, _⟩ => ⟨S4x2048x5632, .f32⟩
  | .hbm, ⟨44, _⟩ => ⟨S4x2048x5632, .f32⟩
  | .hbm, ⟨45, _⟩ => ⟨S_, .f32⟩
  | .hbm, ⟨46, _⟩ => ⟨S4x2048x5632, .f32⟩
  | .hbm, ⟨47, _⟩ => ⟨S4x2048x5632, .f32⟩
  | .hbm, ⟨48, _⟩ => ⟨S4x2048x5632, .f32⟩
  | .hbm, ⟨49, _⟩ => ⟨S4x2048x5632, .f32⟩
  | .hbm, ⟨50, _⟩ => ⟨S8192x5632, .f32⟩
  | .hbm, ⟨51, _⟩ => ⟨S8192x5632, .bf16⟩
  | .hbm, ⟨52, _⟩ => ⟨S32x2048, .f32⟩
  | .hbm, ⟨53, _⟩ => ⟨S1x2048x11264, .f32⟩
  | .hbm, ⟨54, _⟩ => ⟨S2048x11264, .f32⟩
  | .hbm, ⟨55, _⟩ => ⟨S32x11264, .f32⟩
  | .hbm, ⟨56, _⟩ => ⟨S32x5632, .f32⟩
  | .hbm, ⟨57, _⟩ => ⟨S32x5632, .f32⟩
  | .hbm, ⟨58, _⟩ => ⟨S4x2x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel3.lean ====
abbrev S8192x5632 : Shape := ⟨2, ![8192, 5632]⟩
abbrev S32x5632 : Shape := ⟨2, ![32, 5632]⟩
abbrev S4x5632x2048 : Shape := ⟨3, ![4, 5632, 2048]⟩
abbrev S8192x2048 : Shape := ⟨2, ![8192, 2048]⟩
abbrev S32x2048 : Shape := ⟨2, ![32, 2048]⟩
abbrev S1x8192x2048 : Shape := ⟨3, ![1, 8192, 2048]⟩
abbrev S1x32x2048 : Shape := ⟨3, ![1, 32, 2048]⟩
abbrev S512x5632 : Shape := ⟨2, ![512, 5632]⟩
abbrev S1x5632x512 : Shape := ⟨3, ![1, 5632, 512]⟩
abbrev S512x512 : Shape := ⟨2, ![512, 512]⟩
abbrev S32x512 : Shape := ⟨2, ![32, 512]⟩
abbrev S1x512x512 : Shape := ⟨3, ![1, 512, 512]⟩
abbrev S1x32x512 : Shape := ⟨3, ![1, 32, 512]⟩
abbrev S5632x512 : Shape := ⟨2, ![5632, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S32x5632, .f32⟩
  | .hbm, ⟨2, _⟩ => ⟨S4x5632x2048, .f32⟩
  | .hbm, ⟨3, _⟩ => ⟨S8192x2048, .f32⟩
  | .hbm, ⟨4, _⟩ => ⟨S32x2048, .f32⟩
  | .hbm, ⟨5, _⟩ => ⟨S1x8192x2048, .f32⟩
  | .hbm, ⟨6, _⟩ => ⟨S1x32x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S32x5632, .f32⟩
  | .local _ .vmem, ⟨7, _⟩ => ⟨S32x512, .f32⟩
  | .local _ .vmem, ⟨8, _⟩ => ⟨S32x512, .f32⟩
  | .local _ .vmem, ⟨9, _⟩ => ⟨S1x512x512, .f32⟩
  | .local _ .vmem, ⟨10, _⟩ => ⟨S1x512x512, .f32⟩
  | .local _ .vmem, ⟨11, _⟩ => ⟨S1x32x512, .f32⟩
  | .local _ .vmem, ⟨12, _⟩ => ⟨S1x32x512, .f32⟩
  | .local _ .vmem, ⟨13, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S8192x5632 : Shape := ⟨2, ![8192, 5632]⟩
abbrev S32x5632 : Shape := ⟨2, ![32, 5632]⟩
abbrev S4x5632x2048 : Shape := ⟨3, ![4, 5632, 2048]⟩
abbrev S8192x2048 : Shape := ⟨2, ![8192, 2048]⟩
abbrev S32x2048 : Shape := ⟨2, ![32, 2048]⟩
abbrev S1x5632x2048 : Shape := ⟨3, ![1, 5632, 2048]⟩
abbrev S5632x2048 : Shape := ⟨2, ![5632, 2048]⟩
abbrev S1x8192x2048 : Shape := ⟨3, ![1, 8192, 2048]⟩
abbrev S1x32x2048 : Shape := ⟨3, ![1, 32, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S32x5632, .f32⟩
  | .hbm, ⟨2, _⟩ => ⟨S4x5632x2048, .f32⟩
  | .hbm, ⟨3, _⟩ => ⟨S8192x2048, .f32⟩
  | .hbm, ⟨4, _⟩ => ⟨S32x2048, .f32⟩
  | .hbm, ⟨5, _⟩ => ⟨S8192x5632, .f32⟩
  | .hbm, ⟨6, _⟩ => ⟨S1x5632x2048, .f32⟩
  | .hbm, ⟨7, _⟩ => ⟨S5632x2048, .f32⟩
  | .hbm, ⟨8, _⟩ => ⟨S8192x2048, .f32⟩
  | .hbm, ⟨9, _⟩ => ⟨S8192x2048, .f32⟩
  | .hbm, ⟨10, _⟩ => ⟨S1x5632x2048, .f32⟩
  | .hbm, ⟨11, _⟩ => ⟨S5632x2048, .f32⟩
  | .hbm, ⟨12, _⟩ => ⟨S32x2048, .f32⟩
  | .hbm, ⟨13, _⟩ => ⟨S32x2048, .f32⟩
  | .hbm, ⟨14, _⟩ => ⟨S1x8192x2048, .f32⟩
  | .hbm, ⟨15, _⟩ => ⟨S1x32x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S8192x2048 : Shape := ⟨2, ![8192, 2048]⟩
abbrev S32x2048 : Shape := ⟨2, ![32, 2048]⟩
abbrev S2x2048x8192 : Shape := ⟨3, ![2, 2048, 8192]⟩
abbrev S1x8192x8192 : Shape := ⟨3, ![1, 8192, 8192]⟩
abbrev S1x32x8192 : Shape := ⟨3, ![1, 32, 8192]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S1x32x1024 : Shape := ⟨3, ![1, 32, 1024]⟩
abbrev S2048x1024 : Shape := ⟨2, ![2048, 1024]⟩
abbrev S32x1024 : Shape := ⟨2, ![32, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S2x2048x8192, .f32⟩
  | .hbm, ⟨3, _⟩ => ⟨S1x8192x8192, .f32⟩
  | .hbm, ⟨4, _⟩ => ⟨S1x32x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S32x2048, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x32x1024, .f32⟩
  | .local _ .vmem, ⟨8, _⟩ => ⟨S1x32x1024, .f32⟩
  | .local _ .vmem, ⟨9, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8192x2048 : Shape := ⟨2, ![8192, 2048]⟩
abbrev S32x2048 : Shape := ⟨2, ![32, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S32x8192 : Shape := ⟨2, ![32, 8192]⟩
abbrev S1x8192x8192 : Shape := ⟨3, ![1, 8192, 8192]⟩
abbrev S1x32x8192 : Shape := ⟨3, ![1, 32, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S2x2048x8192, .f32⟩
  | .hbm, ⟨3, _⟩ => ⟨S8192x2048, .f32⟩
  | .hbm, ⟨4, _⟩ => ⟨S1x2048x8192, .f32⟩
  | .hbm, ⟨5, _⟩ => ⟨S2048x8192, .f32⟩
  | .hbm, ⟨6, _⟩ => ⟨S8192x8192, .f32⟩
  | .hbm, ⟨7, _⟩ => ⟨S32x2048, .f32⟩
  | .hbm, ⟨8, _⟩ => ⟨S1x2048x8192, .f32⟩
  | .hbm, ⟨9, _⟩ => ⟨S2048x8192, .f32⟩
  | .hbm, ⟨10, _⟩ => ⟨S32x8192, .f32⟩
  | .hbm, ⟨11, _⟩ => ⟨S1x8192x8192, .f32⟩
  | .hbm, ⟨12, _⟩ => ⟨S1x32x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S8192x2048 : Shape := ⟨2, ![8192, 2048]⟩
abbrev S32x2048 : Shape := ⟨2, ![32, 2048]⟩
abbrev S2x2048x6144 : Shape := ⟨3, ![2, 2048, 6144]⟩
abbrev S3x8192x2048 : Shape := ⟨3, ![3, 8192, 2048]⟩
abbrev S3x32x2048 : Shape := ⟨3, ![3, 32, 2048]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S1x32x1024 : Shape := ⟨3, ![1, 32, 1024]⟩
abbrev S2048x1024 : Shape := ⟨2, ![2048, 1024]⟩
abbrev S32x1024 : Shape := ⟨2, ![32, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S2x2048x6144, .f32⟩
  | .hbm, ⟨3, _⟩ => ⟨S3x8192x2048, .f32⟩
  | .hbm, ⟨4, _⟩ => ⟨S3x32x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S32x2048, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x32x1024, .f32⟩
  | .local _ .vmem, ⟨8, _⟩ => ⟨S1x32x1024, .f32⟩
  | .local _ .vmem, ⟨9, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S8192x2048 : Shape := ⟨2, ![8192, 2048]⟩
abbrev S32x2048 : Shape := ⟨2, ![32, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8192x6144 : Shape := ⟨2, ![8192, 6144]⟩
abbrev S32x6144 : Shape := ⟨2, ![32, 6144]⟩
abbrev S1x8192x2048 : Shape := ⟨3, ![1, 8192, 2048]⟩
abbrev S3x8192x2048 : Shape := ⟨3, ![3, 8192, 2048]⟩
abbrev S1x32x2048 : Shape := ⟨3, ![1, 32, 2048]⟩
abbrev S3x32x2048 : Shape := ⟨3, ![3, 32, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S2x2048x6144, .f32⟩
  | .hbm, ⟨3, _⟩ => ⟨S8192x2048, .f32⟩
  | .hbm, ⟨4, _⟩ => ⟨S1x2048x6144, .f32⟩
  | .hbm, ⟨5, _⟩ => ⟨S2048x6144, .f32⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S32x2048, .f32⟩
  | .hbm, ⟨11, _⟩ => ⟨S1x2048x6144, .f32⟩
  | .hbm, ⟨12, _⟩ => ⟨S2048x6144, .f32⟩
  | .hbm, ⟨13, _⟩ => ⟨S32x6144, .f32⟩
  | .hbm, ⟨14, _⟩ => ⟨S32x2048, .f32⟩
  | .hbm, ⟨15, _⟩ => ⟨S32x2048, .f32⟩
  | .hbm, ⟨16, _⟩ => ⟨S32x2048, .f32⟩
  | .hbm, ⟨17, _⟩ => ⟨S1x8192x2048, .f32⟩
  | .hbm, ⟨18, _⟩ => ⟨S1x8192x2048, .f32⟩
  | .hbm, ⟨19, _⟩ => ⟨S1x8192x2048, .f32⟩
  | .hbm, ⟨20, _⟩ => ⟨S3x8192x2048, .f32⟩
  | .hbm, ⟨21, _⟩ => ⟨S1x32x2048, .f32⟩
  | .hbm, ⟨22, _⟩ => ⟨S1x32x2048, .f32⟩
  | .hbm, ⟨23, _⟩ => ⟨S1x32x2048, .f32⟩
  | .hbm, ⟨24, _⟩ => ⟨S3x32x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Kernel6.lean ====
abbrev S8192x2048 : Shape := ⟨2, ![8192, 2048]⟩
abbrev S32x2048 : Shape := ⟨2, ![32, 2048]⟩
abbrev S2x2048x2048 : Shape := ⟨3, ![2, 2048, 2048]⟩
abbrev S1x8192x2048 : Shape := ⟨3, ![1, 8192, 2048]⟩
abbrev S1x32x2048 : Shape := ⟨3, ![1, 32, 2048]⟩
abbrev S1024x2048 : Shape := ⟨2, ![1024, 2048]⟩
abbrev S1x2048x1024 : Shape := ⟨3, ![1, 2048, 1024]⟩
abbrev S1024x1024 : Shape := ⟨2, ![1024, 1024]⟩
abbrev S32x1024 : Shape := ⟨2, ![32, 1024]⟩
abbrev S1x1024x1024 : Shape := ⟨3, ![1, 1024, 1024]⟩
abbrev S1x32x1024 : Shape := ⟨3, ![1, 32, 1024]⟩
abbrev S2048x1024 : Shape := ⟨2, ![2048, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S32x2048, .f32⟩
  | .hbm, ⟨2, _⟩ => ⟨S2x2048x2048, .f32⟩
  | .hbm, ⟨3, _⟩ => ⟨S8192x2048, .f32⟩
  | .hbm, ⟨4, _⟩ => ⟨S32x2048, .f32⟩
  | .hbm, ⟨5, _⟩ => ⟨S1x8192x2048, .f32⟩
  | .hbm, ⟨6, _⟩ => ⟨S1x32x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S32x2048, .f32⟩
  | .local _ .vmem, ⟨7, _⟩ => ⟨S32x1024, .f32⟩
  | .local _ .vmem, ⟨8, _⟩ => ⟨S32x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x32x1024, .f32⟩
  | .local _ .vmem, ⟨12, _⟩ => ⟨S1x32x1024, .f32⟩
  | .local _ .vmem, ⟨13, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S8192x2048 : Shape := ⟨2, ![8192, 2048]⟩
abbrev S32x2048 : Shape := ⟨2, ![32, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S1x8192x2048 : Shape := ⟨3, ![1, 8192, 2048]⟩
abbrev S1x32x2048 : Shape := ⟨3, ![1, 32, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .f32⟩
  | .hbm, ⟨2, _⟩ => ⟨S2x2048x2048, .f32⟩
  | .hbm, ⟨3, _⟩ => ⟨S8192x2048, .f32⟩
  | .hbm, ⟨4, _⟩ => ⟨S32x2048, .f32⟩
  | .hbm, ⟨5, _⟩ => ⟨S8192x2048, .f32⟩
  | .hbm, ⟨6, _⟩ => ⟨S1x2048x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S1x2048x2048, .f32⟩
  | .hbm, ⟨11, _⟩ => ⟨S2048x2048, .f32⟩
  | .hbm, ⟨12, _⟩ => ⟨S32x2048, .f32⟩
  | .hbm, ⟨13, _⟩ => ⟨S32x2048, .f32⟩
  | .hbm, ⟨14, _⟩ => ⟨S1x8192x2048, .f32⟩
  | .hbm, ⟨15, _⟩ => ⟨S1x32x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel7.lean ====
abbrev S32x5632 : Shape := ⟨2, ![32, 5632]⟩
abbrev S4x8x2x5632 : Shape := ⟨4, ![4, 8, 2, 5632]⟩
abbrev S4x3x5632 : Shape := ⟨3, ![4, 3, 5632]⟩
abbrev S4x5632 : Shape := ⟨2, ![4, 5632]⟩
abbrev S8x4x5632 : Shape := ⟨3, ![8, 4, 5632]⟩
abbrev S4x1x5632 : Shape := ⟨3, ![4, 1, 5632]⟩
abbrev S8x2x5632 : Shape := ⟨3, ![8, 2, 5632]⟩
abbrev S1x4x5632 : Shape := ⟨3, ![1, 4, 5632]⟩
abbrev S1x1x2x5632 : Shape := ⟨4, ![1, 1, 2, 5632]⟩
abbrev S1x3x5632 : Shape := ⟨3, ![1, 3, 5632]⟩
abbrev S1x1x5632 : Shape := ⟨3, ![1, 1, 5632]⟩
abbrev S1x2x5632 : Shape := ⟨3, ![1, 2, 5632]⟩
abbrev S12x5632 : Shape := ⟨2, ![12, 5632]⟩
abbrev S2x5632 : Shape := ⟨2, ![2, 5632]⟩
abbrev S1x5632 : Shape := ⟨2, ![1, 5632]⟩

abbrev nBuf : Space → Nat
  | .hbm => 10
  | .vmem => 13
  | .smem => 0
  | _ => 0

abbrev bufTy : (tb : Table) → Fin (tcTables nBuf tb) → BufTy
  | .hbm, ⟨0, _⟩ => ⟨S32x5632, .f32⟩
  | .hbm, ⟨1, _⟩ => ⟨S32x5632, .f32⟩
  | .hbm, ⟨2, _⟩ => ⟨S4x8x2x5632, .f32⟩
  | .hbm, ⟨3, _⟩ => ⟨S4x3x5632, .f32⟩
  | .hbm, ⟨4, _⟩ => ⟨S4x5632, .f32⟩
  | .hbm, ⟨5, _⟩ => ⟨S8x4x5632, .f32⟩
  | .hbm, ⟨6, _⟩ => ⟨S8x4x5632, .f32⟩
  | .hbm, ⟨7, _⟩ => ⟨S4x1x5632, .f32⟩
  | .hbm, ⟨8, _⟩ => ⟨S8x4x5632, .f32⟩
  | .hbm, ⟨9, _⟩ => ⟨S8x2x5632, .f32⟩
  | .local _ .vmem, ⟨0, _⟩ => ⟨S1x4x5632, .f32⟩
  | .local _ .vmem, ⟨1, _⟩ => ⟨S1x4x5632, .f32⟩
  | .local _ .vmem, ⟨2, _⟩ => ⟨S1x4x5632, .f32⟩
  | .local _ .vmem, ⟨3, _⟩ => ⟨S1x4x5632, .f32⟩
  | .local _ .vmem, ⟨4, _⟩ => ⟨S1x1x2x5632, .f32⟩
  | .local _ .vmem, ⟨5, _⟩ => ⟨S1x1x2x5632, .f32⟩
  | .local _ .vmem, ⟨6, _⟩ => ⟨S1x3x5632, .f32⟩
  | .local _ .vmem, ⟨7, _⟩ => ⟨S1x1x5632, .f32⟩
  | .local _ .vmem, ⟨8, _⟩ => ⟨S1x4x5632, .f32⟩
  | .local _ .vmem, ⟨9, _⟩ => ⟨S1x4x5632, .f32⟩
  | .local _ .vmem, ⟨10, _⟩ => ⟨S1x2x5632, .f32⟩
  | .local _ .vmem, ⟨11, _⟩ => ⟨S1x2x5632, .f32⟩
  | .local _ .vmem, ⟨12, _⟩ => ⟨S12x5632, .f32⟩
  | _, _ => ⟨S32x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S32x5632 : Shape := ⟨2, ![32, 5632]⟩
abbrev S4x8x2x5632 : Shape := ⟨4, ![4, 8, 2, 5632]⟩
abbrev S4x3x5632 : Shape := ⟨3, ![4, 3, 5632]⟩
abbrev S4x5632 : Shape := ⟨2, ![4, 5632]⟩
abbrev S1x8x2x5632 : Shape := ⟨4, ![1, 8, 2, 5632]⟩
abbrev S8x2x5632 : Shape := ⟨3, ![8, 2, 5632]⟩
abbrev S8x4x5632 : Shape := ⟨3, ![8, 4, 5632]⟩
abbrev S8x6x5632 : Shape := ⟨3, ![8, 6, 5632]⟩
abbrev S1x5632 : Shape := ⟨2, ![1, 5632]⟩
abbrev S5632 : Shape := ⟨1, ![5632]⟩
abbrev S1x1x5632 : Shape := ⟨3, ![1, 1, 5632]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S32x5632, .f32⟩
  | .hbm, ⟨1, _⟩ => ⟨S32x5632, .f32⟩
  | .hbm, ⟨2, _⟩ => ⟨S4x8x2x5632, .f32⟩
  | .hbm, ⟨3, _⟩ => ⟨S4x3x5632, .f32⟩
  | .hbm, ⟨4, _⟩ => ⟨S4x5632, .f32⟩
  | .hbm, ⟨5, _⟩ => ⟨S1x8x2x5632, .f32⟩
  | .hbm, ⟨6, _⟩ => ⟨S8x2x5632, .f32⟩
  | .hbm, ⟨7, _⟩ => ⟨S8x4x5632, .f32⟩
  | .hbm, ⟨8, _⟩ => ⟨S8x6x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S5632, .f32⟩
  | .hbm, ⟨13, _⟩ => ⟨S8x4x5632, .f32⟩
  | .hbm, ⟨14, _⟩ => ⟨S1x1x5632, .f32⟩
  | .hbm, ⟨15, _⟩ => ⟨S8x4x5632, .f32⟩
  | .hbm, ⟨16, _⟩ => ⟨S8x4x5632, .f32⟩
  | .hbm, ⟨17, _⟩ => ⟨S1x1x5632, .f32⟩
  | .hbm, ⟨18, _⟩ => ⟨S8x4x5632, .f32⟩
  | .hbm, ⟨19, _⟩ => ⟨S8x4x5632, .f32⟩
  | .hbm, ⟨20, _⟩ => ⟨S1x1x5632, .f32⟩
  | .hbm, ⟨21, _⟩ => ⟨S5632, .f32⟩
  | .hbm, ⟨22, _⟩ => ⟨S8x4x5632, .f32⟩
  | .hbm, ⟨23, _⟩ => ⟨S1x1x5632, .f32⟩
  | .hbm, ⟨24, _⟩ => ⟨S8x4x5632, .f32⟩
  | .hbm, ⟨25, _⟩ => ⟨S8x4x5632, .f32⟩
  | .hbm, ⟨26, _⟩ => ⟨S8x4x5632, .f32⟩
  | .hbm, ⟨27, _⟩ => ⟨S1x1x5632, .f32⟩
  | .hbm, ⟨28, _⟩ => ⟨S5632, .f32⟩
  | .hbm, ⟨29, _⟩ => ⟨S8x4x5632, .f32⟩
  | .hbm, ⟨30, _⟩ => ⟨S1x1x5632, .f32⟩
  | .hbm, ⟨31, _⟩ => ⟨S8x4x5632, .f32⟩
  | .hbm, ⟨32, _⟩ => ⟨S8x4x5632, .f32⟩
  | .hbm, ⟨33, _⟩ => ⟨S8x4x5632, .f32⟩
  | .hbm, ⟨34, _⟩ => ⟨S8x4x5632, .f32⟩
  | .hbm, ⟨35, _⟩ => ⟨S8x4x5632, .f32⟩
  | .hbm, ⟨36, _⟩ => ⟨S_, .f32⟩
  | .hbm, ⟨37, _⟩ => ⟨S8x4x5632, .f32⟩
  | .hbm, ⟨38, _⟩ => ⟨S8x4x5632, .f32⟩
  | .hbm, ⟨39, _⟩ => ⟨S_, .f32⟩
  | .hbm, ⟨40, _⟩ => ⟨S8x4x5632, .f32⟩
  | .hbm, ⟨41, _⟩ => ⟨S8x4x5632, .f32⟩
  | .hbm, ⟨42, _⟩ => ⟨S8x4x5632, .f32⟩
  | .hbm, ⟨43, _⟩ => ⟨S8x4x5632, .f32⟩
  | .hbm, ⟨44, _⟩ => ⟨S8x4x5632, .f32⟩
  | .hbm, ⟨45, _⟩ => ⟨S8x2x5632, .f32⟩
  | _, _ => ⟨S32x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel8.lean ====
abbrev S3x8192x2048 : Shape := ⟨3, ![3, 8192, 2048]⟩
abbrev S2x128 : Shape := ⟨2, ![2, 128]⟩
abbrev S2x131072x128 : Shape := ⟨3, ![2, 131072, 128]⟩
abbrev S2x1x128 : Shape := ⟨3, ![2, 1, 128]⟩
abbrev S8192x2048 : Shape := ⟨2, ![8192, 2048]⟩
abbrev S1x256x2048 : Shape := ⟨3, ![1, 256, 2048]⟩
abbrev S1x1x128 : Shape := ⟨3, ![1, 1, 128]⟩
abbrev S256x2048 : Shape := ⟨2, ![256, 2048]⟩
abbrev S1x4096x128 : Shape := ⟨3, ![1, 4096, 128]⟩
abbrev S1x128 : Shape := ⟨2, ![1, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S3x8192x2048, .f32⟩
  | .hbm, ⟨1, _⟩ => ⟨S2x128, .f32⟩
  | .hbm, ⟨2, _⟩ => ⟨S2x131072x128, .f32⟩
  | .hbm, ⟨3, _⟩ => ⟨S2x131072x128, .f32⟩
  | .hbm, ⟨4, _⟩ => ⟨S2x1x128, .f32⟩
  | .hbm, ⟨5, _⟩ => ⟨S8192x2048, .bf16⟩
  | .hbm, ⟨6, _⟩ => ⟨S8192x2048, .bf16⟩
  | .hbm, ⟨7, _⟩ => ⟨S2x131072x128, .f32⟩
  | .hbm, ⟨8, _⟩ => ⟨S2x131072x128, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x128, .f32⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | _, _ => ⟨S3x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S3x8192x2048 : Shape := ⟨3, ![3, 8192, 2048]⟩
abbrev S2x128 : Shape := ⟨2, ![2, 128]⟩
abbrev S2x131072x128 : Shape := ⟨3, ![2, 131072, 128]⟩
abbrev S1x8192x2048 : Shape := ⟨3, ![1, 8192, 2048]⟩
abbrev S8192x2048 : Shape := ⟨2, ![8192, 2048]⟩
abbrev S8192x16x128 : Shape := ⟨3, ![8192, 16, 128]⟩
abbrev S1x128 : Shape := ⟨2, ![1, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S1x131072x128 : Shape := ⟨3, ![1, 131072, 128]⟩
abbrev S131072x128 : Shape := ⟨2, ![131072, 128]⟩

abbrev nBuf : Space → Nat
  | .hbm => 42
  | .vmem => 0
  | .smem => 0
  | _ => 0

abbrev bufTy : (tb : Table) → Fin (tcTables nBuf tb) → BufTy
  | .hbm, ⟨0, _⟩ => ⟨S3x8192x2048, .f32⟩
  | .hbm, ⟨1, _⟩ => ⟨S2x128, .f32⟩
  | .hbm, ⟨2, _⟩ => ⟨S2x131072x128, .f32⟩
  | .hbm, ⟨3, _⟩ => ⟨S2x131072x128, .f32⟩
  | .hbm, ⟨4, _⟩ => ⟨S1x8192x2048, .f32⟩
  | .hbm, ⟨5, _⟩ => ⟨S8192x2048, .f32⟩
  | .hbm, ⟨6, _⟩ => ⟨S8192x16x128, .f32⟩
  | .hbm, ⟨7, _⟩ => ⟨S1x128, .f32⟩
  | .hbm, ⟨8, _⟩ => ⟨S128, .f32⟩
  | .hbm, ⟨9, _⟩ => ⟨S8192x16x128, .f32⟩
  | .hbm, ⟨10, _⟩ => ⟨S_, .f32⟩
  | .hbm, ⟨11, _⟩ => ⟨S8192x16, .f32⟩
  | .hbm, ⟨12, _⟩ => ⟨S8192x16x1, .f32⟩
  | .hbm, ⟨13, _⟩ => ⟨S_, .f32⟩
  | .hbm, ⟨14, _⟩ => ⟨S8192x16x1, .f32⟩
  | .hbm, ⟨15, _⟩ => ⟨S8192x16x1, .f32⟩
  | .hbm, ⟨16, _⟩ => ⟨S_, .f32⟩
  | .hbm, ⟨17, _⟩ => ⟨S8192x16x1, .f32⟩
  | .hbm, ⟨18, _⟩ => ⟨S8192x16x1, .f32⟩
  | .hbm, ⟨19, _⟩ => ⟨S8192x16x1, .f32⟩
  | .hbm, ⟨20, _⟩ => ⟨S8192x16x128, .f32⟩
  | .hbm, ⟨21, _⟩ => ⟨S8192x16x128, .f32⟩
  | .hbm, ⟨22, _⟩ => ⟨S1x1x128, .f32⟩
  | .hbm, ⟨23, _⟩ => ⟨S8192x16x128, .f32⟩
  | .hbm, ⟨24, _⟩ => ⟨S8192x16x128, .f32⟩
  | .hbm, ⟨25, _⟩ => ⟨S1x8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | .hbm, ⟨29, _⟩ => ⟨S8192x2048, .bf16⟩
  | .hbm, ⟨30, _⟩ => ⟨S1x131072x128, .f32⟩
  | .hbm, ⟨31, _⟩ => ⟨S131072x128, .f32⟩
  | .hbm, ⟨32, _⟩ => ⟨S131072x128, .f32⟩
  | .hbm, ⟨33, _⟩ => ⟨S1x131072x128, .f32⟩
  | .hbm, ⟨34, _⟩ => ⟨S1x131072x128, .f32⟩
  | .hbm, ⟨35, _⟩ => ⟨S2x131072x128, .f32⟩
  | .hbm, ⟨36, _⟩ => ⟨S1x131072x128, .f32⟩
  | .hbm, ⟨37, _⟩ => ⟨S131072x128, .f32⟩
  | .hbm, ⟨38, _⟩ => ⟨S131072x128, .f32⟩
  | .hbm, ⟨39, _⟩ => ⟨S1x131072x128, .f32⟩
  | .hbm, ⟨40, _⟩ => ⟨S1x131072x128, .f32⟩
  | .hbm, ⟨41, _⟩ => ⟨S2x131072x128, .f32⟩
  | _, _ => ⟨S3x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel9.lean ====
abbrev S3x32x2048 : Shape := ⟨3, ![3, 32, 2048]⟩
abbrev S2x128 : Shape := ⟨2, ![2, 128]⟩
abbrev S2x512x128 : Shape := ⟨3, ![2, 512, 128]⟩
abbrev S2x1x128 : Shape := ⟨3, ![2, 1, 128]⟩
abbrev S32x2048 : Shape := ⟨2, ![32, 2048]⟩
abbrev S1x32x2048 : Shape := ⟨3, ![1, 32, 2048]⟩
abbrev S1x1x128 : Shape := ⟨3, ![1, 1, 128]⟩
abbrev S1x512x128 : Shape := ⟨3, ![1, 512, 128]⟩
abbrev S1x128 : Shape := ⟨2, ![1, 128]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩

abbrev nBuf : Space → Nat
  | .hbm => 9
  | .vmem => 7
  | .smem => 0
  | _ => 0

abbrev bufTy : (tb : Table) → Fin (tcTables nBuf tb) → BufTy
  | .hbm, ⟨0, _⟩ => ⟨S3x32x2048, .f32⟩
  | .hbm, ⟨1, _⟩ => ⟨S2x128, .f32⟩
  | .hbm, ⟨2, _⟩ => ⟨S2x512x128, .f32⟩
  | .hbm, ⟨3, _⟩ => ⟨S2x512x128, .f32⟩
  | .hbm, ⟨4, _⟩ => ⟨S2x1x128, .f32⟩
  | .hbm, ⟨5, _⟩ => ⟨S32x2048, .bf16⟩
  | .hbm, ⟨6, _⟩ => ⟨S32x2048, .bf16⟩
  | .hbm, ⟨7, _⟩ => ⟨S2x512x128, .f32⟩
  | .hbm, ⟨8, _⟩ => ⟨S2x512x128, .f32⟩
  | .local _ .vmem, ⟨0, _⟩ => ⟨S1x32x2048, .f32⟩
  | .local _ .vmem, ⟨1, _⟩ => ⟨S1x32x2048, .f32⟩
  | .local _ .vmem, ⟨2, _⟩ => ⟨S1x1x128, .f32⟩
  | .local _ .vmem, ⟨3, _⟩ => ⟨S32x2048, .bf16⟩
  | .local _ .vmem, ⟨4, _⟩ => ⟨S32x2048, .bf16⟩
  | .local _ .vmem, ⟨5, _⟩ => ⟨S1x512x128, .f32⟩
  | .local _ .vmem, ⟨6, _⟩ => ⟨S1x512x128, .f32⟩
  | _, _ => ⟨S3x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S3x32x2048 : Shape := ⟨3, ![3, 32, 2048]⟩
abbrev S2x128 : Shape := ⟨2, ![2, 128]⟩
abbrev S2x512x128 : Shape := ⟨3, ![2, 512, 128]⟩
abbrev S1x32x2048 : Shape := ⟨3, ![1, 32, 2048]⟩
abbrev S32x2048 : Shape := ⟨2, ![32, 2048]⟩
abbrev S32x16x128 : Shape := ⟨3, ![32, 16, 128]⟩
abbrev S1x128 : Shape := ⟨2, ![1, 128]⟩
abbrev S128 : Shape := ⟨1, ![128]⟩
abbrev S_ : Shape := ⟨0, ![]⟩
abbrev S32x16 : Shape := ⟨2, ![32, 16]⟩
abbrev S32x16x1 : Shape := ⟨3, ![32, 16, 1]⟩
abbrev S1x1x128 : Shape := ⟨3, ![1, 1, 128]⟩
abbrev S1x512x128 : Shape := ⟨3, ![1, 512, 128]⟩
abbrev S512x128 : Shape := ⟨2, ![512, 128]⟩

abbrev nBuf : Space → Nat
  | .hbm => 42
  | .vmem => 0
  | .smem => 0
  | _ => 0

abbrev bufTy : (tb : Table) → Fin (tcTables nBuf tb) → BufTy
  | .hbm, ⟨0, _⟩ => ⟨S3x32x2048, .f32⟩
  | .hbm, ⟨1, _⟩ => ⟨S2x128, .f32⟩
  | .hbm, ⟨2, _⟩ => ⟨S2x512x128, .f32⟩
  | .hbm, ⟨3, _⟩ => ⟨S2x512x128, .f32⟩
  | .hbm, ⟨4, _⟩ => ⟨S1x32x2048, .f32⟩
  | .hbm, ⟨5, _⟩ => ⟨S32x2048, .f32⟩
  | .hbm, ⟨6, _⟩ => ⟨S32x16x128, .f32⟩
  | .hbm, ⟨7, _⟩ => ⟨S1x128, .f32⟩
  | .hbm, ⟨8, _⟩ => ⟨S128, .f32⟩
  | .hbm, ⟨9, _⟩ => ⟨S32x16x128, .f32⟩
  | .hbm, ⟨10, _⟩ => ⟨S_, .f32⟩
  | .hbm, ⟨11, _⟩ => ⟨S32x16, .f32⟩
  | .hbm, ⟨12, _⟩ => ⟨S32x16x1, .f32⟩
  | .hbm, ⟨13, _⟩ => ⟨S_, .f32⟩
  | .hbm, ⟨14, _⟩ => ⟨S32x16x1, .f32⟩
  | .hbm, ⟨15, _⟩ => ⟨S32x16x1, .f32⟩
  | .hbm, ⟨16, _⟩ => ⟨S_, .f32⟩
  | .hbm, ⟨17, _⟩ => ⟨S32x16x1, .f32⟩
  | .hbm, ⟨18, _⟩ => ⟨S32x16x1, .f32⟩
  | .hbm, ⟨19, _⟩ => ⟨S32x16x1, .f32⟩
  | .hbm, ⟨20, _⟩ => ⟨S32x16x128, .f32⟩
  | .hbm, ⟨21, _⟩ => ⟨S32x16x128, .f32⟩
  | .hbm, ⟨22, _⟩ => ⟨S1x1x128, .f32⟩
  | .hbm, ⟨23, _⟩ => ⟨S32x16x128, .f32⟩
  | .hbm, ⟨24, _⟩ => ⟨S32x16x128, .f32⟩
  | .hbm, ⟨25, _⟩ => ⟨S1x32x2048, .f32⟩
  | .hbm, ⟨26, _⟩ => ⟨S32x2048, .f32⟩
  | .hbm, ⟨27, _⟩ => ⟨S32x2048, .f32⟩
  | .hbm, ⟨28, _⟩ => ⟨S32x2048, .bf16⟩
  | .hbm, ⟨29, _⟩ => ⟨S32x2048, .bf16⟩
  | .hbm, ⟨30, _⟩ => ⟨S1x512x128, .f32⟩
  | .hbm, ⟨31, _⟩ => ⟨S512x128, .f32⟩
  | .hbm, ⟨32, _⟩ => ⟨S512x128, .f32⟩
  | .hbm, ⟨33, _⟩ => ⟨S1x512x128, .f32⟩
  | .hbm, ⟨34, _⟩ => ⟨S1x512x128, .f32⟩
  | .hbm, ⟨35, _⟩ => ⟨S2x512x128, .f32⟩
  | .hbm, ⟨36, _⟩ => ⟨S1x512x128, .f32⟩
  | .hbm, ⟨37, _⟩ => ⟨S512x128, .f32⟩
  | .hbm, ⟨38, _⟩ => ⟨S512x128, .f32⟩
  | .hbm, ⟨39, _⟩ => ⟨S1x512x128, .f32⟩
  | .hbm, ⟨40, _⟩ => ⟨S1x512x128, .f32⟩
  | .hbm, ⟨41, _⟩ => ⟨S2x512x128, .f32⟩
  | _, _ => ⟨S3x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Proof.Sb.Weights.lean ====
/- One attention weight, in natural units and in the kernel's units of log 2. -/
module

public import Idealize.ShloMosaic.PureOps.Ideal

@[expose] public section

noncomputable section

namespace Cert.Sb

open Idealize.ShloMosaic

/-- Multiplying by a positive real distributes over a sum, at the infinities too. -/
theorem add_mul_pos {c : ℝ} (hc : 0 < c) (x y : EReal) : (x + y) * (c : EReal) = x * (c : EReal) + y * (c : EReal) := by
  induction x with
  | bot => simp [EReal.bot_mul_coe_of_pos hc]
  | top =>
    induction y with
    | bot => simp [EReal.top_mul_coe_of_pos hc, EReal.bot_mul_coe_of_pos hc]
    | top => simp [EReal.top_mul_coe_of_pos hc]
    | coe y =>
      rw [EReal.top_add_coe, EReal.top_mul_coe_of_pos hc, ← EReal.coe_mul, EReal.top_add_coe]
  | coe x =>
    induction y with
    | bot => simp [EReal.bot_mul_coe_of_pos hc]
    | top => rw [EReal.coe_add_top, EReal.top_mul_coe_of_pos hc, ← EReal.coe_mul, EReal.coe_add_top]
    | coe y => norm_cast; ring

theorem sum_mul_pos {ι : Type*} {c : ℝ} (hc : 0 < c) (s : Finset ι) (f : ι → EReal) :
    (∑ i ∈ s, f i) * (c : EReal) = ∑ i ∈ s, f i * (c : EReal) := by
  classical
  induction s using Finset.induction_on with
  | empty => simp
  | insert a s ha ih => rw [Finset.sum_insert ha, Finset.sum_insert ha, add_mul_pos hc, ih]

theorem neg_mul_coe (x : EReal) (c : ℝ) : (-x) * (c : EReal) = -(x * (c : EReal)) := EReal.neg_mul x c

/-- `1 / log 2`: how many bits a nat is. -/
abbrev lgR : ℝ := (Real.log 2)⁻¹
def lg : EReal := ((lgR : ℝ) : EReal)

theorem lgR_pos : 0 < lgR := inv_pos.mpr (Real.log_pos (by norm_num))

theorem rpow_two (y : ℝ) : Real.rpow 2 (y * lgR) = Real.exp y := by
  show (2 : ℝ) ^ (y * lgR) = _
  rw [Real.rpow_def_of_pos (by norm_num)]
  congr 1
  have : Real.log 2 ≠ 0 := (Real.log_pos (by norm_num)).ne'
  field_simp

/-- `2 ^ (y / log 2) = e ^ y` on the extended reals. -/
theorem exp2_mul_lg (y : EReal) : Ideal.exp2 (y * lg) = Ideal.exp y := by
  unfold lg
  induction y with
  | bot => rw [EReal.bot_mul_coe_of_pos lgR_pos]; simp
  | top => rw [EReal.top_mul_coe_of_pos lgR_pos]; simp
  | coe y => rw [← EReal.coe_mul, Ideal.exp2_coe, Ideal.exp_coe, rpow_two]

/-- The softplus of a logit, in natural units. -/
def sp (z : EReal) : EReal := max z 0 + Ideal.log (1 + Ideal.exp (-max z (-z)))

/-- The softplus of a logit given in bits, in bits. -/
def sp2 (z : EReal) : EReal := max z 0 + Ideal.log (1 + Ideal.exp2 (0 - max z (-z))) * lg

/-- The softplus over the reals. -/
def spR (z : ℝ) : ℝ := max z 0 + Real.log (1 + Real.exp (-max z (-z)))

theorem log_one_add (y : ℝ) : Ideal.log (1 + ((Real.exp y : ℝ) : EReal)) = ((Real.log (1 + Real.exp y) : ℝ) : EReal) := by
  have h : (1 : EReal) + ((Real.exp y : ℝ) : EReal) = ((1 + Real.exp y : ℝ) : EReal) := by norm_cast
  rw [h, Ideal.log_coe, if_neg (by have := Real.exp_pos y; linarith)]

theorem coe_max (x y : ℝ) : max (x : EReal) (y : EReal) = ((max x y : ℝ) : EReal) :=
  (EReal.coe_strictMono.monotone.map_max).symm

theorem sp_coe (z : ℝ) : sp z = ((spR z : ℝ) : EReal) := by
  unfold sp spR
  rw [← EReal.coe_neg, coe_max, ← EReal.coe_neg, Ideal.exp_coe, log_one_add, ← EReal.coe_zero, coe_max, ← EReal.coe_add]

theorem log_one : Ideal.log 1 = 0 := by
  rw [← EReal.coe_one, Ideal.log_coe]; simp

theorem sp_bot : sp ⊥ = 0 := by simp [sp, log_one]
theorem sp_top : sp ⊤ = ⊤ := by simp [sp, log_one]

theorem sp_nonneg (z : EReal) : 0 ≤ sp z := by
  induction z with
  | bot => rw [sp_bot]
  | top => rw [sp_top]; exact le_top
  | coe z =>
    rw [sp_coe, ← EReal.coe_zero, EReal.coe_le_coe_iff]
    exact add_nonneg (le_max_right _ _) (Real.log_nonneg (by have := Real.exp_pos (-max z (-z)); linarith))

/-- `z - softplus z = -softplus (-z)`. -/
theorem spR_sub (z : ℝ) : z - spR z = -spR (-z) := by
  unfold spR
  rw [neg_neg, max_comm (-z) z]
  rcases le_total 0 z with h | h
  · rw [max_eq_left h, max_eq_right (by linarith : -z ≤ 0)]; ring
  · rw [max_eq_right h, max_eq_left (by linarith : (0 : ℝ) ≤ -z)]; ring

theorem sp2_mul_lg (z : EReal) : sp2 (z * lg) = sp z * lg := by
  unfold sp2 sp lg
  have hL := lgR_pos
  have hmax : max (z * (lgR : EReal)) (-(z * (lgR : EReal))) = max z (-z) * (lgR : EReal) := by
    rw [← neg_mul_coe]
    induction z with
    | bot => simp [EReal.bot_mul_coe_of_pos hL, EReal.top_mul_coe_of_pos hL]
    | top => simp [EReal.bot_mul_coe_of_pos hL, EReal.top_mul_coe_of_pos hL]
    | coe z => rw [← EReal.coe_neg, ← EReal.coe_mul, ← EReal.coe_mul, coe_max, coe_max, ← EReal.coe_mul, max_mul_of_nonneg _ _ hL.le]
  have hmax0 : max (z * (lgR : EReal)) 0 = max z 0 * (lgR : EReal) := by
    induction z with
    | bot => simp [EReal.bot_mul_coe_of_pos hL]
    | top => simp [EReal.top_mul_coe_of_pos hL]
    | coe z => rw [← EReal.coe_mul, ← EReal.coe_zero, coe_max, coe_max, ← EReal.coe_mul, max_mul_of_nonneg _ _ hL.le, zero_mul]
  have he := exp2_mul_lg (-max z (-z))
  unfold lg at he
  rw [hmax, hmax0, zero_sub, ← neg_mul_coe, he, ← add_mul_pos hL]

/-- The log of what a key keeps of the stick, in bits. -/
def lk2 (ζ : EReal) : EReal := 0 - sp2 ζ

theorem lk2_mul_lg (z : EReal) : lk2 (z * lg) = (-sp z) * lg := by
  unfold lk2; rw [sp2_mul_lg, zero_sub]; exact (neg_mul_coe _ _).symm

theorem sp2_nonneg (ζ : EReal) : 0 ≤ sp2 ζ := by
  have hL := lgR_pos
  have h : ζ = (ζ * ((Real.log 2 : ℝ) : EReal)) * lg := by
    rw [mul_assoc]; unfold lg
    rw [← EReal.coe_mul, mul_inv_cancel₀ (Real.log_pos (by norm_num)).ne', EReal.coe_one, mul_one]
  rw [h, sp2_mul_lg]
  exact mul_nonneg (sp_nonneg _) (EReal.coe_nonneg.mpr hL.le)

theorem lk2_ne_top (ζ : EReal) : lk2 ζ ≠ ⊤ := by
  unfold lk2
  rw [zero_sub, ne_eq, EReal.neg_eq_top_iff]
  exact fun h => absurd (sp2_nonneg ζ) (by rw [h]; simp)

/-- A number and what rounding it leaves over add back to it, unless it is `+∞`. -/
theorem add_sub_self {x : EReal} (hx : x ≠ ⊤) : x + (x - x) = x := by
  induction x with
  | bot => simp
  | top => exact absurd rfl hx
  | coe x => rw [← EReal.coe_sub, ← EReal.coe_add]; simp

/-- ONE WEIGHT: the power of two of the logit less its softplus plus the logs kept after it, all in bits, is the reference's exponential
    of the log-sigmoid plus the inclusive sum of the logs kept less this key's own. -/
theorem weight_eq (z S : EReal) :
    Ideal.exp2 ((z * lg - sp2 (z * lg)) + S * lg) = Ideal.exp (-sp (-z) + ((-sp z + S) - -sp z)) := by
  have hL := lgR_pos
  rw [sp2_mul_lg]
  induction z with
  | bot => unfold lg; simp [EReal.bot_mul_coe_of_pos hL, sp_bot, sp_top]
  | top => unfold lg; simp [EReal.top_mul_coe_of_pos hL, sp_top]
  | coe z =>
    rw [← EReal.coe_neg, sp_coe, sp_coe]
    have h1 : ((-((spR z : ℝ) : EReal) + S) - -((spR z : ℝ) : EReal)) = S := by
      induction S with
      | bot => simp
      | top => rw [← EReal.coe_neg, EReal.coe_add_top, EReal.top_sub_coe]
      | coe S => norm_cast; ring
    have h2 : (z : EReal) * lg - ((spR z : ℝ) : EReal) * lg = (-((spR (-z) : ℝ) : EReal)) * lg := by
      unfold lg; norm_cast; rw [← sub_mul, spR_sub]
    rw [h1, h2]
    unfold lg
    rw [← add_mul_pos hL]
    exact exp2_mul_lg _

end Cert.Sb

end
-- ==== Proof.Sb.Rows.lean ====
/- One row of stick-breaking attention, by positions of keys: its weights, and its sums cut into tiles of 256 keys. -/
module

public import proofs.«01_k».proof.Proof.Sb.Weights

@[expose] public section

noncomputable section

namespace Cert.Sb

open Idealize.ShloMosaic

variable (ζ : ℕ → EReal) (t : ℕ) (v : ℕ → EReal)

/-- What key `n` adds to the log of the stick left, in bits: nothing from the query's own position `t` on. -/
def lkm (n : ℕ) : EReal := if n < t then lk2 (ζ n) else 0

/-- The logs kept at the keys from `lo` on. -/
def car (lo : ℕ) : EReal := ∑ m ∈ Finset.Ico lo 2048, lkm ζ t m

/-- The weight of key `n`. -/
def wt (n : ℕ) : EReal := if n < t then Ideal.exp2 ((ζ n - sp2 (ζ n)) + car ζ t (n + 1)) else 0

/-- The weighted values of the keys from `lo` on. -/
def acc (lo : ℕ) : EReal := ∑ n ∈ Finset.Ico lo 2048, wt ζ t n * v n

theorem sum_tile (f : ℕ → EReal) {lo : ℕ} (h : lo + 256 ≤ 2048) :
    ∑ n ∈ Finset.Ico lo 2048, f n = ∑ n ∈ Finset.Ico (lo + 256) 2048, f n + ∑ c : Fin 256, f (lo + c.val) := by
  rw [← Finset.sum_Ico_consecutive f (by omega : lo ≤ lo + 256) h, add_comm, Finset.sum_Ico_eq_sum_range f lo (lo + 256),
    Nat.add_sub_cancel_left, Finset.sum_range]

theorem lkm_ne_top (n : ℕ) : lkm ζ t n ≠ ⊤ := by
  unfold lkm; split
  · exact lk2_ne_top _
  · simp

theorem car_step {lo : ℕ} (h : lo + 256 ≤ 2048) : car ζ t lo = car ζ t (lo + 256) + ∑ c : Fin 256, lkm ζ t (lo + c.val) :=
  sum_tile _ h

theorem acc_step {lo : ℕ} (h : lo + 256 ≤ 2048) :
    acc ζ t v lo = acc ζ t v (lo + 256) + ∑ c : Fin 256, wt ζ t (lo + c.val) * v (lo + c.val) := sum_tile _ h

/-- The keys of a tile after its `c`-th, each given as a part kept and a part left over, and the tiles after it. -/
theorem car_tail {lo c : ℕ} (h : lo + 256 ≤ 2048) (hc : c < 256) :
    car ζ t (lo + c + 1) = car ζ t (lo + 256) +
      ∑ j : Fin 256, if c < j.val then lkm ζ t (lo + j.val) + (lkm ζ t (lo + j.val) - lkm ζ t (lo + j.val)) else 0 := by
  have h1 : ∀ j : Fin 256, (if c < j.val then lkm ζ t (lo + j.val) + (lkm ζ t (lo + j.val) - lkm ζ t (lo + j.val)) else 0)
      = if c < j.val then lkm ζ t (lo + j.val) else 0 := fun j => by rw [add_sub_self (lkm_ne_top ζ t _)]
  simp only [h1]
  have h2 := sum_tile (fun n => if lo + c < n then lkm ζ t n else 0) h
  simp only [Nat.add_lt_add_iff_left] at h2
  unfold car
  rw [← Finset.sum_subset (s₁ := Finset.Ico (lo + c + 1) 2048)] at h2
  · rw [Finset.sum_congr rfl (fun n hn => if_pos (by rw [Finset.mem_Ico] at hn; omega))] at h2
    rw [h2]
    congr 1
    exact Finset.sum_congr rfl fun n hn => if_pos (by rw [Finset.mem_Ico] at hn; omega)
  · intro n hn; rw [Finset.mem_Ico] at hn ⊢; omega
  · intro n hn hn'; rw [Finset.mem_Ico] at hn hn'; exact if_neg (by omega)

theorem lkm_of_le {n : ℕ} (h : t ≤ n) : lkm ζ t n = 0 := if_neg (by omega)

theorem car_of_le {lo : ℕ} (h : t ≤ lo) : car ζ t lo = 0 :=
  Finset.sum_eq_zero fun n hn => lkm_of_le ζ t (by rw [Finset.mem_Ico] at hn; omega)

theorem acc_of_le {lo : ℕ} (h : t ≤ lo) : acc ζ t v lo = 0 :=
  Finset.sum_eq_zero fun n hn => by
    rw [Finset.mem_Ico] at hn
    rw [wt, if_neg (by omega), zero_mul]

end Cert.Sb

end
-- ==== Proof.Sb.Tiles.lean ====
/- What the attention kernel stores for one head and one tile of keys, read at an index. -/
module

public import Idealize.ShloMosaic.Lib.Pointwise
public import Idealize.ShloMosaic.Lib.WordCmp
public import proofs.«01_k».proof.Proof.Gen.KernelIdeal.Skeleton
public import proofs.«01_k».proof.Proof.Sb.Rows

@[expose] public section

set_option maxRecDepth 16384

noncomputable section

namespace Cert.Sb

open Idealize.ShloMosaic Idealize.ShloMosaic.TcCoe Idealize.SL.Sem
open Cert.KernelIdeal Cert.KernelIdeal.Gen

/-- The kernel's constant `log2e` is exactly `1 / log 2`. -/
theorem named_log2e : (Named.named κ "log2e" 0x3FB8AA3B#32 : Ideal .f32) = lg :=
  IdealRules.named_const.ideal_named_scalar _ _ _ _ rfl

/-- The logits, in bits, of one tile of queries against one tile of keys. -/
def zT (q k : FVec Ideal S256x128 .bf16) (b : Ideal .f32) : FVec Ideal S256x256 .f32 := k0_pay10 (F := Ideal) q k b

theorem zT_apply (q k : FVec Ideal S256x128 .bf16) (b : Ideal .f32) (r c : Fin 256) :
    zT q k b (ix2 r c) = (∑ d : Fin 128, q (ix2 r d) * k (ix2 c d)) + (show EReal from b) * lg := by
  unfold zT
  pointwise [k0_pay10, named_log2e]

theorem sp2_apply (z : FVec Ideal S256x256 .f32) (r c : Fin 256) : k0_pay16 (F := Ideal) z (ix2 r c) = sp2 (z (ix2 r c)) := by
  pointwise [k0_pay16, named_log2e, sp2]
  rfl

theorem lk_apply (z : FVec Ideal S256x256 .f32) (r c : Fin 256) : k0_pay17 (F := Ideal) z (ix2 r c) = lk2 (z (ix2 r c)) := by
  pointwise [k0_pay17, sp2_apply, lk2]

/-- A row number modulo 256, as the kernel's words compute it. -/
theorem rem_word (k : Fin 512) :
    (Scalar.select
          (IntOp.andi
            (IntOp.xori
              (IntOp.cmpi CmpIPredicate.slt
                (IntOp.remsi ArithUnit.vector (BitVec.ofNat 32 ↑k)
                  (Scalar.select (Scalar.cmpi CmpIPredicate.eq 256#32 0#32) 1#32 256#32))
                0#32)
              (Scalar.cmpi CmpIPredicate.slt (Scalar.select (Scalar.cmpi CmpIPredicate.eq 256#32 0#32) 1#32 256#32)
                0#32))
            (IntOp.cmpi CmpIPredicate.ne
              (IntOp.remsi ArithUnit.vector (BitVec.ofNat 32 ↑k)
                (Scalar.select (Scalar.cmpi CmpIPredicate.eq 256#32 0#32) 1#32 256#32))
              0#32))
          (IntOp.addi
            (IntOp.remsi ArithUnit.vector (BitVec.ofNat 32 ↑k)
              (Scalar.select (Scalar.cmpi CmpIPredicate.eq 256#32 0#32) 1#32 256#32))
            (Scalar.select (Scalar.cmpi CmpIPredicate.eq 256#32 0#32) 1#32 256#32))
          (IntOp.remsi ArithUnit.vector (BitVec.ofNat 32 ↑k)
            (Scalar.select (Scalar.cmpi CmpIPredicate.eq 256#32 0#32) 1#32 256#32))) = BitVec.ofNat 32 (k.val % 256) := by
  revert k; decide +kernel

/-- The matrix of ones: rows `k` whose remainder is past column `c`. -/
theorem ones_apply (k : Fin 512) (c : Fin 256) : k0_pay76 (F := Ideal) (ix2 k c) = if c.val < k.val % 256 then 1 else 0 := by
  pointwise [k0_pay76]
  rw [rem_word]
  have hk : k.val % 256 < 256 := Nat.mod_lt _ (by norm_num)
  generalize k.val % 256 = a at hk ⊢
  simp (disch := omega) only [hlo_ix]

/-- The logs kept after each key of the tile, and those of the tiles after it. -/
def tailT (lk : FVec Ideal S256x256 .f32) (cs : FVec Ideal S1x256x1 .f32) : FVec Ideal S256x256 .f32 :=
  k0_pay29 (F := Ideal) k0_pay76 lk cs

theorem mul_one_if (x : EReal) (p : Prop) [Decidable p] : (x * if p then 1 else 0) = if p then x else 0 := by
  split <;> simp

theorem tailT_apply (lk : FVec Ideal S256x256 .f32) (cs : FVec Ideal S1x256x1 .f32) (r c : Fin 256) :
    tailT lk cs (ix2 r c) = cs (ix3 0 r 0) + ∑ j : Fin 256, if c.val < j.val then lk (ix2 r j) + (lk (ix2 r j) - lk (ix2 r j)) else 0 := by
  unfold tailT
  pointwise [k0_pay29, ones_apply]
  refine congrArg _ ?_
  rw [← Finset.sum_add_distrib]
  refine Finset.sum_congr rfl fun j _ => ?_
  have h1 : j.val % 256 = j.val := Nat.mod_eq_of_lt j.isLt
  have h2 : (256 + j.val) % 256 = j.val := by omega
  rw [h1, h2, mul_one_if, mul_one_if]
  split <;> simp

/-- The rows' sums of logs kept, one tile further. -/
def csT (lk : FVec Ideal S256x256 .f32) (cs : FVec Ideal S1x256x1 .f32) : FVec Ideal S1x256x1 .f32 :=
  k0_pay41 (F := Ideal) lk cs

theorem csT_apply (lk : FVec Ideal S256x256 .f32) (cs : FVec Ideal S1x256x1 .f32) (r : Fin 256) :
    csT lk cs (ix3 0 r 0) = cs (ix3 0 r 0) + ∑ j : Fin 256, lk (ix2 r j) := by
  unfold csT
  pointwise [k0_pay41]

/-- The weighted values of a whole tile, added to those of the tiles after it. -/
def accT (z : FVec Ideal S256x256 .f32) (cs : FVec Ideal S1x256x1 .f32) (a : FVec Ideal S256x128 .f32) (v : FVec Ideal S256x128 .bf16) :
    FVec Ideal S256x128 .f32 :=
  k0_pay36 (F := Ideal) (k0_pay18 z) (tailT (k0_pay17 z) cs) a v

theorem accT_apply (z : FVec Ideal S256x256 .f32) (cs : FVec Ideal S1x256x1 .f32) (a : FVec Ideal S256x128 .f32) (v : FVec Ideal S256x128 .bf16)
    (r : Fin 256) (d : Fin 128) :
    accT z cs a v (ix2 r d) = a (ix2 r d) + ∑ c : Fin 256,
      Ideal.exp2 ((z (ix2 r c) - sp2 (z (ix2 r c))) + tailT (k0_pay17 z) cs (ix2 r c)) * v (ix2 c d) := by
  unfold accT
  pointwise [k0_pay36, k0_pay18, sp2_apply]
  rfl

/-- The diagonal tile's mask: keys before the query. -/
def maskT : IVec S256x256 1 :=
  k0_pay89 (iota .tc S256x256 32 [0] iota_S256x256_d0_w32) (iota .tc S256x256 32 [1] iota_S256x256_d1_w32)

theorem mask_apply (r c : Fin 256) : maskT (ix2 r c) = BitVec.ofBool (decide (c.val < r.val)) := by
  unfold maskT
  pointwise [k0_pay89]
  simp (disch := omega) only [hlo_ix]

/-- The diagonal tile's logs kept. -/
def lkD (z : FVec Ideal S256x256 .f32) : FVec Ideal S256x256 .f32 := k0_pay95 (F := Ideal) maskT z

theorem lkD_apply (z : FVec Ideal S256x256 .f32) (r c : Fin 256) :
    lkD z (ix2 r c) = if c.val < r.val then lk2 (z (ix2 r c)) else 0 := by
  have h : k0_pay94 (F := Ideal) z (ix2 r c) = sp2 (z (ix2 r c)) := sp2_apply z r c
  unfold lkD
  pointwise [k0_pay95, h, mask_apply, lk2]

/-- The diagonal tile's weighted values. -/
def accD (z : FVec Ideal S256x256 .f32) (cs : FVec Ideal S1x256x1 .f32) (a : FVec Ideal S256x128 .f32) (v : FVec Ideal S256x128 .bf16) :
    FVec Ideal S256x128 .f32 :=
  k0_pay114 (F := Ideal) maskT (k0_pay18 z) (tailT (lkD z) cs) a v

theorem accD_apply (z : FVec Ideal S256x256 .f32) (cs : FVec Ideal S1x256x1 .f32) (a : FVec Ideal S256x128 .f32) (v : FVec Ideal S256x128 .bf16)
    (r : Fin 256) (d : Fin 128) :
    accD z cs a v (ix2 r d) = a (ix2 r d) + ∑ c : Fin 256,
      (if c.val < r.val then Ideal.exp2 ((z (ix2 r c) - sp2 (z (ix2 r c))) + tailT (lkD z) cs (ix2 r c)) else 0) * v (ix2 c d) := by
  unfold accD
  pointwise [k0_pay114, k0_pay18, sp2_apply, mask_apply]
  rfl

/-! The other heads' values are the first head's, computed by the same operations. -/

theorem lk1_eq (z : FVec Ideal S256x256 .f32) : k0_pay20 (F := Ideal) z = k0_pay17 z := rfl
theorem lb1_eq (z : FVec Ideal S256x256 .f32) : k0_pay21 (F := Ideal) z = k0_pay18 z := rfl
theorem lk2_eq (u v : FVec Ideal S256x256 .f32) : k0_pay24 (F := Ideal) (k0_pay14 u v) (k0_pay22 u v) = k0_pay17 (k0_pay14 u v) := rfl
theorem lb2_eq (u v : FVec Ideal S256x256 .f32) : k0_pay25 (F := Ideal) (k0_pay14 u v) (k0_pay22 u v) = k0_pay18 (k0_pay14 u v) := rfl
theorem lk3_eq (z : FVec Ideal S256x256 .f32) : k0_pay27 (F := Ideal) z = k0_pay17 z := rfl
theorem lb3_eq (z : FVec Ideal S256x256 .f32) : k0_pay28 (F := Ideal) z = k0_pay18 z := rfl
theorem z1_eq (q k : FVec Ideal S256x128 .bf16) (b : Ideal .f32) : k0_pay11 (F := Ideal) q k b = zT q k b := rfl
theorem z2_eq (q k : FVec Ideal S256x128 .bf16) (b : Ideal .f32) : k0_pay14 (F := Ideal) (k0_pay12 q k) (k0_pay13 b) = zT q k b := rfl
theorem z3_eq (q k : FVec Ideal S256x128 .bf16) (b : Ideal .f32) : k0_pay15 (F := Ideal) q k b = zT q k b := rfl
theorem tail1_eq (lk : FVec Ideal S256x256 .f32) (cs : FVec Ideal S1x256x1 .f32) :
   k0_pay33 (F := Ideal) k0_pay76 lk (k0_pay30 cs) (k0_pay31 lk) (k0_pay32 lk) = tailT lk cs := rfl
theorem acc1_eq (q k : FVec Ideal S256x128 .bf16) (b : Ideal .f32) (cs : FVec Ideal S1x256x1 .f32) (a : FVec Ideal S256x128 .f32) (v : FVec Ideal S256x128 .bf16) :
   k0_pay40 (F := Ideal) (k0_pay21 (k0_pay11 q k b)) (k0_pay33 k0_pay76 (k0_pay20 (k0_pay11 q k b)) (k0_pay30 cs) (k0_pay31 (k0_pay20 (k0_pay11 q k b))) (k0_pay32 (k0_pay20 (k0_pay11 q k b)))) a v = accT (zT q k b) cs a v := by
  rw [lk1_eq, lb1_eq, z1_eq, tail1_eq]; rfl
theorem acc2_eq (q k : FVec Ideal S256x128 .bf16) (b : Ideal .f32) (cs : FVec Ideal S1x256x1 .f32) (a : FVec Ideal S256x128 .f32) (v : FVec Ideal S256x128 .bf16) :
    k0_pay42 (F := Ideal) (k0_pay25 (k0_pay14 (k0_pay12 q k) (k0_pay13 b)) (k0_pay22 (k0_pay12 q k) (k0_pay13 b)))
      (k0_pay34 k0_pay76 (k0_pay24 (k0_pay14 (k0_pay12 q k) (k0_pay13 b)) (k0_pay22 (k0_pay12 q k) (k0_pay13 b))) cs) a v = accT (zT q k b) cs a v := by
  rw [lk2_eq, lb2_eq, z2_eq]; rfl
theorem acc3_eq (q k : FVec Ideal S256x128 .bf16) (b : Ideal .f32) (cs : FVec Ideal S1x256x1 .f32) (a : FVec Ideal S256x128 .f32) (v : FVec Ideal S256x128 .bf16) :
    k0_pay4 (F := Ideal) (k0_pay28 (k0_pay15 q k b)) (k0_pay35 k0_pay76 (k0_pay27 (k0_pay15 q k b)) cs) a v = accT (zT q k b) cs a v := by
  rw [lk3_eq, lb3_eq, z3_eq]; rfl
theorem cs0_eq (q k : FVec Ideal S256x128 .bf16) (b : Ideal .f32) (cs : FVec Ideal S1x256x1 .f32) :
    k0_pay39 (F := Ideal) (k0_pay37 cs) (k0_pay38 (k0_pay17 (k0_pay10 q k b))) = csT (k0_pay17 (zT q k b)) cs := rfl
theorem cs1_eq (q k : FVec Ideal S256x128 .bf16) (b : Ideal .f32) (cs : FVec Ideal S1x256x1 .f32) :
    k0_pay41 (F := Ideal) (k0_pay20 (k0_pay11 q k b)) cs = csT (k0_pay17 (zT q k b)) cs := by
  rw [lk1_eq, z1_eq]; rfl
theorem cs2_eq (q k : FVec Ideal S256x128 .bf16) (b : Ideal .f32) (cs : FVec Ideal S1x256x1 .f32) :
    k0_pay3 (F := Ideal) (k0_pay24 (k0_pay14 (k0_pay12 q k) (k0_pay13 b)) (k0_pay22 (k0_pay12 q k) (k0_pay13 b))) cs = csT (k0_pay17 (zT q k b)) cs := by
  rw [lk2_eq, z2_eq]; rfl
theorem cs3_eq (q k : FVec Ideal S256x128 .bf16) (b : Ideal .f32) (cs : FVec Ideal S1x256x1 .f32) :
    k0_pay5 (F := Ideal) (k0_pay27 (k0_pay15 q k b)) cs = csT (k0_pay17 (zT q k b)) cs := by
  rw [lk3_eq, z3_eq]; rfl

/-! The diagonal tile's heads. -/

theorem zd0_eq (q k : FVec Ideal S256x128 .bf16) (b : Ideal .f32) : k0_pay90 (F := Ideal) q k b = zT q k b := rfl
theorem zd1_eq (q k : FVec Ideal S256x128 .bf16) (b : Ideal .f32) : k0_pay91 (F := Ideal) q k b = zT q k b := rfl
theorem zd2_eq (q k : FVec Ideal S256x128 .bf16) (b : Ideal .f32) :
    k0_pay92 (F := Ideal) q k (constant S256x256 .f32 0x00000000#32) b = zT q k b := rfl
theorem zd3_eq (q k : FVec Ideal S256x128 .bf16) (b : Ideal .f32) : k0_pay93 (F := Ideal) q k b = zT q k b := rfl
theorem lkd1_eq (z : FVec Ideal S256x256 .f32) : k0_pay100 (F := Ideal) maskT (k0_pay97 z) (k0_pay98 z) = lkD z := rfl
theorem lbd1_eq (z : FVec Ideal S256x256 .f32) : k0_pay101 (F := Ideal) z (k0_pay97 z) (k0_pay98 z) = k0_pay18 z := rfl
theorem lkd2_eq (z : FVec Ideal S256x256 .f32) : k0_pay103 (F := Ideal) maskT z = lkD z := rfl
theorem lbd2_eq (z : FVec Ideal S256x256 .f32) : k0_pay104 (F := Ideal) z = k0_pay18 z := rfl
theorem lkd3_eq (z : FVec Ideal S256x256 .f32) : k0_pay106 (F := Ideal) maskT z = lkD z := rfl
theorem lbd0_eq (z : FVec Ideal S256x256 .f32) : k0_pay96 (F := Ideal) z = k0_pay18 z := rfl

/-- The constants of the normalisation. -/
abbrev c128 : EReal := Ideal.ofBits .f32 0x43000000#32
abbrev cEps : EReal := Ideal.ofBits .f32 0x358637BD#32

/-- The kernel's folded scale. -/
def qs : EReal := Named.named (F := Ideal) (φ := .f32) κ "qscale" 0x3E0293EE#32

/-- The root of a row's mean square. -/
def rs (x : Fin 128 → EReal) : EReal := Ideal.rsqrt (Ideal.div (∑ d, x d * x d) c128 + cEps)

/-- A head's normalised and scaled queries. -/
def qT (x : FVec Ideal S1x256x128 .f32) (g : FVec Ideal S1x1x128 .f32) : FVec Ideal S256x128 .bf16 := k0_pay80 (F := Ideal) x g

theorem qT_apply (x : FVec Ideal S1x256x128 .f32) (g : FVec Ideal S1x1x128 .f32) (r : Fin 256) (d : Fin 128) :
    qT x g (ix2 r d) = x (ix3 0 r d) * rs (fun d => x (ix3 0 r d)) * g (ix3 0 0 d) * qs := by
  unfold qT
  pointwise [k0_pay80, rs, qs]

section Steps

variable {z : FVec Ideal S256x256 .f32} {cs : FVec Ideal S1x256x1 .f32} {a : FVec Ideal S256x128 .f32} {v : FVec Ideal S256x128 .bf16}
  {ζ w : ℕ → EReal} {t lo : ℕ} {r : Fin 256} {d : Fin 128}

/-- A whole tile, all of it before the query. -/
theorem csT_step (hlo : lo + 256 ≤ 2048) (ht : lo + 256 ≤ t) (hz : ∀ c : Fin 256, z (ix2 r c) = ζ (lo + c.val))
    (hcs : cs (ix3 0 r 0) = car ζ t (lo + 256)) : csT (k0_pay17 (F := Ideal) z) cs (ix3 0 r 0) = car ζ t lo := by
  rw [csT_apply, hcs, car_step ζ t hlo]
  refine congrArg _ (Finset.sum_congr rfl fun c _ => ?_)
  rw [lk_apply, hz, lkm, if_pos (by omega)]

theorem accT_step (hlo : lo + 256 ≤ 2048) (ht : lo + 256 ≤ t) (hz : ∀ c : Fin 256, z (ix2 r c) = ζ (lo + c.val))
    (hcs : cs (ix3 0 r 0) = car ζ t (lo + 256)) (hv : ∀ c : Fin 256, v (ix2 c d) = w (lo + c.val))
    (ha : a (ix2 r d) = acc ζ t w (lo + 256)) : accT z cs a v (ix2 r d) = acc ζ t w lo := by
  rw [accT_apply, ha, acc_step ζ t w hlo]
  refine congrArg _ (Finset.sum_congr rfl fun c _ => ?_)
  rw [hv, wt, if_pos (by omega), hz, car_tail ζ t hlo c.isLt, tailT_apply, hcs]
  have h : ∀ j : Fin 256, k0_pay17 (F := Ideal) z (ix2 r j) = lkm ζ t (lo + j.val) := fun j => by
    rw [lk_apply, hz, lkm, if_pos (by omega)]
  simp only [h]

/-- The diagonal tile. -/
theorem csD_step (hlo : lo + 256 ≤ 2048) (ht : t = lo + r.val) (hz : ∀ c : Fin 256, z (ix2 r c) = ζ (lo + c.val))
    (hcs : cs (ix3 0 r 0) = car ζ t (lo + 256)) : csT (lkD z) cs (ix3 0 r 0) = car ζ t lo := by
  rw [csT_apply, hcs, car_step ζ t hlo]
  refine congrArg _ (Finset.sum_congr rfl fun c _ => ?_)
  rw [lkD_apply, hz, lkm, ht]
  simp only [Nat.add_lt_add_iff_left]

theorem accD_step (hlo : lo + 256 ≤ 2048) (ht : t = lo + r.val) (hz : ∀ c : Fin 256, z (ix2 r c) = ζ (lo + c.val))
    (hcs : cs (ix3 0 r 0) = car ζ t (lo + 256)) (hv : ∀ c : Fin 256, v (ix2 c d) = w (lo + c.val))
    (ha : a (ix2 r d) = acc ζ t w (lo + 256)) : accD z cs a v (ix2 r d) = acc ζ t w lo := by
  rw [accD_apply, ha, acc_step ζ t w hlo]
  refine congrArg _ (Finset.sum_congr rfl fun c _ => ?_)
  rw [hv, wt, hz, car_tail ζ t hlo c.isLt, tailT_apply, hcs]
  have h : ∀ j : Fin 256, lkD z (ix2 r j) = lkm ζ t (lo + j.val) := fun j => by
    rw [lkD_apply, hz, lkm, ht]
    simp only [Nat.add_lt_add_iff_left]
  have hm : (c.val < r.val) = (lo + c.val < t) := by rw [ht, Nat.add_lt_add_iff_left]
  simp only [h, hm]

end Steps

end Cert.Sb

end
-- ==== Proof.Sb.Offs.lean ====
/- Where the attention kernel reads: its offsets and its loop bounds, in numbers. -/
module

public import proofs.«01_k».proof.Proof.Gen.KernelIdeal.Skeleton

@[expose] public section

set_option maxRecDepth 16384

noncomputable section

namespace Cert.Sb

open Idealize.ShloMosaic Idealize.ShloMosaic.TcCoe Idealize.SL.Sem
open Cert.KernelIdeal Cert.KernelIdeal.Gen

variable (i : grid0.Coords)

theorem i2_lt : (i 2).val < 8 := (i 2).isLt
theorem i1_lt : (i 1).val < 4 := (i 1).isLt

theorem trips1 : (k0_t1_loop i).trips = (i 2).val := by
  have h := i2_lt i
  unfold k0_t1_loop
  generalize (i 2).val = a at h ⊢
  interval_cases a <;> decide

theorem trips2 : (k0_t2_loop i).trips = 0 := by
  have h := i2_lt i
  unfold k0_t2_loop
  generalize (i 2).val = a at h ⊢
  interval_cases a <;> decide

theorem off1 : k0_off1 i = ![(i 2).val * 256, 0] := by
  have h := i2_lt i
  unfold k0_off1
  generalize (i 2).val = a at h ⊢
  interval_cases a <;> decide

theorem off3 : k0_off3 i = ![(i 2).val * 256, 128] := by
  have h := i2_lt i
  unfold k0_off3
  generalize (i 2).val = a at h ⊢
  interval_cases a <;> decide

theorem off4 : k0_off4 i = ![(i 2).val * 256, 256] := by
  have h := i2_lt i
  unfold k0_off4
  generalize (i 2).val = a at h ⊢
  interval_cases a <;> decide

theorem off5 : k0_off5 i = ![(i 2).val * 256, 384] := by
  have h := i2_lt i
  unfold k0_off5
  generalize (i 2).val = a at h ⊢
  interval_cases a <;> decide

theorem off2 (g : Fin 4) : k0_off2 i (BitVec.ofNat 32 g.val) = ![(i 1).val * 4 + g.val] := by
  have h := i1_lt i
  unfold k0_off2
  generalize (i 1).val = a at h ⊢
  revert g
  interval_cases a <;> decide

theorem off7 (g : Fin 4) : k0_off7 i (BitVec.ofNat 32 g.val) = ![(i 1).val * 4 + g.val] := by
  have h := i1_lt i
  unfold k0_off7
  generalize (i 1).val = a at h ⊢
  revert g
  interval_cases a <;> decide

theorem off6 (k : Fin (k0_t1_loop i).trips) : k0_off6 i k = ![((i 2).val - 1 - k.val) * 256, 0] := by
  have h := i2_lt i
  have hk : k.val < (i 2).val := trips1 i ▸ k.isLt
  unfold k0_off6
  generalize k.val = b at hk ⊢
  generalize (i 2).val = a at h hk ⊢
  interval_cases a <;> interval_cases b <;> decide

theorem off8 (k : Fin (k0_t1_loop i).trips) : k0_off8 i k = ![((i 2).val - 1 - k.val) * 256, 128] := by
  have h := i2_lt i
  have hk : k.val < (i 2).val := trips1 i ▸ k.isLt
  unfold k0_off8
  generalize k.val = b at hk ⊢
  generalize (i 2).val = a at h hk ⊢
  interval_cases a <;> interval_cases b <;> decide

theorem off9 (k : Fin (k0_t1_loop i).trips) : k0_off9 i k = ![((i 2).val - 1 - k.val) * 256, 256] := by
  have h := i2_lt i
  have hk : k.val < (i 2).val := trips1 i ▸ k.isLt
  unfold k0_off9
  generalize k.val = b at hk ⊢
  generalize (i 2).val = a at h hk ⊢
  interval_cases a <;> interval_cases b <;> decide

theorem off10 (k : Fin (k0_t1_loop i).trips) : k0_off10 i k = ![((i 2).val - 1 - k.val) * 256, 384] := by
  have h := i2_lt i
  have hk : k.val < (i 2).val := trips1 i ▸ k.isLt
  unfold k0_off10
  generalize k.val = b at hk ⊢
  generalize (i 2).val = a at h hk ⊢
  interval_cases a <;> interval_cases b <;> decide

end Cert.Sb

end
-- ==== Proof.Sb.Trip.lean ====
/- One trip of the attention kernel's loop over tiles of keys, and the loop. -/
module

public import proofs.«01_k».proof.Proof.Gen.KernelIdeal.Loops
public import proofs.«01_k».proof.Proof.Gen.KernelIdeal.Frame
public import proofs.«01_k».proof.Proof.Sb.Tiles
public import proofs.«01_k».proof.Proof.Sb.Offs

@[expose] public section

set_option maxRecDepth 16384

noncomputable section

namespace Cert.Sb

open Idealize.ShloMosaic Idealize.ShloMosaic.TcCoe Idealize.SL.Sem
open Cert.KernelIdeal Cert.KernelIdeal.Gen

/-- Column `d` of head `g` of the four heads of a block. -/
def col (g : Fin 4) (d : Fin 128) : Fin 512 := ⟨128 * g.val + d.val, by omega⟩
/-- Position `n` of a key. -/
def key (n : ℕ) : Fin 2048 := ⟨n % 2048, Nat.mod_lt _ (by norm_num)⟩

section Spec
variable (Q : FVec Ideal S256x512 .bf16) (K V : FVec Ideal S2048x512 .bf16) (B : FVec Ideal S16 .f32) (hg : Fin 4) (i2 : ℕ)

/-- The logits in bits of row `r` of head `g`. -/
def zeta (g : Fin 4) (r : Fin 256) (n : ℕ) : EReal :=
  (∑ d : Fin 128, Q (ix2 r (col g d)) * K (ix2 (key n) (col g d))) + B (ix1 ⟨hg.val * 4 + g.val, by omega⟩) * lg

/-- A column of the values. -/
def vcol (g : Fin 4) (d : Fin 128) (n : ℕ) : EReal := V (ix2 (key n) (col g d))

/-- The accumulators hold the weighted values, and the carries the logs kept, of the keys from `lo` on. -/
structure Inv (lo : ℕ) (A : FVec Ideal S256x512 .f32) (C : FVec Ideal S4x256x1 .f32) : Prop where
  acc : ∀ (r : Fin 256) (g : Fin 4) (d : Fin 128),
    A (ix2 r (col g d)) = acc (zeta Q K B hg g r) (i2 * 256 + r.val) (vcol V g d) lo
  car : ∀ (g : Fin 4) (r : Fin 256), C (ix3 g r 0) = car (zeta Q K B hg g r) (i2 * 256 + r.val) lo

/-- The accumulators as a function of the place. -/
def accAt (lo : ℕ) : FVec Ideal S256x512 .f32 := fun y =>
  Cert.Sb.acc (zeta Q K B hg ⟨(y 1).val / 128, Nat.div_lt_of_lt_mul (show (y 1).val < 128 * 4 from (y 1).isLt)⟩ (y 0)) (i2 * 256 + (y 0).val)
    (vcol V ⟨(y 1).val / 128, Nat.div_lt_of_lt_mul (show (y 1).val < 128 * 4 from (y 1).isLt)⟩ ⟨(y 1).val % 128, Nat.mod_lt _ (by norm_num)⟩) lo

def carAt (lo : ℕ) : FVec Ideal S4x256x1 .f32 := fun y =>
  Cert.Sb.car (zeta Q K B hg (y 0) (y 1)) (i2 * 256 + (y 1).val) lo

theorem accAt_col (lo : ℕ) (r : Fin 256) (g : Fin 4) (d : Fin 128) :
    accAt Q K V B hg i2 lo (ix2 r (col g d)) = Cert.Sb.acc (zeta Q K B hg g r) (i2 * 256 + r.val) (vcol V g d) lo := by
  have h1 : (128 * g.val + d.val) / 128 = g.val := by omega
  have h2 : (128 * g.val + d.val) % 128 = d.val := by omega
  unfold accAt
  simp only [ix2_0, ix2_1, col, h1, h2]

end Spec

variable (𝒱 : Variants) (c : Dev nD) (bd : Option 𝒱.V) (i : grid0.Coords) (arg3 : Memref sig .tc .smem S16 .f32) (harg3 : arg3.IsWhole)
  (arg4 : Memref sig .tc .vmem S1x256x512 .f32) (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S1x1x128 .f32) (harg7 : arg7.IsWhole)
  (arg8 : Memref sig .tc .vmem S256x512 .bf16) (harg8 : arg8.IsWhole) (arg9 : Memref sig .tc .vmem S256x512 .bf16) (harg9 : arg9.IsWhole)
  (arg10 : Memref sig .tc .vmem S256x512 .f32) (harg10 : arg10.IsWhole) (arg11 : Memref sig .tc .vmem S4x256x1 .f32) (harg11 : arg11.IsWhole)
  (arg1 arg2 : BitVec 32)
  (X3 : BufTy.Contents (Elt Ideal) arg3.view.ty) (X5 : BufTy.Contents (Elt Ideal) arg5.view.ty) (X6 : BufTy.Contents (Elt Ideal) arg6.view.ty)
  (X9 : BufTy.Contents (Elt Ideal) arg9.view.ty) (k : Fin (k0_t1_loop i).trips) (w : BitVec 32)
  (f10 : BufTy.Contents (Elt Ideal) arg10.view.ty) (f11 : BufTy.Contents (Elt Ideal) arg11.view.ty)

theorem key_lo {lo : ℕ} (hlo : lo + 256 ≤ 2048) (c : Fin 256) : key (lo + c.val) = ⟨lo + c.val, by omega⟩ :=
  Fin.ext (Nat.mod_eq_of_lt (by omega))

theorem emb_slab (g : Fin 4) {o : Fin 2 → ℕ} (ho : o = ![0, 128 * g.val]) (h : ∀ a, o a + S256x128.size a ≤ S256x512.size a)
    (r : Fin 256) (d : Fin 128) : (Rect.unit (s := S256x512) o S256x128.size h).emb (ix2 r d) = ix2 r (col g d) := by
  subst ho
  funext a; apply Fin.ext; revert a
  refine Fin.forall_fin_two.mpr ⟨?_, ?_⟩
  · show 0 + 1 * r.val = r.val; omega
  · show 128 * g.val + 1 * d.val = 128 * g.val + d.val; omega

theorem emb_tile (g : Fin 4) {lo : ℕ} (hlo : lo + 256 ≤ 2048) {o : Fin 2 → ℕ} (ho : o = ![lo, 128 * g.val])
    (h : ∀ a, o a + S256x128.size a ≤ S2048x512.size a) (r : Fin 256) (d : Fin 128) :
    (Rect.unit (s := S2048x512) o S256x128.size h).emb (ix2 r d) = ix2 (key (lo + r.val)) (col g d) := by
  subst ho
  rw [key_lo hlo]
  funext a; apply Fin.ext; revert a
  refine Fin.forall_fin_two.mpr ⟨?_, ?_⟩
  · show lo + 1 * r.val = lo + r.val; omega
  · show 128 * g.val + 1 * d.val = 128 * g.val + d.val; omega

theorem emb_carry (g : Fin 4) {o : Fin 3 → ℕ} (ho : o = ![g.val, 0, 0]) (h : ∀ a, o a + S1x256x1.size a ≤ S4x256x1.size a)
    (r : Fin 256) : (Rect.unit (s := S4x256x1) o S1x256x1.size h).emb (ix3 0 r 0) = ix3 g r 0 := by
  subst ho
  funext a; apply Fin.ext
  match a with
  | 0 => rfl
  | 1 => show 0 + 1 * r.val = r.val; omega
  | 2 => rfl

theorem emb_bias (g hg : Fin 4) {o : Fin 1 → ℕ} (ho : o = ![hg.val * 4 + g.val]) (h : ∀ a, o a + S1.size a ≤ S16.size a) (x : S1.Idx) :
    (Rect.unit (s := S16) o S1.size h).emb x = ix1 ⟨hg.val * 4 + g.val, by omega⟩ := by
  subst ho
  funext a; apply Fin.ext
  match a with
  | 0 =>
    have h0 : (x 0).val = 0 := by have := (x 0).isLt; change (x 0).val < 1 at this; omega
    show hg.val * 4 + g.val + 1 * (x 0).val = _
    rw [h0]; rfl

section Heads
variable {Q : FVec Ideal S256x512 .bf16} {K V : FVec Ideal S2048x512 .bf16} {B : FVec Ideal S16 .f32} {hg : Fin 4} {i2 lo : ℕ}
  {A : FVec Ideal S256x512 .f32} {C : FVec Ideal S4x256x1 .f32}
  {q k v : FVec Ideal S256x128 .bf16} {b : Ideal .f32} {cs : FVec Ideal S1x256x1 .f32} {a : FVec Ideal S256x128 .f32} {g : Fin 4}

theorem head_z (hlo : lo + 256 ≤ 2048)
    (hq : ∀ (r : Fin 256) (d : Fin 128), q (ix2 r d) = Q (ix2 r (col g d)))
    (hk : ∀ (r : Fin 256) (d : Fin 128), k (ix2 r d) = K (ix2 (key (lo + r.val)) (col g d)))
    (hb : b = B (ix1 ⟨hg.val * 4 + g.val, by omega⟩)) (r : Fin 256) (c : Fin 256) :
    zT q k b (ix2 r c) = zeta Q K B hg g r (lo + c.val) := by
  rw [zT_apply, zeta, hb]
  simp only [hq, hk]

/-- One head of one whole tile, from the blocks it loads: the accumulator. -/
theorem head_acc (hinv : Inv Q K V B hg i2 (lo + 256) A C) (hlo : lo + 256 ≤ 2048) (ht : lo + 256 ≤ i2 * 256)
    (hq : ∀ (r : Fin 256) (d : Fin 128), q (ix2 r d) = Q (ix2 r (col g d)))
    (hk : ∀ (r : Fin 256) (d : Fin 128), k (ix2 r d) = K (ix2 (key (lo + r.val)) (col g d)))
    (hb : b = B (ix1 ⟨hg.val * 4 + g.val, by omega⟩))
    (hcs : ∀ r : Fin 256, cs (ix3 0 r 0) = C (ix3 g r 0))
    (ha : ∀ (r : Fin 256) (d : Fin 128), a (ix2 r d) = A (ix2 r (col g d)))
    (hv : ∀ (r : Fin 256) (d : Fin 128), v (ix2 r d) = V (ix2 (key (lo + r.val)) (col g d))) (r : Fin 256) (d : Fin 128) :
    accT (zT q k b) cs a v (ix2 r d) = accAt Q K V B hg i2 lo (ix2 r (col g d)) := by
  rw [accAt_col]
  exact accT_step hlo (by omega) (fun c => head_z hlo hq hk hb r c) ((hcs r).trans (hinv.car g r)) (fun c => hv c d) ((ha r d).trans (hinv.acc r g d))

/-- The carry. -/
theorem head_car (hinv : Inv Q K V B hg i2 (lo + 256) A C) (hlo : lo + 256 ≤ 2048) (ht : lo + 256 ≤ i2 * 256)
    (hq : ∀ (r : Fin 256) (d : Fin 128), q (ix2 r d) = Q (ix2 r (col g d)))
    (hk : ∀ (r : Fin 256) (d : Fin 128), k (ix2 r d) = K (ix2 (key (lo + r.val)) (col g d)))
    (hb : b = B (ix1 ⟨hg.val * 4 + g.val, by omega⟩))
    (hcs : ∀ r : Fin 256, cs (ix3 0 r 0) = C (ix3 g r 0)) (r : Fin 256) :
    csT (k0_pay17 (F := Ideal) (zT q k b)) cs (ix3 0 r 0) = carAt Q K B hg i2 lo (ix3 g r 0) :=
  csT_step (t := i2 * 256 + r.val) hlo (by omega) (fun c => head_z hlo hq hk hb r c) ((hcs r).trans (hinv.car g r))

/-- The same of the diagonal tile. -/
theorem diag_acc (hinv : Inv Q K V B hg i2 (lo + 256) A C) (hlo : lo + 256 ≤ 2048) (ht : lo = i2 * 256)
    (hq : ∀ (r : Fin 256) (d : Fin 128), q (ix2 r d) = Q (ix2 r (col g d)))
    (hk : ∀ (r : Fin 256) (d : Fin 128), k (ix2 r d) = K (ix2 (key (lo + r.val)) (col g d)))
    (hb : b = B (ix1 ⟨hg.val * 4 + g.val, by omega⟩))
    (hcs : ∀ r : Fin 256, cs (ix3 0 r 0) = C (ix3 g r 0))
    (ha : ∀ (r : Fin 256) (d : Fin 128), a (ix2 r d) = A (ix2 r (col g d)))
    (hv : ∀ (r : Fin 256) (d : Fin 128), v (ix2 r d) = V (ix2 (key (lo + r.val)) (col g d))) (r : Fin 256) (d : Fin 128) :
    accD (zT q k b) cs a v (ix2 r d) = accAt Q K V B hg i2 lo (ix2 r (col g d)) := by
  rw [accAt_col]
  exact accD_step hlo (by omega) (fun c => head_z hlo hq hk hb r c) ((hcs r).trans (hinv.car g r)) (fun c => hv c d) ((ha r d).trans (hinv.acc r g d))

theorem diag_car (hinv : Inv Q K V B hg i2 (lo + 256) A C) (hlo : lo + 256 ≤ 2048) (ht : lo = i2 * 256)
    (hq : ∀ (r : Fin 256) (d : Fin 128), q (ix2 r d) = Q (ix2 r (col g d)))
    (hk : ∀ (r : Fin 256) (d : Fin 128), k (ix2 r d) = K (ix2 (key (lo + r.val)) (col g d)))
    (hb : b = B (ix1 ⟨hg.val * 4 + g.val, by omega⟩))
    (hcs : ∀ r : Fin 256, cs (ix3 0 r 0) = C (ix3 g r 0)) (r : Fin 256) :
    csT (lkD (zT q k b)) cs (ix3 0 r 0) = carAt Q K B hg i2 lo (ix3 g r 0) :=
  csD_step (t := i2 * 256 + r.val) hlo (by omega) (fun c => head_z hlo hq hk hb r c) ((hcs r).trans (hinv.car g r))

end Heads

set_option maxHeartbeats 400000 in
/-- A trip's accumulators, given those of the tiles after it. -/
theorem trip_acc (hinv : Inv (arg9.view.read _ X9) (arg5.view.read _ X5) (arg6.view.read _ X6) (arg3.view.read _ X3) (i 1) (i 2).val
      (((i 2).val - 1 - k.val) * 256 + 256) (arg10.view.read _ f10) (arg11.view.read _ f11)) (y : S256x512.Idx) :
    arg10.view.read _ (arg10.view.writes _ f10 (tripL_k0_t1 (F := Ideal) 𝒱 c bd i arg3 harg3 arg4 harg4 arg5 harg5 arg6 harg6 arg7 harg7 arg8 harg8
      arg9 harg9 arg10 harg10 arg11 harg11 arg1 arg2 k0_pay76 X3 X5 X6 X9 k w f10 f11).1) y
      = accAt (arg9.view.read _ X9) (arg5.view.read _ X5) (arg6.view.read _ X6) (arg3.view.read _ X3) (i 1) (i 2).val (((i 2).val - 1 - k.val) * 256) y := by
  have hk : k.val < (i 2).val := trips1 i ▸ k.isLt
  have h8 := i2_lt i
  have hlo : ((i 2).val - 1 - k.val) * 256 + 256 ≤ 2048 := by omega
  have ht : ((i 2).val - 1 - k.val) * 256 + 256 ≤ (i 2).val * 256 := by omega
  refine View.read_writes_apply_of_pieces (Val := Elt Ideal) arg10.view f10 _ _ ?_ y ?_
  · unfold tripL_k0_t1 trip_k0_t1
    dsimp only
    simp only [List.forall_mem_cons, List.forall_mem_nil]
    refine ⟨?_, ?_, ?_, ?_, ?_⟩
    · intro x
      idx_vars x
      refine Eq.trans ?_ (congrArg _ (emb_slab 3 rfl _ x0 x1)).symm
      refine Eq.trans (congrFun (acc3_eq _ _ _ _ _ _) _) ?_
      exact head_acc (g := 3) hinv hlo ht (fun r d => congrArg _ (emb_slab 3 rfl _ r d)) (fun r d => congrArg _ (emb_tile 3 hlo (off10 i k) _ r d))
        (congrArg _ (emb_bias 3 (i 1) (off7 i 3) _ _)) (fun r => congrArg _ (emb_carry 3 rfl _ r)) (fun r d => congrArg _ (emb_slab 3 rfl _ r d))
        (fun r d => congrArg _ (emb_tile 3 hlo (off10 i k) _ r d)) x0 x1
    · intro x
      idx_vars x
      refine Eq.trans ?_ (congrArg _ (emb_slab 2 rfl _ x0 x1)).symm
      refine Eq.trans (congrFun (acc2_eq _ _ _ _ _ _) _) ?_
      exact head_acc (g := 2) hinv hlo ht (fun r d => congrArg _ (emb_slab 2 rfl _ r d)) (fun r d => congrArg _ (emb_tile 2 hlo (off9 i k) _ r d))
        (congrArg _ (emb_bias 2 (i 1) (off7 i 2) _ _)) (fun r => congrArg _ (emb_carry 2 rfl _ r)) (fun r d => congrArg _ (emb_slab 2 rfl _ r d))
        (fun r d => congrArg _ (emb_tile 2 hlo (off9 i k) _ r d)) x0 x1
    · intro x
      idx_vars x
      refine Eq.trans ?_ (congrArg _ (emb_slab 1 rfl _ x0 x1)).symm
      refine Eq.trans (congrFun (acc1_eq _ _ _ _ _ _) _) ?_
      exact head_acc (g := 1) hinv hlo ht (fun r d => congrArg _ (emb_slab 1 rfl _ r d)) (fun r d => congrArg _ (emb_tile 1 hlo (off8 i k) _ r d))
        (congrArg _ (emb_bias 1 (i 1) (off7 i 1) _ _)) (fun r => congrArg _ (emb_carry 1 rfl _ r)) (fun r d => congrArg _ (emb_slab 1 rfl _ r d))
        (fun r d => congrArg _ (emb_tile 1 hlo (off8 i k) _ r d)) x0 x1
    · intro x
      idx_vars x
      refine Eq.trans ?_ (congrArg _ (emb_slab 0 rfl _ x0 x1)).symm
      exact head_acc (g := 0) hinv hlo ht (fun r d => congrArg _ (emb_slab 0 rfl _ r d)) (fun r d => congrArg _ (emb_tile 0 hlo (off6 i k) _ r d))
        (congrArg _ (emb_bias 0 (i 1) (off7 i 0) _ _)) (fun r => congrArg _ (emb_carry 0 rfl _ r)) (fun r d => congrArg _ (emb_slab 0 rfl _ r d))
        (fun r d => congrArg _ (emb_tile 0 hlo (off6 i k) _ r d)) x0 x1
    · intro p hp; exact absurd hp List.not_mem_nil
  · exact View.cover_of_tiledL _ ![256, 128] (by sl_kernel_rfl) y

set_option maxHeartbeats 400000 in
/-- A trip's carries, given those of the tiles after it. -/
theorem trip_car (hinv : Inv (arg9.view.read _ X9) (arg5.view.read _ X5) (arg6.view.read _ X6) (arg3.view.read _ X3) (i 1) (i 2).val
      (((i 2).val - 1 - k.val) * 256 + 256) (arg10.view.read _ f10) (arg11.view.read _ f11)) (y : S4x256x1.Idx) :
    arg11.view.read _ (arg11.view.writes _ f11 (tripL_k0_t1 (F := Ideal) 𝒱 c bd i arg3 harg3 arg4 harg4 arg5 harg5 arg6 harg6 arg7 harg7 arg8 harg8
      arg9 harg9 arg10 harg10 arg11 harg11 arg1 arg2 k0_pay76 X3 X5 X6 X9 k w f10 f11).2) y
      = carAt (arg9.view.read _ X9) (arg5.view.read _ X5) (arg3.view.read _ X3) (i 1) (i 2).val (((i 2).val - 1 - k.val) * 256) y := by
  have hk : k.val < (i 2).val := trips1 i ▸ k.isLt
  have h8 := i2_lt i
  have hlo : ((i 2).val - 1 - k.val) * 256 + 256 ≤ 2048 := by omega
  have ht : ((i 2).val - 1 - k.val) * 256 + 256 ≤ (i 2).val * 256 := by omega
  refine View.read_writes_apply_of_pieces (Val := Elt Ideal) arg11.view f11 _ _ ?_ y ?_
  · unfold tripL_k0_t1 trip_k0_t1
    dsimp only
    simp only [List.forall_mem_cons, List.forall_mem_nil]
    refine ⟨?_, ?_, ?_, ?_, ?_⟩
    · intro x
      idx_vars x
      obtain rfl : x0 = 0 := Subsingleton.elim _ _
      obtain rfl : x2 = 0 := Subsingleton.elim _ _
      refine Eq.trans ?_ (congrArg _ (emb_carry 3 rfl _ x1)).symm
      refine Eq.trans (congrFun (cs3_eq _ _ _ _) _) ?_
      exact head_car (g := 3) hinv hlo ht (fun r d => congrArg _ (emb_slab 3 rfl _ r d)) (fun r d => congrArg _ (emb_tile 3 hlo (off10 i k) _ r d))
        (congrArg _ (emb_bias 3 (i 1) (off7 i 3) _ _)) (fun r => congrArg _ (emb_carry 3 rfl _ r)) x1
    · intro x
      idx_vars x
      obtain rfl : x0 = 0 := Subsingleton.elim _ _
      obtain rfl : x2 = 0 := Subsingleton.elim _ _
      refine Eq.trans ?_ (congrArg _ (emb_carry 2 rfl _ x1)).symm
      refine Eq.trans (congrFun (cs2_eq _ _ _ _) _) ?_
      exact head_car (g := 2) hinv hlo ht (fun r d => congrArg _ (emb_slab 2 rfl _ r d)) (fun r d => congrArg _ (emb_tile 2 hlo (off9 i k) _ r d))
        (congrArg _ (emb_bias 2 (i 1) (off7 i 2) _ _)) (fun r => congrArg _ (emb_carry 2 rfl _ r)) x1
    · intro x
      idx_vars x
      obtain rfl : x0 = 0 := Subsingleton.elim _ _
      obtain rfl : x2 = 0 := Subsingleton.elim _ _
      refine Eq.trans ?_ (congrArg _ (emb_carry 1 rfl _ x1)).symm
      refine Eq.trans (congrFun (cs1_eq _ _ _ _) _) ?_
      exact head_car (g := 1) hinv hlo ht (fun r d => congrArg _ (emb_slab 1 rfl _ r d)) (fun r d => congrArg _ (emb_tile 1 hlo (off8 i k) _ r d))
        (congrArg _ (emb_bias 1 (i 1) (off7 i 1) _ _)) (fun r => congrArg _ (emb_carry 1 rfl _ r)) x1
    · intro x
      idx_vars x
      obtain rfl : x0 = 0 := Subsingleton.elim _ _
      obtain rfl : x2 = 0 := Subsingleton.elim _ _
      refine Eq.trans ?_ (congrArg _ (emb_carry 0 rfl _ x1)).symm
      refine Eq.trans (congrFun (cs0_eq _ _ _ _) _) ?_
      exact head_car (g := 0) hinv hlo ht (fun r d => congrArg _ (emb_slab 0 rfl _ r d)) (fun r d => congrArg _ (emb_tile 0 hlo (off6 i k) _ r d))
        (congrArg _ (emb_bias 0 (i 1) (off7 i 0) _ _)) (fun r => congrArg _ (emb_carry 0 rfl _ r)) x1
    · intro p hp; exact absurd hp List.not_mem_nil
  · exact View.cover_of_tiledL _ ![1, 256, 1] (by sl_kernel_rfl) y

theorem inv_of_at {Q : FVec Ideal S256x512 .bf16} {K V : FVec Ideal S2048x512 .bf16} {B : FVec Ideal S16 .f32} {hg : Fin 4} {i2 lo : ℕ}
    {A : FVec Ideal S256x512 .f32} {C : FVec Ideal S4x256x1 .f32} (hA : ∀ y, A y = accAt Q K V B hg i2 lo y)
    (hC : ∀ y, C y = carAt Q K B hg i2 lo y) : Inv Q K V B hg i2 lo A C :=
  ⟨fun r g d => (hA _).trans (accAt_col Q K V B hg i2 lo r g d), fun g r => hC _⟩

/-- THE LOOP: after `n` trips the accumulators and carries are those of the keys from the tile `n` before the diagonal on. -/
theorem loop_inv (hinv : Inv (arg9.view.read _ X9) (arg5.view.read _ X5) (arg6.view.read _ X6) (arg3.view.read _ X3) (i 1) (i 2).val
      ((i 2).val * 256) (arg10.view.read _ f10) (arg11.view.read _ f11)) (n : ℕ) (hn : n ≤ (i 2).val) :
    Inv (arg9.view.read _ X9) (arg5.view.read _ X5) (arg6.view.read _ X6) (arg3.view.read _ X3) (i 1) (i 2).val (((i 2).val - n) * 256)
      (arg10.view.read _ (arg10.view.writes _ f10 (st_k0_t1 (F := Ideal) 𝒱 c bd i arg3 harg3 arg4 harg4 arg5 harg5 arg6 harg6 arg7 harg7 arg8 harg8
      arg9 harg9 arg10 harg10 arg11 harg11 arg1 arg2 k0_pay76 X3 X5 X6 X9 f10 f11 w n).2.1))
      (arg11.view.read _ (arg11.view.writes _ f11 (st_k0_t1 (F := Ideal) 𝒱 c bd i arg3 harg3 arg4 harg4 arg5 harg5 arg6 harg6 arg7 harg7 arg8 harg8
      arg9 harg9 arg10 harg10 arg11 harg11 arg1 arg2 k0_pay76 X3 X5 X6 X9 f10 f11 w n).2.2)) := by
  induction n with
  | zero => exact hinv
  | succ n ih =>
    have ih' := ih (by omega)
    have hk : n < (k0_t1_loop i).trips := (trips1 i).symm ▸ hn
    have e1 : ((i 2).val - n) * 256 = ((i 2).val - 1 - (⟨n, hk⟩ : Fin (k0_t1_loop i).trips).val) * 256 + 256 := by
      show _ = ((i 2).val - 1 - n) * 256 + 256; omega
    have e2 : ((i 2).val - (n + 1)) * 256 = ((i 2).val - 1 - (⟨n, hk⟩ : Fin (k0_t1_loop i).trips).val) * 256 := by
      show _ = ((i 2).val - 1 - n) * 256; omega
    rw [e1] at ih'
    rw [e2, st_k0_t1_succ (F := Ideal) 𝒱 c bd i arg3 harg3 arg4 harg4 arg5 harg5 arg6 harg6 arg7 harg7 arg8 harg8
      arg9 harg9 arg10 harg10 arg11 harg11 arg1 arg2 k0_pay76 X3 X5 X6 X9 f10 f11 w ⟨n, hk⟩]
    dsimp only
    rw [View.writes_append, View.writes_append]
    exact inv_of_at (trip_acc 𝒱 c bd i arg3 harg3 arg4 harg4 arg5 harg5 arg6 harg6 arg7 harg7 arg8 harg8
      arg9 harg9 arg10 harg10 arg11 harg11 arg1 arg2 X3 X5 X6 X9 ⟨n, hk⟩ _ _ _ ih') (trip_car 𝒱 c bd i arg3 harg3 arg4 harg4 arg5 harg5 arg6 harg6 arg7 harg7 arg8 harg8
      arg9 harg9 arg10 harg10 arg11 harg11 arg1 arg2 X3 X5 X6 X9 ⟨n, hk⟩ _ _ _ ih')

end Cert.Sb

end
-- ==== Proof.Sb.Diag.lean ====
/- The diagonal tile, and the read of the accumulators after the loop. -/
module

public import proofs.«01_k».proof.Proof.Sb.Trip

@[expose] public section

set_option maxRecDepth 16384

noncomputable section

namespace Cert.Sb

open Idealize.ShloMosaic Idealize.ShloMosaic.TcCoe Idealize.SL.Sem
open Cert.KernelIdeal Cert.KernelIdeal.Gen

/-! The four heads' terms of the diagonal tile are one function of what they load. -/
section Eqs
variable (q k : FVec Ideal S256x128 .bf16) (b : Ideal .f32) (cs cs' : FVec Ideal S1x256x1 .f32) (a : FVec Ideal S256x128 .f32)
  (v : FVec Ideal S256x128 .bf16)

theorem accd0_eq : k0_pay112 (F := Ideal) maskT (k0_pay111 k0_pay76 (k0_pay95 maskT (k0_pay90 q k b)) (k0_pay96 (k0_pay90 q k b)) cs)
    (FloatOps.ofBits .f32 0#32) a v = accD (zT q k b) cs a v := by
  rw [zd0_eq, lbd0_eq]; rfl
theorem accd1_eq : k0_pay114 (F := Ideal) maskT (k0_pay101 (k0_pay91 q k b) (k0_pay97 (k0_pay91 q k b)) (k0_pay98 (k0_pay91 q k b)))
    (k0_pay108 k0_pay76 (k0_pay100 maskT (k0_pay97 (k0_pay91 q k b)) (k0_pay98 (k0_pay91 q k b))) cs) a v = accD (zT q k b) cs a v := by
  rw [zd1_eq, lbd1_eq, lkd1_eq]; rfl
theorem accd2_eq : k0_pay117 (F := Ideal) maskT (k0_pay104 (k0_pay92 q k (constant S256x256 .f32 0#32) b))
    (k0_pay109 k0_pay76 (k0_pay103 maskT (k0_pay92 q k (constant S256x256 .f32 0#32) b)) cs) a v = accD (zT q k b) cs a v := by
  rw [zd2_eq, lbd2_eq, lkd2_eq]; rfl
theorem accd3_eq : k0_pay1 (F := Ideal) a (k0_pay119 maskT (k0_pay107 (k0_pay93 q k b) (k0_pay105 (k0_pay93 q k b)))
    (k0_pay110 k0_pay76 (k0_pay106 maskT (k0_pay93 q k b)) cs)) v = accD (zT q k b) cs a v := by
  rw [zd3_eq, lkd3_eq]; rfl
theorem csd0_eq : k0_pay113 (F := Ideal) (k0_pay95 maskT (k0_pay90 q k b)) cs = csT (lkD (zT q k b)) cs := by
  rw [zd0_eq]; rfl
theorem csd1_eq : k0_pay116 (F := Ideal) (k0_pay100 maskT (k0_pay97 (k0_pay91 q k b)) (k0_pay98 (k0_pay91 q k b))) (k0_pay115 cs)
    = csT (lkD (zT q k b)) cs := by
  rw [zd1_eq, lkd1_eq]; rfl
theorem csd2_eq : k0_pay118 (F := Ideal) (k0_pay103 maskT (k0_pay92 q k (constant S256x256 .f32 0#32) b)) cs = csT (lkD (zT q k b)) cs := by
  rw [zd2_eq, lkd2_eq]; rfl
theorem csd3_eq : k0_pay2 (F := Ideal) (k0_pay106 maskT (k0_pay93 q k b)) cs = csT (lkD (zT q k b)) cs := by
  rw [zd3_eq, lkd3_eq]; rfl
end Eqs

/-! The stores of the four heads' slabs, read back. -/
section Slabs
variable {κ' : Kind} {sp : Space} {e : EltTy} {Val : EltTy → Type} (v : View sig κ' sp S256x512 e) (f : v.ty.Contents Val)
  {o : Fin 2 → ℕ} (h : ∀ a, o a + S256x128.size a ≤ S256x512.size a) (w : S256x128.Idx → Val e) (L : List (View.Piece Val S256x512 e))

theorem slab_hit (g : Fin 4) (ho : o = ![0, 128 * g.val]) (r : Fin 256) (d : Fin 128) :
    v.read Val (v.writes Val f ((⟨Rect.unit o S256x128.size h, w⟩ : View.Piece Val S256x512 e) :: L)) (ix2 r (col g d)) = w (ix2 r d) := by
  rw [← emb_slab g ho h r d]
  exact View.read_writes_cons_emb (Val := Val) v f (Rect.unit o S256x128.size h) w L (ix2 r d)

theorem slab_miss (g' : Fin 4) (ho : o = ![0, 128 * g'.val]) (g : Fin 4) (hg : g.val ≠ g'.val) (r : Fin 256) (d : Fin 128) :
    v.read Val (v.writes Val f ((⟨Rect.unit o S256x128.size h, w⟩ : View.Piece Val S256x512 e) :: L)) (ix2 r (col g d))
      = v.read Val (v.writes Val f L) (ix2 r (col g d)) := by
  subst ho
  refine View.read_writes_cons_miss_of_axis (Val := Val) v f _ L _ 1 (128 * g'.val) 128 rfl rfl rfl ?_
  show 128 * g.val + d.val < 128 * g'.val ∨ 128 * g'.val + 128 ≤ 128 * g.val + d.val
  omega

theorem slabs_read {o0 o1 o2 o3 : Fin 2 → ℕ} (e0 : o0 = ![0, 0]) (e1 : o1 = ![0, 128]) (e2 : o2 = ![0, 256]) (e3 : o3 = ![0, 384])
    (h0 : ∀ a, o0 a + S256x128.size a ≤ S256x512.size a) (h1 : ∀ a, o1 a + S256x128.size a ≤ S256x512.size a)
    (h2 : ∀ a, o2 a + S256x128.size a ≤ S256x512.size a) (h3 : ∀ a, o3 a + S256x128.size a ≤ S256x512.size a)
    (w0 w1 w2 w3 : S256x128.Idx → Val e) (P : Fin 256 → Fin 4 → Fin 128 → Val e)
    (p0 : ∀ r d, w0 (ix2 r d) = P r 0 d) (p1 : ∀ r d, w1 (ix2 r d) = P r 1 d) (p2 : ∀ r d, w2 (ix2 r d) = P r 2 d)
    (p3 : ∀ r d, w3 (ix2 r d) = P r 3 d) (r : Fin 256) (g : Fin 4) (d : Fin 128) :
    v.read Val (v.writes Val f ((⟨Rect.unit o3 S256x128.size h3, w3⟩ : View.Piece Val S256x512 e) :: ⟨Rect.unit o2 S256x128.size h2, w2⟩ ::
      ⟨Rect.unit o1 S256x128.size h1, w1⟩ :: ⟨Rect.unit o0 S256x128.size h0, w0⟩ :: L)) (ix2 r (col g d)) = P r g d := by
  match g with
  | 0 => rw [slab_miss v f _ _ _ 3 e3 0 (by decide), slab_miss v f _ _ _ 2 e2 0 (by decide), slab_miss v f _ _ _ 1 e1 0 (by decide),
      slab_hit v f _ _ _ 0 e0, p0]
  | 1 => rw [slab_miss v f _ _ _ 3 e3 1 (by decide), slab_miss v f _ _ _ 2 e2 1 (by decide), slab_hit v f _ _ _ 1 e1, p1]
  | 2 => rw [slab_miss v f _ _ _ 3 e3 2 (by decide), slab_hit v f _ _ _ 2 e2, p2]
  | 3 => rw [slab_hit v f _ _ _ 3 e3, p3]

end Slabs

/-! The same of the carries. -/
section Carries
variable {κ' : Kind} {sp : Space} {e : EltTy} {Val : EltTy → Type} (v : View sig κ' sp S4x256x1 e) (f : v.ty.Contents Val)
  {o : Fin 3 → ℕ} (h : ∀ a, o a + S1x256x1.size a ≤ S4x256x1.size a) (w : S1x256x1.Idx → Val e) (L : List (View.Piece Val S4x256x1 e))

theorem carry_hit (g : Fin 4) (ho : o = ![g.val, 0, 0]) (r : Fin 256) :
    v.read Val (v.writes Val f ((⟨Rect.unit o S1x256x1.size h, w⟩ : View.Piece Val S4x256x1 e) :: L)) (ix3 g r 0) = w (ix3 0 r 0) := by
  rw [← emb_carry g ho h r]
  exact View.read_writes_cons_emb (Val := Val) v f (Rect.unit o S1x256x1.size h) w L (ix3 0 r 0)

theorem carry_miss (g' : Fin 4) (ho : o = ![g'.val, 0, 0]) (g : Fin 4) (hg : g.val ≠ g'.val) (r : Fin 256) :
    v.read Val (v.writes Val f ((⟨Rect.unit o S1x256x1.size h, w⟩ : View.Piece Val S4x256x1 e) :: L)) (ix3 g r 0)
      = v.read Val (v.writes Val f L) (ix3 g r 0) := by
  subst ho
  refine View.read_writes_cons_miss_of_axis (Val := Val) v f _ L _ 0 g'.val 1 rfl rfl rfl ?_
  show g.val < g'.val ∨ g'.val + 1 ≤ g.val
  omega

theorem carries_read {o0 o1 o2 o3 : Fin 3 → ℕ} (e0 : o0 = ![0, 0, 0]) (e1 : o1 = ![1, 0, 0]) (e2 : o2 = ![2, 0, 0]) (e3 : o3 = ![3, 0, 0])
    (h0 : ∀ a, o0 a + S1x256x1.size a ≤ S4x256x1.size a) (h1 : ∀ a, o1 a + S1x256x1.size a ≤ S4x256x1.size a)
    (h2 : ∀ a, o2 a + S1x256x1.size a ≤ S4x256x1.size a) (h3 : ∀ a, o3 a + S1x256x1.size a ≤ S4x256x1.size a)
    (w0 w1 w2 w3 : S1x256x1.Idx → Val e) (P : Fin 4 → Fin 256 → Val e)
    (p0 : ∀ r, w0 (ix3 0 r 0) = P 0 r) (p1 : ∀ r, w1 (ix3 0 r 0) = P 1 r) (p2 : ∀ r, w2 (ix3 0 r 0) = P 2 r)
    (p3 : ∀ r, w3 (ix3 0 r 0) = P 3 r) (g : Fin 4) (r : Fin 256) :
    v.read Val (v.writes Val f ((⟨Rect.unit o3 S1x256x1.size h3, w3⟩ : View.Piece Val S4x256x1 e) :: ⟨Rect.unit o2 S1x256x1.size h2, w2⟩ ::
      ⟨Rect.unit o1 S1x256x1.size h1, w1⟩ :: ⟨Rect.unit o0 S1x256x1.size h0, w0⟩ :: L)) (ix3 g r 0) = P g r := by
  match g with
  | 0 => rw [carry_miss v f _ _ _ 3 e3 0 (by decide), carry_miss v f _ _ _ 2 e2 0 (by decide), carry_miss v f _ _ _ 1 e1 0 (by decide),
      carry_hit v f _ _ _ 0 e0, p0]
  | 1 => rw [carry_miss v f _ _ _ 3 e3 1 (by decide), carry_miss v f _ _ _ 2 e2 1 (by decide), carry_hit v f _ _ _ 1 e1, p1]
  | 2 => rw [carry_miss v f _ _ _ 3 e3 2 (by decide), carry_hit v f _ _ _ 2 e2, p2]
  | 3 => rw [carry_hit v f _ _ _ 3 e3, p3]

end Carries

/-- Before the diagonal tile there is nothing: accumulators and carries at zero. -/
theorem inv_zero (Q : FVec Ideal S256x512 .bf16) (K V : FVec Ideal S2048x512 .bf16) (B : FVec Ideal S16 .f32) (hg : Fin 4) (i2 : ℕ) :
    Inv Q K V B hg i2 (i2 * 256 + 256) (fun _ => (0 : EReal)) (fun _ => (0 : EReal)) :=
  ⟨fun r g d => (acc_of_le _ _ _ (by have := r.isLt; omega)).symm, fun g r => (car_of_le _ _ (by have := r.isLt; omega)).symm⟩

variable (c : Dev nD) (i : grid0.Coords) (arg3 : Memref sig .tc .smem S16 .f32) (harg3 : arg3.IsWhole)
  (arg4 : Memref sig .tc .vmem S1x256x512 .f32) (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S1x1x128 .f32) (harg7 : arg7.IsWhole)
  (arg8 : Memref sig .tc .vmem S256x512 .bf16) (harg8 : arg8.IsWhole) (arg9 : Memref sig .tc .vmem S256x512 .bf16) (harg9 : arg9.IsWhole)
  (arg10 : Memref sig .tc .vmem S256x512 .f32) (harg10 : arg10.IsWhole) (arg11 : Memref sig .tc .vmem S4x256x1 .f32) (harg11 : arg11.IsWhole)
  (arg1 arg2 : BitVec 32)
  (X3 : BufTy.Contents (Elt Ideal) arg3.view.ty) (X5 : BufTy.Contents (Elt Ideal) arg5.view.ty) (X6 : BufTy.Contents (Elt Ideal) arg6.view.ty)
  (X9 : BufTy.Contents (Elt Ideal) arg9.view.ty) (w w' : BitVec 32)
  (L10 : List (View.Piece (Elt Ideal) S256x512 .f32)) (L11 : List (View.Piece (Elt Ideal) S4x256x1 .f32))
  (f10 : BufTy.Contents (Elt Ideal) arg10.view.ty) (f11 : BufTy.Contents (Elt Ideal) arg11.view.ty)
  (g10 : BufTy.Contents (Elt Ideal) arg10.view.ty) (g11 : BufTy.Contents (Elt Ideal) arg11.view.ty)

/-- After the loop, and the empty rest of it, the accumulators hold the weighted values of all keys. -/
theorem end_read (hinv : Inv (arg9.view.read _ X9) (arg5.view.read _ X5) (arg6.view.read _ X6) (arg3.view.read _ X3) (i 1) (i 2).val
      ((i 2).val * 256) (arg10.view.read _ (arg10.view.writes _ f10 L10)) (arg11.view.read _ (arg11.view.writes _ f11 L11)))
    (r : Fin 256) (g : Fin 4) (d : Fin 128) :
    arg10.view.read (Elt Ideal) (arg10.view.writes (Elt Ideal) f10
      ((st_k0_t2 (F := Ideal) Variants.none c none i arg3 harg3 arg4 harg4 arg5 harg5 arg6 harg6 arg7 harg7 arg8 harg8 arg9 harg9 arg10 harg10 arg11 harg11
          arg1 arg2 k0_pay76 w' X3 X5 X6 X9 g10 g11
          (st_k0_t1 (F := Ideal) Variants.none c none i arg3 harg3 arg4 harg4 arg5 harg5 arg6 harg6 arg7 harg7 arg8 harg8 arg9 harg9 arg10 harg10 arg11 harg11
            arg1 arg2 k0_pay76 X3 X5 X6 X9 (arg10.view.writes _ f10 L10) (arg11.view.writes _ f11 L11) w (k0_t1_loop i).trips).1
          (k0_t2_loop i).trips).2.1
        ++ ((st_k0_t1 (F := Ideal) Variants.none c none i arg3 harg3 arg4 harg4 arg5 harg5 arg6 harg6 arg7 harg7 arg8 harg8 arg9 harg9 arg10 harg10 arg11 harg11
            arg1 arg2 k0_pay76 X3 X5 X6 X9 (arg10.view.writes _ f10 L10) (arg11.view.writes _ f11 L11) w (k0_t1_loop i).trips).2.1 ++ L10)))
      (ix2 r (col g d))
      = acc (zeta (arg9.view.read _ X9) (arg5.view.read _ X5) (arg3.view.read _ X3) (i 1) g r) ((i 2).val * 256 + r.val)
          (vcol (arg6.view.read _ X6) g d) 0 := by
  rw [trips2 i, trips1 i]
  have h := (loop_inv Variants.none c none i arg3 harg3 arg4 harg4 arg5 harg5 arg6 harg6 arg7 harg7 arg8 harg8
    arg9 harg9 arg10 harg10 arg11 harg11 arg1 arg2 X3 X5 X6 X9 w _ _ hinv (i 2).val le_rfl).acc r g d
  rw [Nat.sub_self, Nat.zero_mul, ← View.writes_append] at h
  exact h

end Cert.Sb

end
-- ==== Proof.Sb.Point.lean ====
/- One point of the attention kernel's grid: the block it leaves, read at an index. -/
module

public import proofs.«01_k».proof.Proof.Sb.Diag

@[expose] public section

set_option maxRecDepth 16384

noncomputable section

namespace Cert.Sb

open Idealize.ShloMosaic Idealize.ShloMosaic.TcCoe Idealize.SL.Sem
open Cert.KernelIdeal Cert.KernelIdeal.Gen

variable (c : Dev nD) (i : grid0.Coords) (arg3 : Memref sig .tc .smem S16 .f32) (harg3 : arg3.IsWhole)
  (arg4 : Memref sig .tc .vmem S1x256x512 .f32) (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S1x1x128 .f32) (harg7 : arg7.IsWhole)
  (arg8 : Memref sig .tc .vmem S256x512 .bf16) (harg8 : arg8.IsWhole) (arg9 : Memref sig .tc .vmem S256x512 .bf16) (harg9 : arg9.IsWhole)
  (arg10 : Memref sig .tc .vmem S256x512 .f32) (harg10 : arg10.IsWhole) (arg11 : Memref sig .tc .vmem S4x256x1 .f32) (harg11 : arg11.IsWhole)
  (x0 : Vec Ideal S16 .f32) (x1 : Vec Ideal S1x256x512 .f32) (x2 : Vec Ideal S2048x512 .bf16) (x3 : Vec Ideal S2048x512 .bf16) (x4 : Vec Ideal S1x1x128 .f32)

/-- The accumulators' zero fill. -/
theorem zacc (y : S256x512.Idx) : (k0_pay87 (F := Ideal) k0_pay86) y = (0 : EReal) := by
  pointwise [k0_pay87, k0_pay86]

theorem zcar (y : S4x256x1.Idx) : (k0_pay88 (F := Ideal)) y = (0 : EReal) := by
  pointwise [k0_pay88]

theorem emb_all (h : ∀ a, (![0, 0] : Fin 2 → ℕ) a + S256x512.size a ≤ S256x512.size a) (y : S256x512.Idx) :
    (Rect.unit (s := S256x512) ![0, 0] S256x512.size h).emb y = y := by
  funext a; apply Fin.ext; revert a
  refine Fin.forall_fin_two.mpr ⟨?_, ?_⟩
  · show 0 + 1 * (y 0).val = (y 0).val; omega
  · show 0 + 1 * (y 1).val = (y 1).val; omega

/-- A block of queries, as four heads side by side: each row of each head normalised and scaled. -/
def qAt (x1 : Vec Ideal S1x256x512 .f32) (x4 : Vec Ideal S1x1x128 .f32) (r : Fin 256) (g : Fin 4) (d : Fin 128) : EReal :=
  x1 (ix3 0 r (col g d)) * rs (fun d => x1 (ix3 0 r (col g d))) * x4 (ix3 0 0 d) * qs

theorem emb_q (g : Fin 4) {o : Fin 3 → ℕ} (ho : o = ![0, 0, 128 * g.val]) (h : ∀ a, o a + S1x256x128.size a ≤ S1x256x512.size a)
    (r : Fin 256) (d : Fin 128) : (Rect.unit (s := S1x256x512) o S1x256x128.size h).emb (ix3 0 r d) = ix3 0 r (col g d) := by
  subst ho
  funext a; apply Fin.ext
  match a with
  | 0 => rfl
  | 1 => show 0 + 1 * r.val = r.val; omega
  | 2 => show 128 * g.val + 1 * d.val = 128 * g.val + d.val; omega

theorem emb_gain {o : Fin 3 → ℕ} (ho : o = ![0, 0, 0]) (h : ∀ a, o a + S1x1x128.size a ≤ S1x1x128.size a) (d : Fin 128) :
    (Rect.unit (s := S1x1x128) o S1x1x128.size h).emb (ix3 0 0 d) = ix3 0 0 d := by
  subst ho
  funext a; apply Fin.ext
  match a with
  | 0 => rfl
  | 1 => rfl
  | 2 => show 0 + 1 * d.val = d.val; omega

/-- One head's queries, from the block and the gains it loads. -/
theorem head_q {x : FVec Ideal S1x256x128 .f32} {y : FVec Ideal S1x1x128 .f32} (g : Fin 4)
    (hx : ∀ (r : Fin 256) (d : Fin 128), x (ix3 0 r d) = x1 (ix3 0 r (col g d))) (hy : ∀ d : Fin 128, y (ix3 0 0 d) = x4 (ix3 0 0 d))
    (r : Fin 256) (d : Fin 128) : qT x y (ix2 r d) = qAt x1 x4 r g d := by
  rw [qT_apply, qAt, hy]
  simp only [hx]

theorem q0_eq (x : FVec Ideal S1x256x128 .f32) (y : FVec Ideal S1x1x128 .f32) : k0_pay79 (F := Ideal) (k0_pay77 x) (k0_pay78 y) = qT x y := rfl
theorem q2_eq (x : FVec Ideal S1x256x128 .f32) (y : FVec Ideal S1x1x128 .f32) :
    k0_pay84 (F := Ideal) (k0_pay81 x) (k0_pay82 y) (k0_pay83 x) = qT x y := rfl
theorem q3_eq (x : FVec Ideal S1x256x128 .f32) (y : FVec Ideal S1x1x128 .f32) : k0_pay85 (F := Ideal) x y = qT x y := rfl

/-- The scratch of queries, read back. -/
theorem queries (r : Fin 256) (g : Fin 4) (d : Fin 128) :
    arg9.view.read (Elt Ideal) (arg9.view.writes (Elt Ideal) arg9.view.junk (kernelRun0_A.sl.HS0_4 (F := Ideal) c arg4 harg4 arg7 harg7 x1 x4))
      (ix2 r (col g d)) = qAt x1 x4 r g d := by
  unfold kernelRun0_A.sl.HS0_4
  have hx : ∀ (g : Fin 4) {o : Fin 3 → ℕ} (ho : o = ![0, 0, 128 * g.val]) (h : ∀ a, o a + S1x256x128.size a ≤ S1x256x512.size a)
      (r : Fin 256) (d : Fin 128), arg4.view.readAt (Elt Ideal) (Rect.unit (s := S1x256x512) o S1x256x128.size h).toLoadRect (harg4.unread x1) (ix3 0 r d)
        = x1 (ix3 0 r (col g d)) := fun g o ho h r d =>
    (congrArg (arg4.view.read (Elt Ideal) (harg4.unread x1)) (emb_q g ho h r d)).trans (congrFun (harg4.read_unread x1) _)
  have hy : ∀ {o : Fin 3 → ℕ} (ho : o = ![0, 0, 0]) (h : ∀ a, o a + S1x1x128.size a ≤ S1x1x128.size a)
      (d : Fin 128), arg7.view.readAt (Elt Ideal) (Rect.unit (s := S1x1x128) o S1x1x128.size h).toLoadRect (harg7.unread x4) (ix3 0 0 d)
        = x4 (ix3 0 0 d) := fun ho h d =>
    (congrArg (arg7.view.read (Elt Ideal) (harg7.unread x4)) (emb_gain ho h d)).trans (congrFun (harg7.read_unread x4) _)
  refine slabs_read (Val := Elt Ideal) arg9.view _ [] rfl rfl rfl rfl _ _ _ _ _ _ _ _ (qAt x1 x4) ?_ ?_ ?_ ?_ r g d
  · intro r d
    refine Eq.trans (congrFun (q0_eq _ _) _) ?_
    exact head_q x1 x4 0 (hx 0 rfl _) (hy rfl _) r d
  · exact head_q x1 x4 1 (hx 1 rfl _) (hy rfl _)
  · intro r d
    refine Eq.trans (congrFun (q2_eq _ _) _) ?_
    exact head_q x1 x4 2 (hx 2 rfl _) (hy rfl _) r d
  · intro r d
    refine Eq.trans (congrFun (q3_eq _ _) _) ?_
    exact head_q x1 x4 3 (hx 3 rfl _) (hy rfl _) r d

set_option maxHeartbeats 1000000 in
/-- The accumulators and carries after the diagonal tile. -/
theorem diag_inv :
    Inv (arg9.view.read (Elt Ideal) (arg9.view.writes (Elt Ideal) arg9.view.junk (kernelRun0_A.sl.HS0_4 (F := Ideal) c arg4 harg4 arg7 harg7 x1 x4)))
      (arg5.view.read (Elt Ideal) (harg5.unread x2)) (arg6.view.read (Elt Ideal) (harg6.unread x3)) (arg3.view.read (Elt Ideal) (harg3.unread x0))
      (i 1) (i 2).val ((i 2).val * 256)
      (arg10.view.read (Elt Ideal) (arg10.view.writes (Elt Ideal) arg10.view.junk
        (kernelRun0_A.sl.HS1_5 (F := Ideal) c i arg3 harg3 arg4 harg4 arg5 harg5 arg6 harg6 arg7 harg7 arg9 arg10 arg11 x0 x1 x2 x3 x4)))
      (arg11.view.read (Elt Ideal) (arg11.view.writes (Elt Ideal) arg11.view.junk
        (kernelRun0_A.sl.HS2_5 (F := Ideal) c i arg3 harg3 arg4 harg4 arg5 harg5 arg7 harg7 arg9 arg11 x0 x1 x2 x4))) := by
  have h8 := i2_lt i
  have hlo : (i 2).val * 256 + 256 ≤ 2048 := by omega
  have z10 : ∀ y : S256x512.Idx, arg10.view.read (Elt Ideal) (arg10.view.writes (Elt Ideal) arg10.view.junk (kernelRun0_A.sl.HS1_1 (F := Ideal))) y = (0 : EReal) := by
    intro y
    unfold kernelRun0_A.sl.HS1_1
    refine Eq.trans ?_ (zacc y)
    have h := View.read_writes_cons_emb (Val := Elt Ideal) arg10.view arg10.view.junk (Rect.unit ![0, 0] S256x512.size inb_S256x512_S256x512_0_0)
      (k0_pay87 (F := Ideal) k0_pay86) [] y
    rw [emb_all] at h
    exact h
  have z11 : ∀ (g : Fin 4) (r : Fin 256), arg11.view.read (Elt Ideal) (arg11.view.writes (Elt Ideal) arg11.view.junk (kernelRun0_A.sl.HS2_1 (F := Ideal))) (ix3 g r 0) = (0 : EReal) := by
    intro g r
    unfold kernelRun0_A.sl.HS2_1
    have h := View.read_writes_cons_emb (Val := Elt Ideal) arg11.view arg11.view.junk (Rect.unit ![0, 0, 0] S4x256x1.size inb_S4x256x1_S4x256x1_0_0_0)
      (k0_pay88 (F := Ideal)) [] (ix3 g r 0)
    rw [show (Rect.unit (s := S4x256x1) ![0, 0, 0] S4x256x1.size inb_S4x256x1_S4x256x1_0_0_0).emb (ix3 g r 0) = ix3 g r 0 from by
      funext a; apply Fin.ext
      match a with
      | 0 => show 0 + 1 * g.val = g.val; omega
      | 1 => show 0 + 1 * r.val = r.val; omega
      | 2 => rfl] at h
    exact h.trans (zcar _)
  have z1 : ∀ (g : Fin 4) (r : Fin 256) (d : Fin 128), 0 < g.val → arg10.view.read (Elt Ideal) (arg10.view.writes (Elt Ideal) arg10.view.junk
      (kernelRun0_A.sl.HS1_2 (F := Ideal) c i arg3 harg3 arg4 harg4 arg5 harg5 arg6 harg6 arg7 harg7 arg9 arg10 arg11 x0 x1 x2 x3 x4)) (ix2 r (col g d)) = (0 : EReal) := by
    intro g r d hg
    unfold kernelRun0_A.sl.HS1_2
    exact (slab_miss arg10.view _ _ _ _ 0 rfl g (by show g.val ≠ 0; omega) r d).trans (z10 _)
  have y1 : ∀ (g : Fin 4) (r : Fin 256), 0 < g.val → arg11.view.read (Elt Ideal) (arg11.view.writes (Elt Ideal) arg11.view.junk
      (kernelRun0_A.sl.HS2_2 (F := Ideal) c i arg3 harg3 arg4 harg4 arg5 harg5 arg7 harg7 arg9 arg11 x0 x1 x2 x4)) (ix3 g r 0) = (0 : EReal) := by
    intro g r hg
    unfold kernelRun0_A.sl.HS2_2
    exact (carry_miss arg11.view _ _ _ _ 0 rfl g (by show g.val ≠ 0; omega) r).trans (z11 g r)
  have z2 : ∀ (g : Fin 4) (r : Fin 256) (d : Fin 128), 1 < g.val → arg10.view.read (Elt Ideal) (arg10.view.writes (Elt Ideal) arg10.view.junk
      (kernelRun0_A.sl.HS1_3 (F := Ideal) c i arg3 harg3 arg4 harg4 arg5 harg5 arg6 harg6 arg7 harg7 arg9 arg10 arg11 x0 x1 x2 x3 x4)) (ix2 r (col g d)) = (0 : EReal) := by
    intro g r d hg
    unfold kernelRun0_A.sl.HS1_3
    exact (slab_miss arg10.view _ _ _ _ 1 rfl g (by show g.val ≠ 1; omega) r d).trans (z1 g r d (by omega))
  have y2 : ∀ (g : Fin 4) (r : Fin 256), 1 < g.val → arg11.view.read (Elt Ideal) (arg11.view.writes (Elt Ideal) arg11.view.junk
      (kernelRun0_A.sl.HS2_3 (F := Ideal) c i arg3 harg3 arg4 harg4 arg5 harg5 arg7 harg7 arg9 arg11 x0 x1 x2 x4)) (ix3 g r 0) = (0 : EReal) := by
    intro g r hg
    unfold kernelRun0_A.sl.HS2_3
    exact (carry_miss arg11.view _ _ _ _ 1 rfl g (by show g.val ≠ 1; omega) r).trans (y1 g r (by omega))
  have z3 : ∀ (g : Fin 4) (r : Fin 256) (d : Fin 128), 2 < g.val → arg10.view.read (Elt Ideal) (arg10.view.writes (Elt Ideal) arg10.view.junk
      (kernelRun0_A.sl.HS1_4 (F := Ideal) c i arg3 harg3 arg4 harg4 arg5 harg5 arg6 harg6 arg7 harg7 arg9 arg10 arg11 x0 x1 x2 x3 x4)) (ix2 r (col g d)) = (0 : EReal) := by
    intro g r d hg
    unfold kernelRun0_A.sl.HS1_4
    exact (slab_miss arg10.view _ _ _ _ 2 rfl g (by show g.val ≠ 2; omega) r d).trans (z2 g r d (by omega))
  have y3 : ∀ (g : Fin 4) (r : Fin 256), 2 < g.val → arg11.view.read (Elt Ideal) (arg11.view.writes (Elt Ideal) arg11.view.junk
      (kernelRun0_A.sl.HS2_4 (F := Ideal) c i arg3 harg3 arg4 harg4 arg5 harg5 arg7 harg7 arg9 arg11 x0 x1 x2 x4)) (ix3 g r 0) = (0 : EReal) := by
    intro g r hg
    unfold kernelRun0_A.sl.HS2_4
    exact (carry_miss arg11.view _ _ _ _ 2 rfl g (by show g.val ≠ 2; omega) r).trans (y2 g r (by omega))
  have hinv := inv_zero (arg9.view.read (Elt Ideal) (arg9.view.writes (Elt Ideal) arg9.view.junk (kernelRun0_A.sl.HS0_4 (F := Ideal) c arg4 harg4 arg7 harg7 x1 x4)))
      (arg5.view.read (Elt Ideal) (harg5.unread x2)) (arg6.view.read (Elt Ideal) (harg6.unread x3)) (arg3.view.read (Elt Ideal) (harg3.unread x0))
      (i 1) (i 2).val
  refine ⟨fun r g d => ?_, fun g r => ?_⟩
  · unfold kernelRun0_A.sl.HS1_5 kernelRun0_A.sl.HS1_4 kernelRun0_A.sl.HS1_3 kernelRun0_A.sl.HS1_2
    refine Eq.trans ?_ (accAt_col _ _ _ _ _ _ _ r g d)
    refine slabs_read (Val := Elt Ideal) arg10.view _ _ rfl rfl rfl rfl _ _ _ _ _ _ _ _ (fun r g d => accAt _ _ _ _ _ _ _ (ix2 r (col g d))) ?_ ?_ ?_ ?_ r g d
    · intro r d
      refine Eq.trans (congrFun (accd0_eq _ _ _ _ _ _) _) ?_
      exact diag_acc (g := 0) hinv hlo rfl (fun r d => congrArg _ (emb_slab 0 rfl _ r d)) (fun r d => congrArg _ (emb_tile 0 hlo (off1 i) _ r d))
        (congrArg _ (emb_bias 0 (i 1) (off2 i 0) _ _)) (fun r => (congrArg _ (emb_carry 0 rfl _ r)).trans (z11 0 r))
        (fun r d => (congrArg _ (emb_slab 0 rfl _ r d)).trans (z10 _)) (fun r d => congrArg _ (emb_tile 0 hlo (off1 i) _ r d)) r d
    · intro r d
      refine Eq.trans (congrFun (accd1_eq _ _ _ _ _ _) _) ?_
      exact diag_acc (g := 1) hinv hlo rfl (fun r d => congrArg _ (emb_slab 1 rfl _ r d)) (fun r d => congrArg _ (emb_tile 1 hlo (off3 i) _ r d))
        (congrArg _ (emb_bias 1 (i 1) (off2 i 1) _ _)) (fun r => (congrArg _ (emb_carry 1 rfl _ r)).trans (z11 1 r))
        (fun r d => (congrArg _ (emb_slab 1 rfl _ r d)).trans (z1 1 r d (by decide))) (fun r d => congrArg _ (emb_tile 1 hlo (off3 i) _ r d)) r d
    · intro r d
      refine Eq.trans (congrFun (accd2_eq _ _ _ _ _ _) _) ?_
      exact diag_acc (g := 2) hinv hlo rfl (fun r d => congrArg _ (emb_slab 2 rfl _ r d)) (fun r d => congrArg _ (emb_tile 2 hlo (off4 i) _ r d))
        (congrArg _ (emb_bias 2 (i 1) (off2 i 2) _ _)) (fun r => (congrArg _ (emb_carry 2 rfl _ r)).trans (z11 2 r))
        (fun r d => (congrArg _ (emb_slab 2 rfl _ r d)).trans (z2 2 r d (by decide))) (fun r d => congrArg _ (emb_tile 2 hlo (off4 i) _ r d)) r d
    · intro r d
      refine Eq.trans (congrFun (accd3_eq _ _ _ _ _ _) _) ?_
      exact diag_acc (g := 3) hinv hlo rfl (fun r d => congrArg _ (emb_slab 3 rfl _ r d)) (fun r d => congrArg _ (emb_tile 3 hlo (off5 i) _ r d))
        (congrArg _ (emb_bias 3 (i 1) (off2 i 3) _ _)) (fun r => (congrArg _ (emb_carry 3 rfl _ r)).trans (z11 3 r))
        (fun r d => (congrArg _ (emb_slab 3 rfl _ r d)).trans (z3 3 r d (by decide))) (fun r d => congrArg _ (emb_tile 3 hlo (off5 i) _ r d)) r d
  · unfold kernelRun0_A.sl.HS2_5 kernelRun0_A.sl.HS2_4 kernelRun0_A.sl.HS2_3 kernelRun0_A.sl.HS2_2
    refine carries_read (Val := Elt Ideal) arg11.view _ _ rfl rfl rfl rfl _ _ _ _ _ _ _ _ (fun g r => carAt _ _ _ _ _ _ (ix3 g r 0)) ?_ ?_ ?_ ?_ g r
    · intro r
      refine Eq.trans (congrFun (csd0_eq _ _ _ _) _) ?_
      exact diag_car (g := 0) hinv hlo rfl (fun r d => congrArg _ (emb_slab 0 rfl _ r d)) (fun r d => congrArg _ (emb_tile 0 hlo (off1 i) _ r d))
        (congrArg _ (emb_bias 0 (i 1) (off2 i 0) _ _)) (fun r => (congrArg _ (emb_carry 0 rfl _ r)).trans (z11 0 r)) r
    · intro r
      refine Eq.trans (congrFun (csd1_eq _ _ _ _) _) ?_
      exact diag_car (g := 1) hinv hlo rfl (fun r d => congrArg _ (emb_slab 1 rfl _ r d)) (fun r d => congrArg _ (emb_tile 1 hlo (off3 i) _ r d))
        (congrArg _ (emb_bias 1 (i 1) (off2 i 1) _ _)) (fun r => (congrArg _ (emb_carry 1 rfl _ r)).trans (y1 1 r (by decide))) r
    · intro r
      refine Eq.trans (congrFun (csd2_eq _ _ _ _) _) ?_
      exact diag_car (g := 2) hinv hlo rfl (fun r d => congrArg _ (emb_slab 2 rfl _ r d)) (fun r d => congrArg _ (emb_tile 2 hlo (off4 i) _ r d))
        (congrArg _ (emb_bias 2 (i 1) (off2 i 2) _ _)) (fun r => (congrArg _ (emb_carry 2 rfl _ r)).trans (y2 2 r (by decide))) r
    · intro r
      refine Eq.trans (congrFun (csd3_eq _ _ _ _) _) ?_
      exact diag_car (g := 3) hinv hlo rfl (fun r d => congrArg _ (emb_slab 3 rfl _ r d)) (fun r d => congrArg _ (emb_tile 3 hlo (off5 i) _ r d))
        (congrArg _ (emb_bias 3 (i 1) (off2 i 3) _ _)) (fun r => (congrArg _ (emb_carry 3 rfl _ r)).trans (y3 3 r (by decide))) r

theorem point_out (r : Fin 256) (g : Fin 4) (d : Fin 128) :
    out0_A_5 (F := Ideal) c i arg3 harg3 arg4 harg4 arg5 harg5 arg6 harg6 arg7 harg7 arg8 harg8 arg9 harg9 arg10 harg10 arg11 harg11 x0 x1 x2 x3 x4
      (ix2 r (col g d))
      = acc (fun n => (∑ d : Fin 128, qAt x1 x4 r g d * x2 (ix2 (key n) (col g d))) + x0 (ix1 ⟨(i 1).val * 4 + g.val, by have := i1_lt i; omega⟩) * lg)
          ((i 2).val * 256 + r.val) (vcol x3 g d) 0 := by
  unfold out0_A_5
  rw [View.read_writes_eq_canon _ _ _ (fun y => cover0_A_5 c i arg3 harg3 arg4 harg4 arg5 harg5 arg6 harg6 arg7 harg7 arg8 harg8 arg9 harg9 arg10 harg10 arg11 harg11 x0 x1 x2 x3 x4 y)]
  unfold kernelRun0_A
  dsimp only
  rw [View.canon_cons_unit_zero (by decide)]
  refine Eq.trans (b := kernelRun0_A.sl.v367 (F := Ideal) c i arg3 harg3 arg4 harg4 arg5 harg5 arg6 harg6 arg7 harg7 arg8 harg8 arg9 harg9 arg10 harg10 arg11 harg11 x0 x1 x2 x3 x4 (ix2 r (col g d))) rfl ?_
  unfold kernelRun0_A.sl.v367
  refine Eq.trans (congrArg (View.read _ _ _) (emb_all _ (ix2 r (col g d)))) ?_
  refine Eq.trans (end_read c i arg3 harg3 arg4 harg4 arg5 harg5 arg6 harg6 arg7 harg7 arg8 harg8 arg9 harg9 arg10 harg10 arg11 harg11 _ _ _ _ _ _ _ _ _ _ _ _ _ _ ?_ r g d) ?_
  · exact diag_inv c i arg3 harg3 arg4 harg4 arg5 harg5 arg6 harg6 arg7 harg7 arg9 arg10 arg11 x0 x1 x2 x3 x4
  · rw [harg3.read_unread, harg5.read_unread, harg6.read_unread]
    refine congrArg (fun ζ => acc ζ ((i 2).val * 256 + r.val) (vcol x3 g d) 0) (funext fun n => ?_)
    unfold zeta
    simp only [queries]

end Cert.Sb

end
-- ==== Proof.Sb.Final.lean ====
/- The whole array the attention kernel leaves, as a function of its arguments. -/
module

public import proofs.«01_k».proof.Proof.Gen.KernelIdeal.Value
public import proofs.«01_k».proof.Proof.Sb.Point
public import Idealize.ShloMosaic.Lib.Pipeline.ValueKit

@[expose] public section

set_option maxRecDepth 16384

noncomputable section

namespace Cert.Sb

open Idealize.ShloMosaic Idealize.ShloMosaic.TcCoe Idealize.SL.Sem
open Idealize.ShloMosaic.Pipeline (Dat)
open Cert.KernelIdeal Cert.KernelIdeal.Gen

/-- The row of batch `b` and position `n`, and the column of head `h` and feature `d`. -/
def row (b : Fin 4) (n : Fin 2048) : Fin 8192 := ⟨b.val * 2048 + n.val, by omega⟩
def lane (h : Fin 16) (d : Fin 128) : Fin 2048 := ⟨h.val * 128 + d.val, by omega⟩

section Spec
variable (B : FVec Ideal S2x16 .f32) (Q : FVec Ideal S3x8192x2048 .f32) (K V : FVec Ideal S8192x2048 .bf16) (g : FVec Ideal S2x128 .f32)

/-- A normalised query. -/
def qn (b : Fin 4) (t : Fin 2048) (h : Fin 16) (d : Fin 128) : EReal :=
  Q (ix3 0 (row b t) (lane h d)) * rs (fun d => Q (ix3 0 (row b t) (lane h d))) * g (ix2 0 d)

/-- The logits in bits. -/
def zk (b : Fin 4) (h : Fin 16) (t : Fin 2048) (n : ℕ) : EReal :=
  (∑ d : Fin 128, qn Q g b t h d * qs * K (ix2 (row b (key n)) (lane h d))) + B (ix2 0 h) * lg

/-- The attention, as the kernel computes it. -/
def attn (b : Fin 4) (t : Fin 2048) (h : Fin 16) (d : Fin 128) : EReal :=
  acc (zk B Q K g b h t) t.val (fun n => V (ix2 (row b (key n)) (lane h d))) 0

/-- The array it leaves. -/
def G : FVec Ideal S8192x2048 .bf16 := fun y =>
  attn B Q K V g ⟨(y 0).val / 2048, Nat.div_lt_of_lt_mul (show (y 0).val < 2048 * 4 from (y 0).isLt)⟩
    ⟨(y 0).val % 2048, Nat.mod_lt _ (by norm_num)⟩
    ⟨(y 1).val / 128, Nat.div_lt_of_lt_mul (show (y 1).val < 128 * 16 from (y 1).isLt)⟩ ⟨(y 1).val % 128, Nat.mod_lt _ (by norm_num)⟩

theorem G_apply (b : Fin 4) (t : Fin 2048) (h : Fin 16) (d : Fin 128) : G B Q K V g (ix2 (row b t) (lane h d)) = attn B Q K V g b t h d := by
  have h1 : (b.val * 2048 + t.val) / 2048 = b.val := by omega
  have h2 : (b.val * 2048 + t.val) % 2048 = t.val := by omega
  have h3 : (h.val * 128 + d.val) / 128 = h.val := by omega
  have h4 : (h.val * 128 + d.val) % 128 = d.val := by omega
  unfold G
  simp only [ix2_0, ix2_1, row, lane, h1, h2, h3, h4]

end Spec

variable (m : (ℓ : Loc nD τ sig) → Buf (Elt Ideal) ℓ)

theorem idx : ∀ t : Fin cfg0.N, win0_0.index t = ![0]
    ∧ win0_1.index t = ![0, (grid0.coords t 0).val * 8 + (grid0.coords t 2).val, (grid0.coords t 1).val]
    ∧ win0_2.index t = ![(grid0.coords t 0).val, (grid0.coords t 1).val] ∧ win0_3.index t = ![(grid0.coords t 0).val, (grid0.coords t 1).val]
    ∧ win0_4.index t = ![0, 0, 0] ∧ win0_5.index t = ![(grid0.coords t 0).val * 8 + (grid0.coords t 2).val, (grid0.coords t 1).val] :=
  (by decide +kernel : ∀ t : Fin grid0.N, _)

/-- The batch, the head and the position of a point's query. -/
def pb (t : Fin cfg0.N) : Fin 4 := grid0.coords t 0
def ph (t : Fin cfg0.N) (g : Fin 4) : Fin 16 := ⟨(grid0.coords t 1).val * 4 + g.val, by have := i1_lt (grid0.coords t); omega⟩
def pt (t : Fin cfg0.N) (r : Fin 256) : Fin 2048 := ⟨(grid0.coords t 2).val * 256 + r.val, by have := i2_lt (grid0.coords t); omega⟩

section Blocks
variable (c : Dev nD) (t : Fin cfg0.N)

theorem blk1 (r : Fin 256) (g : Fin 4) (d : Fin 128) : (show FVec Ideal S1x256x512 .f32 from iblk m c 1 t) (ix3 0 r (col g d))
    = (show FVec Ideal S3x8192x2048 .f32 from m ((c : Thread nD τ).loc main_arg1)) (ix3 0 (row (pb t) (pt t r)) (lane (ph t g) d)) := by
  unfold row lane pb ph pt col
  have := i1_lt (grid0.coords t)
  have := i2_lt (grid0.coords t)
  blk_ext [iblk, V, idx t]

theorem blk2 (n : ℕ) (g : Fin 4) (d : Fin 128) : (show FVec Ideal S2048x512 .bf16 from iblk m c 2 t) (ix2 (key n) (col g d))
    = (show FVec Ideal S8192x2048 .bf16 from m ((c : Thread nD τ).loc main_arg2)) (ix2 (row (pb t) (key n)) (lane (ph t g) d)) := by
  generalize key n = n
  unfold row lane pb ph col
  have := i1_lt (grid0.coords t)
  have := i2_lt (grid0.coords t)
  blk_ext [iblk, V, idx t]

theorem blk3 (n : ℕ) (g : Fin 4) (d : Fin 128) : (show FVec Ideal S2048x512 .bf16 from iblk m c 3 t) (ix2 (key n) (col g d))
    = (show FVec Ideal S8192x2048 .bf16 from m ((c : Thread nD τ).loc main_arg3)) (ix2 (row (pb t) (key n)) (lane (ph t g) d)) := by
  generalize key n = n
  unfold row lane pb ph col
  have := i1_lt (grid0.coords t)
  have := i2_lt (grid0.coords t)
  blk_ext [iblk, V, idx t]

theorem blk0 (g : Fin 4) (h) : (show FVec Ideal S16 .f32 from iblk m c 0 t) (ix1 ⟨(grid0.coords t 1).val * 4 + g.val, h⟩)
    = (show FVec Ideal S2x16 .f32 from m ((c : Thread nD τ).loc main_arg0)) (ix2 0 (ph t g)) := by
  unfold ph
  generalize (⟨(grid0.coords t 1).val * 4 + g.val, h⟩ : Fin 16) = k
  blk_ext! [iblk, V, idx t]

theorem blk4 (d : Fin 128) : (show FVec Ideal S1x1x128 .f32 from iblk m c 4 t) (ix3 0 0 d)
    = (show FVec Ideal S2x128 .f32 from m ((c : Thread nD τ).loc main_arg4)) (ix2 0 d) := by
  blk_ext! [iblk, V, idx t]

end Blocks

/-- The kernel's result array over its arguments. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  have hy : ∃ (r : Fin 256) (g : Fin 4) (d : Fin 128), y = ix2 r (col g d) := by
    have h1 : (y 1).val < 512 := (y 1).isLt
    refine ⟨⟨(y 0).val, (y 0).isLt⟩, ⟨(y 1).val / 128, by omega⟩, ⟨(y 1).val % 128, by omega⟩, ?_⟩
    funext a
    apply Fin.ext
    match a with
    | 0 => rfl
    | 1 => show (y 1).val = 128 * ((y 1).val / 128) + (y 1).val % 128; omega
  obtain ⟨r, g, d, rfl⟩ := hy
  refine (point_out c (grid0.coords t) _ _ _ _ _ _ _ _ _ _ _ _ _ _ _ _ _ _ (iblk m c 0 t) (iblk m c 1 t) (iblk m c 2 t) (iblk m c 3 t) (iblk m c 4 t) r g d).trans ?_
  have he : ((cfg0.win 5).blk t).view.emb (ix2 r (col g d)) = ix2 (row (pb t) (pt t r)) (lane (ph t g) d) := by
    unfold row lane pb ph pt col
    have := i1_lt (grid0.coords t)
    have := i2_lt (grid0.coords t)
    blk_ext [idx t]
  rw [he]
  refine Eq.trans ?_ (G_apply _ _ _ _ _ (pb t) (pt t r) (ph t g) d).symm
  unfold attn
  refine congr (congr (congr (congrArg acc (funext fun n => ?_)) rfl) (funext fun n => blk3 m c t n g d)) rfl
  unfold zk
  refine congr (congrArg HAdd.hAdd (Finset.sum_congr rfl fun d _ => ?_)) (congrArg (· * lg) (blk0 m c t g _))
  refine congr (congrArg HMul.hMul ?_) (blk2 m c t n g d)
  unfold qAt qn
  refine congrArg (· * qs) ?_
  refine congr (congrArg HMul.hMul ?_) (blk4 m c t d)
  exact congr (congrArg HMul.hMul (blk1 m c t r g d)) (congrArg rs (funext fun d => blk1 m c t r g d))

end Cert.Sb

end
-- ==== Proof.Sb.Ref.lean ====
/- The attention of the reference, its term in stages, each read at an index. -/
module

public import Idealize.ShloMosaic.Lib.Pointwise
public import Idealize.ShloMosaic.Lib.WordCmp
public import proofs.«01_k».proof.Proof.Gen.ReferenceIdeal.Run
public import proofs.«01_k».proof.Proof.Sb.Final

@[expose] public section

set_option maxRecDepth 16384

noncomputable section

namespace Cert.Sb.Ref

open Idealize.ShloMosaic Idealize.ShloMosaic.TcCoe Idealize.SL.Sem
open Cert.ReferenceIdeal Cert.ReferenceIdeal.Gen
open Cert.Sb (row lane key qn rs sp lg qs)

variable (B : FVec Ideal S2x16 .f32) (Q : FVec Ideal S3x8192x2048 .f32) (K V : FVec Ideal S8192x2048 .bf16) (g : FVec Ideal S2x128 .f32)

def XQ : FVec Ideal S4x2048x16x128 .f32 :=
  shapeCast _ (shapeCast _ (extractStridedSlice S1x8192x2048 ![0, 0, 0] Q slices_S3x8192x2048_S1x8192x2048_0_0_0) shapeCasts_S1x8192x2048_S8192x2048) shapeCasts_S8192x2048_S4x2048x16x128

def QN : FVec Ideal S4x2048x16x128 .f32 :=
  mulf (mulf (XQ Q) (broadcastInDim S4x2048x16x128 ![0, 1, 2, 3] bcast_S4x2048x16x1_S4x2048x16x128_0_1_2_3 (Host.rsqrt (addf (Host.divf (broadcastInDim S4x2048x16x1 ![0, 1, 2] bcast_S4x2048x16_S4x2048x16x1_0_1_2 (Host.reduceAdd (mulf (XQ Q) (XQ Q)) (constant S_ .f32 0x00000000#32) reducesTo_S4x2048x16x128_S4x2048x16_d3 h_S_)) (broadcastInDim S4x2048x16x1 ![] bcast_S_S4x2048x16x1 (constant S_ .f32 0x43000000#32))) (broadcastInDim S4x2048x16x1 ![] bcast_S_S4x2048x16x1 (constant S_ .f32 0x358637BD#32)))))) (broadcastInDim S4x2048x16x128 ![0, 1, 2, 3] bcast_S1x1x1x128_S4x2048x16x128_0_1_2_3 (broadcastInDim S1x1x1x128 ![3] bcast_S128_S1x1x1x128_3 (shapeCast _ (extractStridedSlice S1x128 ![0, 0] g slices_S2x128_S1x128_0_0) shapeCasts_S1x128_S128)))

def KV (K : FVec Ideal S8192x2048 .bf16) : FVec Ideal S4x2048x16x128 .f32 :=
  shapeCast _ (extf .f32 K bitsLt_bf16_f32) shapeCasts_S8192x2048_S4x2048x16x128

def Z : FVec Ideal S4x16x2048x2048 .f32 :=
  addf (mulf (Host.dotGeneral dot_S4x2048x16x128_S4x2048x16x128_S4x16x2048x2048_3_3_1_1_02_02 none (QN Q g) (KV K)) (broadcastInDim S4x16x2048x2048 ![] bcast_S_S4x16x2048x2048 (constant S_ .f32 0x3DB504F3#32))) (broadcastInDim S4x16x2048x2048 ![0, 1, 2, 3] bcast_S1x16x1x1_S4x16x2048x2048_0_1_2_3 (broadcastInDim S1x16x1x1 ![1] bcast_S16_S1x16x1x1_1 (shapeCast _ (extractStridedSlice S1x16 ![0, 0] B slices_S2x16_S1x16_0_0) shapeCasts_S1x16_S16)))

def MASK : IVec S4x16x2048x2048 1 :=
  broadcastInDim S4x16x2048x2048 ![2, 3] bcast_S2048x2048_S4x16x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

def SP (X : FVec Ideal S4x16x2048x2048 .f32) : FVec Ideal S4x16x2048x2048 .f32 :=
  select (cmpf .une (subf X (broadcastInDim S4x16x2048x2048 ![] bcast_S_S4x16x2048x2048 (constant S_ .f32 0x00000000#32))) (subf X (broadcastInDim S4x16x2048x2048 ![] bcast_S_S4x16x2048x2048 (constant S_ .f32 0x00000000#32)))) (addf X (broadcastInDim S4x16x2048x2048 ![] bcast_S_S4x16x2048x2048 (constant S_ .f32 0x00000000#32))) (addf (maximumf X (broadcastInDim S4x16x2048x2048 ![] bcast_S_S4x16x2048x2048 (constant S_ .f32 0x00000000#32))) (Host.log1p (Host.exp (Host.negf (Host.absf (subf X (broadcastInDim S4x16x2048x2048 ![] bcast_S_S4x16x2048x2048 (constant S_ .f32 0x00000000#32))))))))

def LK : FVec Ideal S4x16x2048x2048 .f32 :=
  select MASK (Host.negf (SP (Z B Q K g))) (broadcastInDim S4x16x2048x2048 ![] bcast_S_S4x16x2048x2048 (id (constant S_ .f32 0x00000000#32)))

/-- The sums from each position on, along the last axis. -/
def CS (X : FVec Ideal S4x16x2048x2048 .f32) : FVec Ideal S4x16x2048x2048 .f32 :=
  Host.reduceWindowAdd ![1, 1, 1, 2048] ![1, 1, 1, 1] ![0, 0, 0, 0] ![0, 0, 0, 2047] X (broadcastInDim S_ ![] bcast_S_S_ (constant S_ .f32 0x00000000#32)) reduceWindows_S4x16x2048x2048_S4x16x2048x2048_w1s1p0_0_w1s1p0_0_w1s1p0_0_w2048s1p0_2047 h_S_

def AW : FVec Ideal S4x16x2048x2048 .f32 :=
  select MASK (Host.exp (addf (Host.negf (SP (Host.negf (Z B Q K g)))) (subf (CS (LK B Q K g)) (LK B Q K g)))) (broadcastInDim S4x16x2048x2048 ![] bcast_S_S4x16x2048x2048 (id (constant S_ .f32 0x00000000#32)))

def OUT : FVec Ideal S8192x2048 .bf16 :=
  truncf .bf16 (shapeCast _ (transpose S4x2048x16x128 [0, 3, 1, 2] (Host.dotGeneral dot_S4x2048x16x128_S4x16x2048x2048_S4x16x128x2048_1_3_3_2_02_01 none (KV V) (AW B Q K g)) transposes_S4x16x128x2048_S4x2048x16x128_0_3_1_2) shapeCasts_S4x2048x16x128_S8192x2048) bitsLt_bf16_f32

theorem res_eq (m : (ℓ : Loc nD τ sig) → Buf (Elt Ideal) ℓ) (c : Dev nD) : Value.res_main_v49 m c
    = OUT (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

theorem XQ_apply (b : Fin 4) (t : Fin 2048) (h : Fin 16) (d : Fin 128) : XQ Q (ix4 b t h d) = Q (ix3 0 (row b t) (lane h d)) := by
  unfold row lane
  pointwise [XQ]

theorem KV_apply (b : Fin 4) (t : Fin 2048) (h : Fin 16) (d : Fin 128) : KV K (ix4 b t h d) = K (ix2 (row b t) (lane h d)) := by
  unfold row lane
  pointwise [KV]

theorem QN_apply (b : Fin 4) (t : Fin 2048) (h : Fin 16) (d : Fin 128) : QN Q g (ix4 b t h d) = qn Q g b t h d := by
  pointwise [QN, XQ_apply, qn, rs]

theorem Z_apply (b : Fin 4) (h : Fin 16) (t n : Fin 2048) : Z B Q K g (ix4 b h t n)
    = (∑ d : Fin 128, qn Q g b t h d * K (ix2 (row b n) (lane h d))) * Ideal.ofBits .f32 0x3DB504F3#32 + B (ix2 0 h) := by
  pointwise [Z, QN_apply, KV_apply]

theorem MASK_apply (b : Fin 4) (h : Fin 16) (t n : Fin 2048) : MASK (ix4 b h t n) = BitVec.ofBool (decide (n.val < t.val)) := by
  pointwise [MASK]
  simp (disch := omega) only [hlo_ix]

theorem SP_apply (X : FVec Ideal S4x16x2048x2048 .f32) (b : Fin 4) (h : Fin 16) (t n : Fin 2048) : SP X (ix4 b h t n) = sp (X (ix4 b h t n)) := by
  pointwise [SP, sp]
  rw [if_neg (by simp)]
  rfl

theorem LK_apply (b : Fin 4) (h : Fin 16) (t n : Fin 2048) :
    LK B Q K g (ix4 b h t n) = if n.val < t.val then -sp (Z B Q K g (ix4 b h t n)) else 0 := by
  pointwise [LK, MASK_apply, SP_apply, id_def]

theorem AW_apply (b : Fin 4) (h : Fin 16) (t n : Fin 2048) : AW B Q K g (ix4 b h t n)
    = if n.val < t.val then Ideal.exp (-sp (-(Z B Q K g (ix4 b h t n))) + (CS (LK B Q K g) (ix4 b h t n) - LK B Q K g (ix4 b h t n))) else 0 := by
  pointwise [AW, MASK_apply, SP_apply, id_def]

theorem OUT_apply (b : Fin 4) (t : Fin 2048) (h : Fin 16) (d : Fin 128) : OUT B Q K V g (ix2 (row b t) (lane h d))
    = ∑ n : Fin 2048, V (ix2 (row b n) (lane h d)) * AW B Q K g (ix4 b h t n) := by
  have hk : ∀ n : Fin 2048, V (ix2 (row b n) (lane h d)) = KV V (ix4 b n h d) := fun n => (KV_apply V b n h d).symm
  simp only [hk]
  unfold row lane
  pointwise [OUT]

/-! The sums from a position on. -/

theorem foldl_add (n : ℕ) (f : Fin n → EReal) (v : EReal) : (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

/-- The positions of a window along the last axis. -/
theorem sum_window (F : (⟨4, ![1, 1, 1, 2048]⟩ : Shape).Idx → EReal) : ∑ w, F w = ∑ k : Fin 2048, F (ix4 0 0 0 k) := by
  refine (Fintype.sum_bijective (fun k : Fin 2048 => (ix4 0 0 0 k : (⟨4, ![1, 1, 1, 2048]⟩ : Shape).Idx)) ⟨?_, ?_⟩ _ _ fun _ => rfl).symm
  · intro a b hab
    exact congrFun hab 3
  · intro w
    refine ⟨w 3, funext fun a => ?_⟩
    fin_cases a
    · exact Subsingleton.elim (α := Fin 1) _ _
    · exact Subsingleton.elim (α := Fin 1) _ _
    · exact Subsingleton.elim (α := Fin 1) _ _
    · rfl

theorem sum_from (n : ℕ) (hn : n < 2048) (x : ℕ → EReal) :
    (∑ k : Fin 2048, if n + k.val < 2048 then x (n + k.val) else 0) = ∑ k ∈ Finset.Ico n 2048, x k := by
  rw [Fin.sum_univ_eq_sum_range (fun k => if n + k < 2048 then x (n + k) else 0) 2048, Finset.sum_Ico_eq_sum_range, ← Finset.sum_filter]
  refine Finset.sum_congr (Finset.ext fun k => ?_) fun _ _ => rfl
  simp only [Finset.mem_filter, Finset.mem_range]
  omega

theorem CS_apply (X : FVec Ideal S4x16x2048x2048 .f32) (b : Fin 4) (h : Fin 16) (t n : Fin 2048) (x : ℕ → EReal)
    (hx : ∀ n : Fin 2048, X (ix4 b h t n) = x n.val) : CS X (ix4 b h t n) = ∑ k ∈ Finset.Ico n.val 2048, x k := by
  have h0 : (broadcastInDim S_ ![] bcast_S_S_ (constant S_ .f32 0x00000000#32) : FVec Ideal S_ .f32) ix0 = 0 := by
    pointwise []
  unfold CS Host.reduceWindowAdd
  rw [Ideal.hostReduceWindowAdd_def, show Shape.Idx.first h_S_ = ix0 from funext fun a => a.elim0, h0]
  unfold Ideal.hostReduceWindowAdd Host.reduceWindow
  refine (foldl_add _ _ _).trans ?_
  rw [zero_add]
  refine (Finset.sum_congr rfl fun k _ => ?_).trans ((Equiv.sum_comp (Shape.rowMajor (⟨4, ![1, 1, 1, 2048]⟩ : Shape)).symm (fun w : (⟨4, ![1, 1, 1, 2048]⟩ : Shape).Idx =>
    if hin : ∀ a : Fin 4, (![0, 0, 0, 0] : Fin 4 → ℕ) a ≤ (ix4 b h t n a).val * (![1, 1, 1, 1] : Fin 4 → ℕ) a + (w a).val
        ∧ (ix4 b h t n a).val * (![1, 1, 1, 1] : Fin 4 → ℕ) a + (w a).val - (![0, 0, 0, 0] : Fin 4 → ℕ) a < S4x16x2048x2048.size a
    then X (fun a => ⟨(ix4 b h t n a).val * (![1, 1, 1, 1] : Fin 4 → ℕ) a + (w a).val - (![0, 0, 0, 0] : Fin 4 → ℕ) a, (hin a).2⟩) else 0)).trans ?_)
  · dsimp only
    congr
  rw [sum_window, ← sum_from n.val n.isLt x]
  refine Finset.sum_congr rfl fun k _ => ?_
  by_cases hk : n.val + k.val < 2048
  · rw [dif_pos, if_pos hk]
    · refine Eq.trans (congrArg X (funext fun a => Fin.ext ?_)) (hx ⟨n.val + k.val, hk⟩)
      fin_cases a
      · show b.val * 1 + 0 - 0 = b.val
        omega
      · show h.val * 1 + 0 - 0 = h.val
        omega
      · show t.val * 1 + 0 - 0 = t.val
        omega
      · show n.val * 1 + k.val - 0 = n.val + k.val
        omega
    · intro a
      fin_cases a
      · show 0 ≤ b.val * 1 + 0 ∧ b.val * 1 + 0 - 0 < 4
        omega
      · show 0 ≤ h.val * 1 + 0 ∧ h.val * 1 + 0 - 0 < 16
        omega
      · show 0 ≤ t.val * 1 + 0 ∧ t.val * 1 + 0 - 0 < 2048
        omega
      · show 0 ≤ n.val * 1 + k.val ∧ n.val * 1 + k.val - 0 < 2048
        omega
  · rw [dif_neg, if_neg hk]
    intro hin
    have h3 : n.val * 1 + k.val - 0 < 2048 := (hin 3).2
    omega

end Cert.Sb.Ref

end
-- ==== Proof.Sb.Eq.lean ====
/- The kernel's attention and the reference's are one function of their arguments. -/
module

public import proofs.«01_k».proof.Proof.Sb.Ref

@[expose] public section

set_option maxRecDepth 16384

noncomputable section

namespace Cert.Sb

open Idealize.ShloMosaic Idealize.ShloMosaic.TcCoe Idealize.SL.Sem
open Cert.KernelIdeal Cert.KernelIdeal.Gen

variable (B : FVec Ideal S2x16 .f32) (Q : FVec Ideal S3x8192x2048 .f32) (K V : FVec Ideal S8192x2048 .bf16) (g : FVec Ideal S2x128 .f32)

/-- The reference's scale, the 32-bit number nearest `1 / sqrt 128`. -/
abbrev scR : ℝ := 11863283 / 134217728

theorem scR_pos : 0 < scR := by norm_num

theorem ofBits_scale : Ideal.ofBits .f32 0x3DB504F3#32 = ((scR : ℝ) : EReal) := by
  simp [Ideal.ofBits, Ideal.ieee, -EReal.coe_mul]
  norm_num

/-- The kernel's folded scale is the reference's times `1 / log 2`. -/
theorem qs_eq : qs = ((scR : ℝ) : EReal) * lg := by
  unfold qs lg
  rw [← EReal.coe_mul]
  exact IdealRules.named_const.ideal_named_scalar _ _ _ _ rfl

/-- The reference's logits. -/
def zn (b : Fin 4) (h : Fin 16) (t : Fin 2048) (n : ℕ) : EReal :=
  (∑ d : Fin 128, qn Q g b t h d * K (ix2 (row b (key n)) (lane h d))) * ((scR : ℝ) : EReal) + B (ix2 0 h)

/-- The kernel's logits are the reference's in bits. -/
theorem zk_eq (b : Fin 4) (h : Fin 16) (t : Fin 2048) (n : ℕ) : zk B Q K g b h t n = zn B Q K g b h t n * lg := by
  unfold zk zn
  rw [show lg = ((lgR : ℝ) : EReal) from rfl, add_mul_pos lgR_pos, sum_mul_pos scR_pos, sum_mul_pos lgR_pos]
  refine congrArg₂ _ (Finset.sum_congr rfl fun d _ => ?_) rfl
  rw [qs_eq, show lg = ((lgR : ℝ) : EReal) from rfl]
  ac_rfl

theorem key_val (n : Fin 2048) : key n.val = n := Fin.ext (Nat.mod_eq_of_lt n.isLt)

theorem Z_zn (b : Fin 4) (h : Fin 16) (t n : Fin 2048) : Ref.Z B Q K g (ix4 b h t n) = zn B Q K g b h t n.val := by
  rw [Ref.Z_apply, ofBits_scale]
  unfold zn
  rw [key_val]

/-- What a key adds to the log of the stick, in the reference. -/
def ln (b : Fin 4) (h : Fin 16) (t : Fin 2048) (n : ℕ) : EReal := if n < t.val then -sp (zn B Q K g b h t n) else 0

theorem lkm_zk (b : Fin 4) (h : Fin 16) (t : Fin 2048) (n : ℕ) : lkm (zk B Q K g b h t) t.val n = ln B Q K g b h t n * lg := by
  unfold lkm ln
  split
  · rw [zk_eq, lk2_mul_lg]
  · rw [zero_mul]

theorem car_zk (b : Fin 4) (h : Fin 16) (t : Fin 2048) (lo : ℕ) :
    car (zk B Q K g b h t) t.val lo = (∑ m ∈ Finset.Ico lo 2048, ln B Q K g b h t m) * lg := by
  unfold car
  rw [show lg = ((lgR : ℝ) : EReal) from rfl, sum_mul_pos lgR_pos]
  exact Finset.sum_congr rfl fun n _ => lkm_zk B Q K g b h t n

theorem wt_zk (b : Fin 4) (h : Fin 16) (t n : Fin 2048) : wt (zk B Q K g b h t) t.val n.val = Ref.AW B Q K g (ix4 b h t n) := by
  have hlk : ∀ n : Fin 2048, Ref.LK B Q K g (ix4 b h t n) = ln B Q K g b h t n.val := fun n => by
    rw [Ref.LK_apply, Z_zn]; rfl
  rw [Ref.AW_apply, Ref.CS_apply _ b h t n _ hlk, hlk, Z_zn]
  unfold wt
  by_cases hn : n.val < t.val
  · rw [if_pos hn, if_pos hn, zk_eq, car_zk, weight_eq, Finset.sum_eq_sum_Ico_succ_bot n.isLt]
    have hl : ln B Q K g b h t n.val = -sp (zn B Q K g b h t n.val) := if_pos hn
    rw [hl]
  · rw [if_neg hn, if_neg hn]

theorem attn_eq (b : Fin 4) (t : Fin 2048) (h : Fin 16) (d : Fin 128) :
    attn B Q K V g b t h d = Ref.OUT B Q K V g (ix2 (row b t) (lane h d)) := by
  rw [Ref.OUT_apply]
  unfold attn acc
  rw [Nat.Ico_zero_eq_range, Finset.sum_range]
  refine Finset.sum_congr rfl fun n _ => ?_
  dsimp only
  rw [wt_zk, key_val, mul_comm]

theorem G_eq : G B Q K V g = Ref.OUT B Q K V g := by
  funext y
  obtain ⟨b, t, hr⟩ : ∃ (b : Fin 4) (t : Fin 2048), row b t = y 0 := by
    have h0 : (y 0).val < 8192 := (y 0).isLt
    exact ⟨⟨(y 0).val / 2048, by omega⟩, ⟨(y 0).val % 2048, by omega⟩, Fin.ext (by show (y 0).val / 2048 * 2048 + (y 0).val % 2048 = _; omega)⟩
  obtain ⟨h, d, hl⟩ : ∃ (h : Fin 16) (d : Fin 128), lane h d = y 1 := by
    have h1 : (y 1).val < 2048 := (y 1).isLt
    exact ⟨⟨(y 1).val / 128, by omega⟩, ⟨(y 1).val % 128, by omega⟩, Fin.ext (by show (y 1).val / 128 * 128 + (y 1).val % 128 = _; omega)⟩
  have hy : y = ix2 (row b t) (lane h d) := by
    funext a
    fin_cases a
    · exact hr.symm
    · exact hl.symm
  rw [hy, G_apply, attn_eq]

end Cert.Sb

end
-- ==== Proof.FfnIn.TileIdeal.lean ====
/-
  The gated feed-forward input, one grid point at a time: what a row tile's result is.

  The body works through a tile of 1024 rows in eight blocks of 128 rows. A block's rows are multiplied with
  the two columns of weights; the first product is convolved along the rows with three taps, the two rows
  before the block coming from the block before it (before the first block: from the tile before); then the
  convolution is gated and multiplied with the second product. The printed body cuts this differently for
  each block; here it is one function of the block's number.
-/
module

public import proofs.«01_k».proof.Proof.Gen.Kernel2Ideal.Frame
public import proofs.«01_k».proof.Proof.Gen.Kernel2Ideal.Skeleton
public import Idealize.ShloMosaic.Lib.Claim
public import Idealize.ShloMosaic.Lib.Pipeline.ValueKit
public import Idealize.ShloMosaic.Lib.VecWindow
public import Idealize.ShloMosaic.Lib.Pointwise

@[expose] public section

set_option maxRecDepth 16384

noncomputable section

namespace Cert.Kernel2Ideal.Body

open Cert.Kernel2Ideal Cert.Kernel2Ideal.Gen
open Idealize.ShloMosaic Idealize.ShloMosaic.Tactic

variable {F : FTy → Type} [FloatOps F]

/-- Row block `r` of a tile of the input. -/
def rows (x : Vec F S1024x2048 .bf16) (r : ℕ) (hr : r < 8) : Vec F S128x2048 .bf16 :=
  View.ld x (Rect.unit (s := S1024x2048) ![128 * r, 0] S128x2048.size (by
    intro a; fin_cases a
    · show 128 * r + 128 ≤ 1024; omega
    · show 0 + 2048 ≤ 2048; omega))

/-- Tap `k` of the convolution. -/
def tap (cw : Vec F S1x3x512 .f32) (k : ℕ) (hk : k < 3) : Vec F S1x1x512 .f32 :=
  View.ld cw (Rect.unit (s := S1x3x512) ![0, k, 0] S1x1x512.size (by
    intro a; fin_cases a
    · show 0 + 1 ≤ 1; omega
    · show k + 1 ≤ 3; omega
    · show 0 + 512 ≤ 512; omega))

/-- A block's product with a column of weights. -/
def prod (x : Vec F S1024x2048 .bf16) (w : Vec F S2048x512 .bf16) (r : ℕ) (hr : r < 8) : FVec F S128x512 .f32 :=
  k0_pay7 (rows x r hr) w

/-- The two rows of the first product before block `r`: `h` before the first. -/
def prior (h : Vec F S2x512 .f32) (x : Vec F S1024x2048 .bf16) (wa : Vec F S2048x512 .bf16) : (r : ℕ) → r < 8 → Vec F S2x512 .f32
  | 0, _ => h
  | r + 1, hr => k0_pay14 (prod x wa r (Nat.lt_of_succ_lt hr))

/-- The row numbers 0 to 7. -/
def rowNo : IVec S8x512 32 := iota .tc S8x512 32 [0] iota_S8x512_d0_w32

/-- A block's result from its two products `a`, `b` and the two rows `h` before it. -/
def gate (h : Vec F S2x512 .f32) (a b : FVec F S128x512 .f32) (cw : Vec F S1x3x512 .f32) (cb : Vec F S1x1x512 .f32) : FVec F S128x512 .bf16 :=
  k0_pay13 b (k0_pay11 rowNo h a cb (tap cw 0 (by decide)) (tap cw 1 (by decide))) (k0_pay12 a (tap cw 2 (by decide)))

/-- Row block `r` of a tile's result. -/
def block (h : Vec F S2x512 .f32) (x : Vec F S1024x2048 .bf16) (wa wb : Vec F S2048x512 .bf16) (cw : Vec F S1x3x512 .f32) (cb : Vec F S1x1x512 .f32)
    (r : ℕ) (hr : r < 8) : FVec F S128x512 .bf16 :=
  gate (prior h x wa r hr) (prod x wa r hr) (prod x wb r hr) cw cb

/-- A tile's result. -/
def tile (h : Vec F S2x512 .f32) (x : Vec F S1024x2048 .bf16) (wa wb : Vec F S2048x512 .bf16) (cw : Vec F S1x3x512 .f32) (cb : Vec F S1x1x512 .f32) :
    Vec F S1024x512 .bf16 := fun y =>
  block h x wa wb cw cb ((y 0 : ℕ) / 128) (Nat.div_lt_of_lt_mul (show (y 0 : ℕ) < 128 * 8 from (y 0).isLt))
    (ix2 (⟨(y 0 : ℕ) % 128, Nat.mod_lt _ (by norm_num)⟩ : Fin 128) (y 1 : Fin 512))

theorem tile_at (h : Vec F S2x512 .f32) (x : Vec F S1024x2048 .bf16) (wa wb : Vec F S2048x512 .bf16) (cw : Vec F S1x3x512 .f32) (cb : Vec F S1x1x512 .f32)
    (r : ℕ) (hr : r < 8) (y : S1024x512.Idx) (z : S128x512.Idx) (h0 : (y 0 : ℕ) = 128 * r + (z 0 : ℕ)) (h1 : (y 1 : ℕ) = (z 1 : ℕ)) :
    tile h x wa wb cw cb y = block h x wa wb cw cb r hr z := by
  have hz : (z 0 : ℕ) < 128 := (z 0).isLt
  obtain rfl : r = (y 0 : ℕ) / 128 := by omega
  unfold tile
  refine congrArg _ ?_
  funext a
  fin_cases a
  · apply Fin.ext; show (y 0 : ℕ) % 128 = (z 0 : ℕ); omega
  · apply Fin.ext; exact h1

/-- The last two rows of a tile's first product. -/
def last (x : Vec F S1024x2048 .bf16) (wa : Vec F S2048x512 .bf16) : Vec F S2x512 .f32 := k0_pay14 (prod x wa 7 (by decide))

/-- The same two rows as they are kept for the next tile. -/
def kept (x : Vec F S1024x2048 .bf16) (wa : Vec F S2048x512 .bf16) : Vec F S2x512 .f32 := k0_pay69 (prod x wa 7 (by decide))

end Cert.Kernel2Ideal.Body

end
-- ==== Proof.FfnIn.BodyIdeal.lean ====
/-
  The gated feed-forward input, one grid point at a time: what the body leaves in its buffers.

  There are three cases. At a column's first row tile the body rounds the column's weights into its scratch
  buffers and stores the sample rows' products. At the first row tile of a sequence the two rows before it
  are zero; at the second they are the last rows of the first, kept in a third scratch buffer.
-/
module

public import proofs.«01_k».proof.Proof.FfnIn.TileIdeal

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether a row tile is the first of its sequence, as the body computes it from the row tile's number. -/
def cond2 (i : grid0.Coords) : BitVec 1 :=
  Scalar.cmpi .ne (Scalar.extui (Scalar.cmpi .eq
    (Scalar.select
      (Scalar.andi (Scalar.xori (Scalar.cmpi .slt (Scalar.remsi (BitVec.ofNat 32 (i 1).val) (Scalar.select (Scalar.cmpi .eq 2#32 0#32) 1#32 2#32)) 0#32)
          (Scalar.cmpi .slt (Scalar.select (Scalar.cmpi .eq 2#32 0#32) 1#32 2#32) 0#32))
        (Scalar.cmpi .ne (Scalar.remsi (BitVec.ofNat 32 (i 1).val) (Scalar.select (Scalar.cmpi .eq 2#32 0#32) 1#32 2#32)) 0#32))
      (Scalar.addi (Scalar.remsi (BitVec.ofNat 32 (i 1).val) (Scalar.select (Scalar.cmpi .eq 2#32 0#32) 1#32 2#32)) (Scalar.select (Scalar.cmpi .eq 2#32 0#32) 1#32 2#32))
      (Scalar.remsi (BitVec.ofNat 32 (i 1).val) (Scalar.select (Scalar.cmpi .eq 2#32 0#32) 1#32 2#32))) 0#32) : BitVec 32) 0#32

set_option maxHeartbeats 4000000 in
/-- At a column's first row tile: the rounded weights and the sample rows' products are stored, the rows before the tile are zero, and the tile is worked through. -/
theorem firstRun (c : Dev nD) (i : grid0.Coords) (hc1 : k0_cond1 i = 1#1) (hc2 : cond2 i = 1#1) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S32x2048 .bf16) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1024x512 .bf16) (harg8 : arg8.IsWhole) (arg9 : Memref sig .tc .vmem S1x2x512 .f32) (harg9 : arg9.IsWhole) (arg10 : Memref sig .tc .vmem S32x512 .f32) (harg10 : arg10.IsWhole) (arg11 : Memref sig .tc .vmem S32x512 .f32) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S2x512 .f32) (harg14 : arg14.IsWhole)
    (x0 : Vec F S1024x2048 .bf16) (x1 : Vec F S1x2048x512 .f32) (x2 : Vec F S1x2048x512 .f32) (x3 : Vec F S32x2048 .bf16) (x4 : Vec F S1x3x512 .f32) (x5 : Vec F S1x1x512 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tile k0_pay6 x0 (k0_pay2 x1) (k0_pay3 x2) x4 x5) ∗ owns (c : Thread nD τ) arg9 fullShare (k0_pay1 (last x0 (k0_pay2 x1))) ∗ owns (c : Thread nD τ) arg10 fullShare (k0_pay4 x3 (k0_pay2 x1)) ∗ owns (c : Thread nD τ) arg11 fullShare (k0_pay5 x3 (k0_pay3 x2)) ∗ owns (c : Thread nD τ) arg12 fullShare (k0_pay2 x1) ∗ owns (c : Thread nD τ) arg13 fullShare (k0_pay3 x2) ∗ owns (c : Thread nD τ) arg14 fullShare (kept x0 (k0_pay2 x1))) -∗ K ⟨⟩))
      ⊢ wp frame (wpE (defs₀ (F := F)) Variants.none c none) E (cc0_ffn_in i arg2 harg2 arg3 harg3 arg4 harg4 arg5 harg5 arg6 harg6 arg7 harg7 arg8 harg8 arg9 harg9 arg10 harg10 arg11 harg11 arg12 harg12 arg13 harg13 arg14 harg14) K := by
  dsimp only [cond2] at hc2
  simp only [cc0_ffn_in_eq_skeleton]; unfold cc0_ffn_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine funext fun y => (View.read_writes_apply_eq_canon _ _ y _ (View.cover_of_tiledL _ ![128, 512] (by sl_kernel_rfl) y)).trans ?_
    frame_out
    canon_tiles z e
    · exact (tile_at _ _ _ _ _ _ 7 (by decide) y z (by omega) e1).symm
    · exact (tile_at _ _ _ _ _ _ 6 (by decide) y z (by omega) e1).symm
    · exact (tile_at _ _ _ _ _ _ 5 (by decide) y z (by omega) e1).symm
    · exact (tile_at _ _ _ _ _ _ 4 (by decide) y z (by omega) e1).symm
    · exact (tile_at _ _ _ _ _ _ 3 (by decide) y z (by omega) e1).symm
    · exact (tile_at _ _ _ _ _ _ 2 (by decide) y z (by omega) e1).symm
    · exact (tile_at _ _ _ _ _ _ 1 (by decide) y z (by omega) e1).symm
    · exact (tile_at _ _ _ _ _ _ 0 (by decide) y z (by omega) e1).symm
  isplitl [H7]
  · iexists _; isplitr; swap; · iexact H7
    ipureintro; refine (View.read_writes_full _ _ _ _ _).trans ?_; frame_out; try rfl
  isplitl [H8]
  · iexists _; isplitr; swap; · iexact H8
    ipureintro; refine (View.read_writes_full _ _ _ _ _).trans ?_; frame_out; try rfl
  isplitl [H9]
  · iexists _; isplitr; swap; · iexact H9
    ipureintro; refine (View.read_writes_full _ _ _ _ _).trans ?_; frame_out; try rfl
  isplitl [H10]
  · iexists _; isplitr; swap; · iexact H10
    ipureintro; refine (View.read_writes_full _ _ _ _ _).trans ?_; frame_out; try rfl
  isplitl [H11]
  · iexists _; isplitr; swap; · iexact H11
    ipureintro; refine (View.read_writes_full _ _ _ _ _).trans ?_; frame_out; try rfl
  iexists _; isplitr; swap; · iexact H12
  ipureintro; refine (View.read_writes_full _ _ _ _ _).trans ?_; frame_out; try rfl

set_option maxHeartbeats 4000000 in
/-- At the first row tile of a later sequence: the rows before the tile are zero, and the tile is worked through. -/
theorem evenRun (c : Dev nD) (i : grid0.Coords) (hc1 : ¬ k0_cond1 i = 1#1) (hc2 : cond2 i = 1#1) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S32x2048 .bf16) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1024x512 .bf16) (harg8 : arg8.IsWhole) (arg9 : Memref sig .tc .vmem S1x2x512 .f32) (harg9 : arg9.IsWhole) (arg10 : Memref sig .tc .vmem S32x512 .f32) (harg10 : arg10.IsWhole) (arg11 : Memref sig .tc .vmem S32x512 .f32) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S2x512 .f32) (harg14 : arg14.IsWhole)
    (x0 : Vec F S1024x2048 .bf16) (x1 : Vec F S1x2048x512 .f32) (x2 : Vec F S1x2048x512 .f32) (x3 : Vec F S32x2048 .bf16) (x4 : Vec F S1x3x512 .f32) (x5 : Vec F S1x1x512 .f32) (z0 z1 : Vec F S32x512 .f32) (wa wb : Vec F S2048x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare z0 ∗ owns (c : Thread nD τ) arg11 fullShare z1 ∗ owns (c : Thread nD τ) arg12 fullShare wa ∗ owns (c : Thread nD τ) arg13 fullShare wb ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tile k0_pay6 x0 wa wb x4 x5) ∗ owns (c : Thread nD τ) arg9 fullShare (k0_pay1 (last x0 wa)) ∗ owns (c : Thread nD τ) arg10 fullShare z0 ∗ owns (c : Thread nD τ) arg11 fullShare z1 ∗ owns (c : Thread nD τ) arg12 fullShare wa ∗ owns (c : Thread nD τ) arg13 fullShare wb ∗ owns (c : Thread nD τ) arg14 fullShare (kept x0 wa)) -∗ K ⟨⟩))
      ⊢ wp frame (wpE (defs₀ (F := F)) Variants.none c none) E (cc0_ffn_in i arg2 harg2 arg3 harg3 arg4 harg4 arg5 harg5 arg6 harg6 arg7 harg7 arg8 harg8 arg9 harg9 arg10 harg10 arg11 harg11 arg12 harg12 arg13 harg13 arg14 harg14) K := by
  dsimp only [cond2] at hc2
  simp only [cc0_ffn_in_eq_skeleton]; unfold cc0_ffn_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, ⟨%f11, %hf11, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9; obtain rfl := harg12.eq_unread hf10; obtain rfl := harg13.eq_unread hf11
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine funext fun y => (View.read_writes_apply_eq_canon _ _ y _ (View.cover_of_tiledL _ ![128, 512] (by sl_kernel_rfl) y)).trans ?_
    frame_out
    canon_tiles z e
    · exact (tile_at _ _ _ _ _ _ 7 (by decide) y z (by omega) e1).symm
    · exact (tile_at _ _ _ _ _ _ 6 (by decide) y z (by omega) e1).symm
    · exact (tile_at _ _ _ _ _ _ 5 (by decide) y z (by omega) e1).symm
    · exact (tile_at _ _ _ _ _ _ 4 (by decide) y z (by omega) e1).symm
    · exact (tile_at _ _ _ _ _ _ 3 (by decide) y z (by omega) e1).symm
    · exact (tile_at _ _ _ _ _ _ 2 (by decide) y z (by omega) e1).symm
    · exact (tile_at _ _ _ _ _ _ 1 (by decide) y z (by omega) e1).symm
    · exact (tile_at _ _ _ _ _ _ 0 (by decide) y z (by omega) e1).symm
  isplitl [H7]
  · iexists _; isplitr; swap; · iexact H7
    ipureintro; refine (View.read_writes_full _ _ _ _ _).trans ?_; frame_out; try rfl
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  iexists _; isplitr; swap; · iexact H12
  ipureintro; refine (View.read_writes_full _ _ _ _ _).trans ?_; frame_out; try rfl

set_option maxHeartbeats 4000000 in
/-- At the second row tile of a sequence: the tile is worked through after the rows kept from the tile before. -/
theorem oddRun (c : Dev nD) (i : grid0.Coords) (hc1 : ¬ k0_cond1 i = 1#1) (hc2 : ¬ cond2 i = 1#1) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S32x2048 .bf16) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1024x512 .bf16) (harg8 : arg8.IsWhole) (arg9 : Memref sig .tc .vmem S1x2x512 .f32) (harg9 : arg9.IsWhole) (arg10 : Memref sig .tc .vmem S32x512 .f32) (harg10 : arg10.IsWhole) (arg11 : Memref sig .tc .vmem S32x512 .f32) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S2x512 .f32) (harg14 : arg14.IsWhole)
    (x0 : Vec F S1024x2048 .bf16) (x1 : Vec F S1x2048x512 .f32) (x2 : Vec F S1x2048x512 .f32) (x3 : Vec F S32x2048 .bf16) (x4 : Vec F S1x3x512 .f32) (x5 : Vec F S1x1x512 .f32) (z0 z1 : Vec F S32x512 .f32) (wa wb : Vec F S2048x512 .bf16) (h : Vec F S2x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare z0 ∗ owns (c : Thread nD τ) arg11 fullShare z1 ∗ owns (c : Thread nD τ) arg12 fullShare wa ∗ owns (c : Thread nD τ) arg13 fullShare wb ∗ owns (c : Thread nD τ) arg14 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tile h x0 wa wb x4 x5) ∗ owns (c : Thread nD τ) arg9 fullShare (k0_pay1 (last x0 wa)) ∗ owns (c : Thread nD τ) arg10 fullShare z0 ∗ owns (c : Thread nD τ) arg11 fullShare z1 ∗ owns (c : Thread nD τ) arg12 fullShare wa ∗ owns (c : Thread nD τ) arg13 fullShare wb ∗ owns (c : Thread nD τ) arg14 fullShare (kept x0 wa)) -∗ K ⟨⟩))
      ⊢ wp frame (wpE (defs₀ (F := F)) Variants.none c none) E (cc0_ffn_in i arg2 harg2 arg3 harg3 arg4 harg4 arg5 harg5 arg6 harg6 arg7 harg7 arg8 harg8 arg9 harg9 arg10 harg10 arg11 harg11 arg12 harg12 arg13 harg13 arg14 harg14) K := by
  dsimp only [cond2] at hc2
  simp only [cc0_ffn_in_eq_skeleton]; unfold cc0_ffn_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9; obtain rfl := harg12.eq_unread hf10; obtain rfl := harg13.eq_unread hf11; obtain rfl := harg14.eq_unread hf12
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine funext fun y => (View.read_writes_apply_eq_canon _ _ y _ (View.cover_of_tiledL _ ![128, 512] (by sl_kernel_rfl) y)).trans ?_
    frame_out
    canon_tiles z e
    · exact (tile_at _ _ _ _ _ _ 7 (by decide) y z (by omega) e1).symm
    · exact (tile_at _ _ _ _ _ _ 6 (by decide) y z (by omega) e1).symm
    · exact (tile_at _ _ _ _ _ _ 5 (by decide) y z (by omega) e1).symm
    · exact (tile_at _ _ _ _ _ _ 4 (by decide) y z (by omega) e1).symm
    · exact (tile_at _ _ _ _ _ _ 3 (by decide) y z (by omega) e1).symm
    · exact (tile_at _ _ _ _ _ _ 2 (by decide) y z (by omega) e1).symm
    · exact (tile_at _ _ _ _ _ _ 1 (by decide) y z (by omega) e1).symm
    · exact (tile_at _ _ _ _ _ _ 0 (by decide) y z (by omega) e1).symm
  isplitl [H7]
  · iexists _; isplitr; swap; · iexact H7
    ipureintro; refine (View.read_writes_full _ _ _ _ _).trans ?_; frame_out; try rfl
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  iexists _; isplitr; swap; · iexact H12
  ipureintro; refine (View.read_writes_full _ _ _ _ _).trans ?_; frame_out; try rfl

end Cert.Kernel2Ideal.Body

end
-- ==== Proof.FfnIn.RunIdeal.lean ====
/-
  The gated feed-forward input: the whole run.

  Along one column of weights two scratch buffers keep what the column's first row tile put there, and so do
  the sample rows' result buffers; at a column's first tile all are written anew. A third scratch buffer hands
  the last two rows of a sequence's first tile to its second.
-/
module

public import proofs.«01_k».proof.Proof.FfnIn.BodyIdeal

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 88 points. -/
theorem points : cfg0.N = 88 := N_0

/-- The first row tile of the column that point `t` works on. -/
def start (t : Fin cfg0.N) : Fin cfg0.N := ⟨t.val / 8 * 8, lt_of_le_of_lt (Nat.div_mul_le_self _ _) t.isLt⟩

/-- The row tile before the one that point `t` works on. -/
def previous (t : Fin cfg0.N) : Fin cfg0.N := ⟨t.val - 1, lt_of_le_of_lt (Nat.sub_le _ _) t.isLt⟩

theorem start_of_first (t : Fin cfg0.N) (h : t.val % 8 = 0) : start t = t := by
  apply Fin.ext; show t.val / 8 * 8 = t.val; omega

theorem start_step (s t : Fin cfg0.N) (hs : s.val + 1 = t.val) (h : ¬ t.val % 8 = 0) : start s = start t := by
  apply Fin.ext; show s.val / 8 * 8 = t.val / 8 * 8; omega

/-- The column's first weights as the scratch buffer holds them. -/
def weightsA (c : Dev nD) (t : Fin cfg0.N) : Vec F S2048x512 .bf16 := k0_pay2 (iblk m c 1 (start t))

/-- The column's second weights as the scratch buffer holds them. -/
def weightsB (c : Dev nD) (t : Fin cfg0.N) : Vec F S2048x512 .bf16 := k0_pay3 (iblk m c 2 (start t))

/-- The two rows before a tile: zero before a sequence's first tile, else the last of the tile before. -/
def history (c : Dev nD) (t : Fin cfg0.N) : Vec F S2x512 .f32 :=
  if t.val % 2 = 0 then k0_pay6 else kept (iblk m c 0 (previous t)) (weightsA m c t)

/-- What a point leaves in the row tile's result buffer. -/
def result (c : Dev nD) (t : Fin cfg0.N) : Vec F S1024x512 .bf16 :=
  tile (history m c t) (iblk m c 0 t) (weightsA m c t) (weightsB m c t) (iblk m c 4 t) (iblk m c 5 t)

/-- What a point leaves in the buffer of the convolution's state. -/
def state (c : Dev nD) (t : Fin cfg0.N) : Vec F S1x2x512 .f32 := k0_pay1 (last (iblk m c 0 t) (weightsA m c t))

/-- What a point leaves in the buffer of the sample rows' first product. -/
def sampleA (c : Dev nD) (t : Fin cfg0.N) : Vec F S32x512 .f32 := k0_pay4 (iblk m c 3 (start t)) (weightsA m c t)

/-- What a point leaves in the buffer of the sample rows' second product. -/
def sampleB (c : Dev nD) (t : Fin cfg0.N) : Vec F S32x512 .f32 := k0_pay5 (iblk m c 3 (start t)) (weightsB m c t)

/-- Window 0's buffer at a point. -/
abbrev ms0_0 (t : Fin cfg0.N) := win0_0.stage (cfg0.slots t 0)
/-- Window 1's buffer at a point. -/
abbrev ms0_1 (t : Fin cfg0.N) := win0_1.stage (cfg0.slots t 1)
/-- Window 2's buffer at a point. -/
abbrev ms0_2 (t : Fin cfg0.N) := win0_2.stage (cfg0.slots t 2)
/-- Window 3's buffer at a point. -/
abbrev ms0_3 (t : Fin cfg0.N) := win0_3.stage (cfg0.slots t 3)
/-- Window 4's buffer at a point. -/
abbrev ms0_4 (t : Fin cfg0.N) := win0_4.stage (cfg0.slots t 4)
/-- Window 5's buffer at a point. -/
abbrev ms0_5 (t : Fin cfg0.N) := win0_5.stage (cfg0.slots t 5)
/-- Window 6's buffer at a point. -/
abbrev ms0_6 (t : Fin cfg0.N) := win0_6.stage (cfg0.slots t 6)
/-- Window 7's buffer at a point. -/
abbrev ms0_7 (t : Fin cfg0.N) := win0_7.stage (cfg0.slots t 7)
/-- Window 8's buffer at a point. -/
abbrev ms0_8 (t : Fin cfg0.N) := win0_8.stage (cfg0.slots t 8)
/-- Window 9's buffer at a point. -/
abbrev ms0_9 (t : Fin cfg0.N) := win0_9.stage (cfg0.slots t 9)
/-- The scratch buffers. -/
abbrev scM0_0 := Memref.whole cc0_scratch0
abbrev scM0_1 := Memref.whole cc0_scratch1
abbrev scM0_2 := Memref.whole cc0_scratch2

/-- What the scratch buffers hold before point `t`: at a later row tile of a column, the column's weights; at
    the second tile of a sequence, the last rows of the first. -/
def carry (c : Dev nD) (t : Fin (cfg0.N + 1)) : sProp 𝕄 :=
  iprop((∃ d, ⌜∀ s : Fin cfg0.N, s.val = t.val → ¬ s.val % 8 = 0 → d = weightsA m c s⌝ ∗ owns (c : Thread nD τ) scM0_0 fullShare d)
    ∗ (∃ d, ⌜∀ s : Fin cfg0.N, s.val = t.val → ¬ s.val % 8 = 0 → d = weightsB m c s⌝ ∗ owns (c : Thread nD τ) scM0_1 fullShare d)
    ∗ (∃ d, ⌜∀ s : Fin cfg0.N, s.val = t.val → ¬ s.val % 2 = 0 → d = history m c s⌝ ∗ owns (c : Thread nD τ) scM0_2 fullShare d)
    ∗ (∃ r, prngReg c r))

/-- The run's data: the arrays as found, what each point leaves in each buffer, and the scratch buffers' contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => result m c t
    | ⟨7, _⟩ => state m c t
    | ⟨8, _⟩ => sampleA m c t
    | ⟨9, _⟩ => sampleB m c t
  Φ t := carry m c t
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = result m c t := by dsimp only [dats]
theorem after0_7 (c : Dev nD) (t : Fin cfg0.N) : (dats m 0 c).after 7 t = state m c t := by dsimp only [dats]
theorem after0_8 (c : Dev nD) (t : Fin cfg0.N) : (dats m 0 c).after 8 t = sampleA m c t := by dsimp only [dats]
theorem after0_9 (c : Dev nD) (t : Fin cfg0.N) : (dats m 0 c).after 9 t = sampleB m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The weights are rounded at a column's first row tile, -/
theorem hcond : ∀ t : Fin cfg0.N, k0_cond1 (grid0.coords t) = 1#1 ↔ t.val % 8 = 0 :=
  (by decide +kernel : ∀ t : Fin grid0.N, _)

/-- and the rows before a tile are zeroed at a sequence's first. -/
theorem hcond2 : ∀ t : Fin cfg0.N, cond2 (grid0.coords t) = 1#1 ↔ t.val % 2 = 0 :=
  (by decide +kernel : ∀ t : Fin grid0.N, _)

/-- The buffer of the sample rows' first product is left alone at the later row tiles, -/
theorem idle_sampleA : ∀ t : Fin cfg0.N, cfg0.idle 8 (grid0.coords t) = !decide (t.val % 8 = 0) :=
  (by decide +kernel : ∀ t : Fin grid0.N, _)

/-- and written back at a column's last. -/
theorem flush_sampleA : ∀ t : Fin cfg0.N, (cfg0.win 8).flush t = decide (t.val % 8 = 7) :=
  (by decide +kernel : ∀ t : Fin grid0.N, _)

/-- The product is the same along a column. -/
theorem sampleA_step (c : Dev nD) (s t : Fin cfg0.N) (hs : s.val + 1 = t.val) (h : ¬ t.val % 8 = 0) : sampleA m c s = sampleA m c t := by
  unfold sampleA weightsA; rw [start_step s t hs h]

/-- At a later row tile the buffer holds what the column's first tile stored. -/
theorem before_sampleA (c : Dev nD) (n : ℕ) : ∀ (h : n < cfg0.N) (d), ¬ n % 8 = 0 → (dats m 0 c).before 8 ⟨n, h⟩ d = sampleA m c ⟨n, h⟩ := by
  induction n with
  | zero => intro h d h0; exact absurd rfl h0
  | succ n ih =>
    intro h d h0
    have hn : n < cfg0.N := Nat.lt_of_succ_lt h
    have hfl : (cfg0.win 8).flush ⟨n, hn⟩ = false := by
      rw [flush_sampleA]; exact decide_eq_false (by show ¬ n % 8 = 7; omega)
    have hstep : sampleA m c ⟨n, hn⟩ = sampleA m c ⟨n + 1, h⟩ := sampleA_step m c _ _ rfl h0
    rw [(dats m 0 c).before_of_pos 8 ⟨n + 1, h⟩ (Nat.succ_ne_zero n) (Window.fetch_out _ rfl _)]
    show (if (cfg0.win 8).flush ⟨n, hn⟩ then d else (dats m 0 c).left 8 ⟨n, hn⟩ d) = _
    rw [hfl, if_neg Bool.false_ne_true, ← hstep]
    unfold Dat.left
    rw [idle_sampleA]
    by_cases h1 : n % 8 = 0
    · simp only [h1, decide_true, Bool.not_true]
      unfold Dat.kept
      exact (Pipeline.fill_of_clip_none (cfg := cfg0) 8 _ (fun _ => rfl) d _ _).trans ((Window.fill_cut _ _ _).trans (after0_8 m c _))
    · simp only [h1, decide_false, Bool.not_false]
      exact ih hn d h1

/-- What a point may leave in the buffer: left alone and not written back, what was found; else the product. -/
theorem leave_sampleA (c : Dev nD) (t : Fin cfg0.N) :
    (owns (c : Thread nD τ) (ms0_8 t) fullShare (sampleA m c t) : sProp 𝕄)
      ⊢ match cfg0.idle 8 (cfg0.grid.coords t) with
        | true =>
          match (cfg0.win 8).flush t with
          | false => iprop(∃ d, owns (c : Thread nD τ) (ms0_8 t) fullShare ((dats m 0 c).before 8 t d))
          | true => owns (c : Thread nD τ) (ms0_8 t) fullShare ((dats m 0 c).after 8 t)
        | false => owns (c : Thread nD τ) (ms0_8 t) fullShare ((dats m 0 c).after 8 t) := by
  rw [idle_sampleA, flush_sampleA, after0_8]
  by_cases h : t.val % 8 = 0
  · simp only [h, decide_true, Bool.not_true]; exact .rfl
  · by_cases h1 : t.val % 8 = 7
    · simp only [h, h1, decide_true, decide_false, Bool.not_false]; exact .rfl
    · simp only [h, h1, decide_false, Bool.not_false]
      have hb : (dats m 0 c).before 8 t (sampleA m c t) = sampleA m c t := before_sampleA m c t.val t.isLt _ h
      iintro H
      iexists (sampleA m c t)
      rw [hb]; iexact H

/-- The buffer of the sample rows' second product is left alone at the later row tiles, -/
theorem idle_sampleB : ∀ t : Fin cfg0.N, cfg0.idle 9 (grid0.coords t) = !decide (t.val % 8 = 0) :=
  (by decide +kernel : ∀ t : Fin grid0.N, _)

/-- and written back at a column's last. -/
theorem flush_sampleB : ∀ t : Fin cfg0.N, (cfg0.win 9).flush t = decide (t.val % 8 = 7) :=
  (by decide +kernel : ∀ t : Fin grid0.N, _)

/-- The product is the same along a column. -/
theorem sampleB_step (c : Dev nD) (s t : Fin cfg0.N) (hs : s.val + 1 = t.val) (h : ¬ t.val % 8 = 0) : sampleB m c s = sampleB m c t := by
  unfold sampleB weightsB; rw [start_step s t hs h]

/-- At a later row tile the buffer holds what the column's first tile stored. -/
theorem before_sampleB (c : Dev nD) (n : ℕ) : ∀ (h : n < cfg0.N) (d), ¬ n % 8 = 0 → (dats m 0 c).before 9 ⟨n, h⟩ d = sampleB m c ⟨n, h⟩ := by
  induction n with
  | zero => intro h d h0; exact absurd rfl h0
  | succ n ih =>
    intro h d h0
    have hn : n < cfg0.N := Nat.lt_of_succ_lt h
    have hfl : (cfg0.win 9).flush ⟨n, hn⟩ = false := by
      rw [flush_sampleB]; exact decide_eq_false (by show ¬ n % 8 = 7; omega)
    have hstep : sampleB m c ⟨n, hn⟩ = sampleB m c ⟨n + 1, h⟩ := sampleB_step m c _ _ rfl h0
    rw [(dats m 0 c).before_of_pos 9 ⟨n + 1, h⟩ (Nat.succ_ne_zero n) (Window.fetch_out _ rfl _)]
    show (if (cfg0.win 9).flush ⟨n, hn⟩ then d else (dats m 0 c).left 9 ⟨n, hn⟩ d) = _
    rw [hfl, if_neg Bool.false_ne_true, ← hstep]
    unfold Dat.left
    rw [idle_sampleB]
    by_cases h1 : n % 8 = 0
    · simp only [h1, decide_true, Bool.not_true]
      unfold Dat.kept
      exact (Pipeline.fill_of_clip_none (cfg := cfg0) 9 _ (fun _ => rfl) d _ _).trans ((Window.fill_cut _ _ _).trans (after0_9 m c _))
    · simp only [h1, decide_false, Bool.not_false]
      exact ih hn d h1

/-- What a point may leave in the buffer: left alone and not written back, what was found; else the product. -/
theorem leave_sampleB (c : Dev nD) (t : Fin cfg0.N) :
    (owns (c : Thread nD τ) (ms0_9 t) fullShare (sampleB m c t) : sProp 𝕄)
      ⊢ match cfg0.idle 9 (cfg0.grid.coords t) with
        | true =>
          match (cfg0.win 9).flush t with
          | false => iprop(∃ d, owns (c : Thread nD τ) (ms0_9 t) fullShare ((dats m 0 c).before 9 t d))
          | true => owns (c : Thread nD τ) (ms0_9 t) fullShare ((dats m 0 c).after 9 t)
        | false => owns (c : Thread nD τ) (ms0_9 t) fullShare ((dats m 0 c).after 9 t) := by
  rw [idle_sampleB, flush_sampleB, after0_9]
  by_cases h : t.val % 8 = 0
  · simp only [h, decide_true, Bool.not_true]; exact .rfl
  · by_cases h1 : t.val % 8 = 7
    · simp only [h, h1, decide_true, decide_false, Bool.not_false]; exact .rfl
    · simp only [h, h1, decide_false, Bool.not_false]
      have hb : (dats m 0 c).before 9 t (sampleB m c t) = sampleB m c t := before_sampleB m c t.val t.isLt _ h
      iintro H
      iexists (sampleB m c t)
      rw [hb]; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns, the sample rows' result buffers at their products. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare (sampleA m c t)
    ∗ owns (c : Thread nD τ) (ms0_9 t) fullShare (sampleB m c t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = carry m c t.succ from rfl, show (dats m 0 c).Φ t.castSucc = carry m c t.castSucc from rfl,
    show (dats m 0 c).owesAt () t.succ = (dats m 0 c).owesAt () t.castSucc from rfl,
    after0_0, after0_1, after0_2, after0_3, after0_4, after0_5, after0_6, after0_7]
  unfold carry
  iintro ⟨⟨⟨%d10, %hd10, H10⟩, ⟨%d11, %hd11, H11⟩, ⟨%d12, %hd12, H12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hsuccA : ∀ s : Fin cfg0.N, s.val = t.succ.val → ¬ s.val % 8 = 0 → weightsA m c t = weightsA m c s := by
    intro s hs h0
    unfold weightsA; rw [start_step t s (by rw [hs]; rfl) h0]
  have hsuccB : ∀ s : Fin cfg0.N, s.val = t.succ.val → ¬ s.val % 8 = 0 → weightsB m c t = weightsB m c s := by
    intro s hs h0
    unfold weightsB; rw [start_step t s (by rw [hs]; rfl) h0]
  have hsuccH : ∀ s : Fin cfg0.N, s.val = t.succ.val → ¬ s.val % 2 = 0 → kept (iblk m c 0 t) (weightsA m c t) = history m c s := by
    intro s hs h0
    have hs' : s.val = t.val + 1 := by rw [hs]; rfl
    have hp : previous s = t := by apply Fin.ext; show s.val - 1 = t.val; omega
    unfold history
    rw [if_neg h0, hp, hsuccA s hs (by omega)]
  by_cases h : t.val % 8 = 0
  · have hwa : k0_pay2 (iblk m c 1 t) = weightsA m c t := by unfold weightsA; rw [start_of_first t h]
    have hwb : k0_pay3 (iblk m c 2 t) = weightsB m c t := by unfold weightsB; rw [start_of_first t h]
    have h2 : t.val % 2 = 0 := by omega
    have hh : (k0_pay6 : Vec F S2x512 .f32) = history m c t := by unfold history; rw [if_pos h2]
    have hsa : k0_pay4 (iblk m c 3 t) (weightsA m c t) = sampleA m c t := by unfold sampleA; rw [start_of_first t h]
    have hsb : k0_pay5 (iblk m c 3 t) (weightsB m c t) = sampleB m c t := by unfold sampleB; rw [start_of_first t h]
    iapply (firstRun c (grid0.coords t) ((hcond t).2 h) ((hcond2 t).2 h2) _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    rw [hwa, hwb, hsa, hsb, hh,
      show tile (history m c t) (iblk m c 0 t) (weightsA m c t) (weightsB m c t) (iblk m c 4 t) (iblk m c 5 t) = result m c t from rfl,
      show k0_pay1 (last (iblk m c 0 t) (weightsA m c t)) = state m c t from rfl]
    iintro ⟨H0, H1, H2, H3, H4, H5, H6, H7, H8, H9, H10, H11, H12⟩
    isplitl [H10 H11 H12 Hg]
    · isplitl [H10]
      · iexists _; isplitr; swap; · iexact H10
        ipureintro; exact hsuccA
      isplitl [H11]
      · iexists _; isplitr; swap; · iexact H11
        ipureintro; exact hsuccB
      isplitl [H12]
      · iexists _; isplitr; swap; · iexact H12
        ipureintro; exact hsuccH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).before 8 t d8 = sampleA m c t from before_sampleA m c t.val t.isLt d8 h,
      show (dats m 0 c).before 9 t d9 = sampleB m c t from before_sampleB m c t.val t.isLt d9 h]
    obtain rfl : d10 = weightsA m c t := hd10 t rfl h
    obtain rfl : d11 = weightsB m c t := hd11 t rfl h
    by_cases h2 : t.val % 2 = 0
    · have hh : (k0_pay6 : Vec F S2x512 .f32) = history m c t := by unfold history; rw [if_pos h2]
      iapply (evenRun c (grid0.coords t) (fun hc => h ((hcond t).1 hc)) ((hcond2 t).2 h2) _ _ _ _ _ _ _ _ _ _ _ _ _ _ _ _ _ _ _ _ _ _ _ _ _ _ (iblk m c 0 t) (iblk m c 1 t) (iblk m c 2 t) (iblk m c 3 t) (iblk m c 4 t) (iblk m c 5 t) (sampleA m c t) (sampleB m c t) (weightsA m c t) (weightsB m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [H9]; · iexact H9
      isplitl [H10]; · iexact H10
      isplitl [H11]; · iexact H11
      isplitl [H12]; · iexists _; iexact H12
      rw [hh,
        show tile (history m c t) (iblk m c 0 t) (weightsA m c t) (weightsB m c t) (iblk m c 4 t) (iblk m c 5 t) = result m c t from rfl,
        show k0_pay1 (last (iblk m c 0 t) (weightsA m c t)) = state m c t from rfl]
      iintro ⟨H0, H1, H2, H3, H4, H5, H6, H7, H8, H9, H10, H11, H12⟩
      isplitl [H10 H11 H12 Hg]
      · isplitl [H10]
        · iexists _; isplitr; swap; · iexact H10
          ipureintro; exact hsuccA
        isplitl [H11]
        · iexists _; isplitr; swap; · iexact H11
          ipureintro; exact hsuccB
        isplitl [H12]
        · iexists _; isplitr; swap; · iexact H12
          ipureintro; exact hsuccH
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · obtain rfl : d12 = history m c t := hd12 t rfl h2
      iapply (oddRun c (grid0.coords t) (fun hc => h ((hcond t).1 hc)) (fun hc => h2 ((hcond2 t).1 hc)) _ _ _ _ _ _ _ _ _ _ _ _ _ _ _ _ _ _ _ _ _ _ _ _ _ _ (iblk m c 0 t) (iblk m c 1 t) (iblk m c 2 t) (iblk m c 3 t) (iblk m c 4 t) (iblk m c 5 t) (sampleA m c t) (sampleB m c t) (weightsA m c t) (weightsB m c t) (history m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [H9]; · iexact H9
      isplitl [H10]; · iexact H10
      isplitl [H11]; · iexact H11
      isplitl [H12]; · iexact H12
      rw [show tile (history m c t) (iblk m c 0 t) (weightsA m c t) (weightsB m c t) (iblk m c 4 t) (iblk m c 5 t) = result m c t from rfl,
        show k0_pay1 (last (iblk m c 0 t) (weightsA m c t)) = state m c t from rfl]
      iintro ⟨H0, H1, H2, H3, H4, H5, H6, H7, H8, H9, H10, H11, H12⟩
      isplitl [H10 H11 H12 Hg]
      · isplitl [H10]
        · iexists _; isplitr; swap; · iexact H10
          ipureintro; exact hsuccA
        isplitl [H11]
        · iexists _; isplitr; swap; · iexact H11
          ipureintro; exact hsuccB
        isplitl [H12]
        · iexists _; isplitr; swap; · iexact H12
          ipureintro; exact hsuccH
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4, H5, H6, H7, H8, H9⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leave_sampleA m c t)
    iexact H8
  iapply (leave_sampleB m c t)
  iexact H9

/-- What the pipeline hands the body beyond the windows: the scratch buffers and the generator's register. -/
theorem rest_eq (c : Dev nD) : (Pipeline.ΦA spec0 c : sProp 𝕄)
    = iprop(((∃ d, owns (c : Thread nD τ) scM0_0 fullShare d) ∗ (∃ d, owns (c : Thread nD τ) scM0_1 fullShare d)
        ∗ (∃ d, owns (c : Thread nD τ) scM0_2 fullShare d)) ∗ (∃ r, prngReg c r)) := by
  unfold Pipeline.ΦA; rw [scopedRest0_eq]; simp only [scM0_0, scM0_1, scM0_2, owns_whole]; try rfl

/-- At the start nothing is asked of the scratch buffers, -/
theorem carry_in (c : Dev nD) : (Pipeline.ΦA spec0 c : sProp 𝕄) ⊢ (dats m 0 c).Φ 0 := by
  rw [rest_eq]; show _ ⊢ carry m c 0; unfold carry
  iintro ⟨⟨⟨%d, H⟩, ⟨%d', H'⟩, ⟨%d'', H''⟩⟩, Hg⟩
  isplitl [H]
  · iexists d; isplitr; swap; · iexact H
    ipureintro; intro s hs h0; exact absurd (by rw [hs]; rfl) h0
  isplitl [H']
  · iexists d'; isplitr; swap; · iexact H'
    ipureintro; intro s hs h0; exact absurd (by rw [hs]; rfl) h0
  isplitl [H'']
  · iexists d''; isplitr; swap; · iexact H''
    ipureintro; intro s hs h0; exact absurd (by rw [hs]; rfl) h0
  iexact Hg

/-- and at the end their contents are forgotten. -/
theorem carry_out (c : Dev nD) : (dats m 0 c).Φ (Fin.last cfg0.N) ⊢ (Pipeline.ΦA spec0 c : sProp 𝕄) := by
  rw [rest_eq]; show carry m c _ ⊢ _; unfold carry
  iintro ⟨⟨%d, -, H⟩, ⟨%d', -, H'⟩, ⟨%d'', -, H''⟩, Hg⟩
  isplitl [H H' H'']
  · isplitl [H]; · iexists d; iexact H
    isplitl [H']; · iexists d'; iexact H'
    iexists d''; iexact H''
  iexact Hg

set_option backward.isDefEq.respectTransparency.types false in
/-- The launch: every fair execution ends with the arrays at what the run's data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := carry_in m) (hout := carry_out m)

theorem run_main : θ_run defs (onTc (τ := τ) (main (F := F))) (s₀ m ρ) (Pipeline.FramePost cfgs (dats m) 0 (V m)) :=
  (θ_run defs _ _).mono (fun _ h => h.1) (run_main_quiescent m ρ)

/-- Every fair execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel2Ideal.Body

end
-- ==== Proof.FfnIn.Pointwise.lean ====
/-
  The gated feed-forward input: one row tile's result, element by element.
-/
module

public import proofs.«01_k».proof.Proof.FfnIn.TileIdeal
public import Idealize.ShloMosaic.Lib.Pipeline.ValueKit

@[expose] public section
set_option maxRecDepth 16384
noncomputable section
namespace Cert.Kernel2Ideal.Body
open Idealize.ShloMosaic Idealize.ShloMosaic.TcCoe Idealize.SL.Sem
open Idealize.ShloMosaic.Pipeline (Dat)
open Cert.Kernel2Ideal Cert.Kernel2Ideal.Gen

theorem rows_at (x : FVec Ideal S1024x2048 .bf16) (r : ℕ) (hr : r < 8) (a : Fin 128) (k : Fin 2048) :
    rows (F := Ideal) x r hr (ix2 a k) = x (ix2 (⟨128 * r + a.val, by omega⟩ : Fin 1024) k) := by
  unfold rows
  refine View.ld_unit_apply_of _ _ _ _ _ _ fun q => ?_
  fin_cases q
  · rfl
  · exact (Nat.zero_add _).symm

theorem tap_at (x : FVec Ideal S1x3x512 .f32) (r : ℕ) (hr : r < 3) (b : Fin 512) :
    tap (F := Ideal) x r hr (ix3 0 0 b) = x (ix3 0 (⟨r, hr⟩ : Fin 3) b) := by
  unfold tap
  refine View.ld_unit_apply_of _ _ _ _ _ _ fun q => ?_
  fin_cases q
  · rfl
  · rfl
  · exact (Nat.zero_add _).symm

theorem prod_at (x : FVec Ideal S1024x2048 .bf16) (w : FVec Ideal S2048x512 .bf16) (r : ℕ) (hr : r < 8) (a : Fin 128) (b : Fin 512) :
    prod (F := Ideal) x w r hr (ix2 a b) = ∑ k : Fin 2048, x (ix2 (⟨128 * r + a.val, by omega⟩ : Fin 1024) k) * w (ix2 k b) := by
  have h : ∀ y : FVec Ideal S128x2048 .bf16, k0_pay7 (F := Ideal) y w (ix2 a b) = ∑ k : Fin 2048, y (ix2 a k) * w (ix2 k b) := by
    intro y; pointwise [k0_pay7]
  unfold prod
  refine (h _).trans (Finset.sum_congr rfl fun k _ => ?_)
  rw [rows_at]

theorem select_row (p n : ℕ) (hp : p < 128) (hn : n < 128) (u v : EReal) :
    Scalar.select (IntOp.cmpi CmpIPredicate.eq (BitVec.ofNat 32 p) (BitVec.ofNat 32 n)) u v = if p = n then u else v := by
  have he : (BitVec.ofNat 32 p = BitVec.ofNat 32 n) ↔ p = n := by
    constructor
    · intro h
      have := congrArg BitVec.toNat h
      simp only [BitVec.toNat_ofNat] at this
      omega
    · rintro rfl; rfl
  by_cases h : p = n
  · subst h; simp [Scalar.select, IntOp.cmpi]
  · have : ¬ BitVec.ofNat 32 p = BitVec.ofNat 32 n := fun e => h (he.1 e)
    have hb : (BitVec.ofNat 32 p == BitVec.ofNat 32 n) = false := beq_eq_false_iff_ne.2 this
    rw [if_neg h]
    show (if BitVec.ofBool (BitVec.ofNat 32 p == BitVec.ofNat 32 n) = 1#1 then u else v) = v
    rw [hb]
    exact if_neg (by decide)

/-- A row two above, within a block: the rows before the block at its start. -/
def up2 (h : FVec Ideal S2x512 .f32) (a : FVec Ideal S128x512 .f32) (p : Fin 128) (q : Fin 512) : EReal :=
  if hp : p.val < 2 then h (ix2 (⟨p.val, hp⟩ : Fin 2) q) else a (ix2 (⟨p.val - 2, by omega⟩ : Fin 128) q)

def up1 (h : FVec Ideal S2x512 .f32) (a : FVec Ideal S128x512 .f32) (p : Fin 128) (q : Fin 512) : EReal :=
  if hp : p.val < 1 then h (ix2 1 q) else a (ix2 (⟨p.val - 1, by omega⟩ : Fin 128) q)

theorem pay11_at (h : FVec Ideal S2x512 .f32) (a : FVec Ideal S128x512 .f32) (cb w0 w1 : FVec Ideal S1x1x512 .f32) (p : Fin 128) (q : Fin 512) :
    k0_pay11 (F := Ideal) rowNo h a cb w0 w1 (ix2 p q)
      = (cb (ix3 0 0 q) + w0 (ix3 0 0 q) * up2 h a p q) + w1 (ix3 0 0 q) * up1 h a p q := by
  have hp := p.isLt
  pointwise [k0_pay11, rowNo]
  have e0 : ∀ u v : EReal, Scalar.select (IntOp.cmpi CmpIPredicate.eq (BitVec.ofNat 32 p.val) 0#32) u v = if p.val = 0 then u else v :=
    select_row p.val 0 hp (by norm_num)
  have e1 : ∀ u v : EReal, Scalar.select (IntOp.cmpi CmpIPredicate.eq (BitVec.ofNat 32 p.val) 1#32) u v = if p.val = 1 then u else v :=
    select_row p.val 1 hp (by norm_num)
  refine congrArg₂ (· + ·) (congrArg _ (congrArg _ ?_)) (congrArg _ ?_)
  · unfold up2
    by_cases h8 : p.val < 8
    · rw [dif_pos h8]
      refine (e1 _ _).trans ?_
      by_cases h1 : p.val = 1
      · rw [if_pos h1, dif_pos (by omega)]
        refine congrArg (fun r : Fin 2 => h (ix2 r q)) (Fin.ext h1.symm)
      · rw [if_neg h1]
        refine (e0 _ _).trans ?_
        by_cases h0 : p.val = 0
        · rw [if_pos h0, dif_pos (by omega)]
          refine congrArg (fun r : Fin 2 => h (ix2 r q)) (Fin.ext h0.symm)
        · rw [if_neg h0, dif_neg (by omega)]
          refine congrArg (fun r : Fin 128 => a (ix2 r q)) (Fin.ext ?_)
          show (p.val + 128 - 2) % 128 = p.val - 2; omega
    · rw [dif_neg h8, dif_neg (by omega)]
      refine congrArg (fun r : Fin 128 => a (ix2 r q)) (Fin.ext ?_)
      show (8 + (p.val - 8) + 128 - 2) % 128 = p.val - 2; omega
  · unfold up1
    by_cases h8 : p.val < 8
    · rw [dif_pos h8]
      refine (e0 _ _).trans ?_
      by_cases h0 : p.val = 0
      · rw [if_pos h0, dif_pos (by omega)]
      · rw [if_neg h0, dif_neg (by omega)]
        refine congrArg (fun r : Fin 128 => a (ix2 r q)) (Fin.ext ?_)
        show (p.val + 128 - 1) % 128 = p.val - 1; omega
    · rw [dif_neg h8, dif_neg (by omega)]
      refine congrArg (fun r : Fin 128 => a (ix2 r q)) (Fin.ext ?_)
      show (8 + (p.val - 8) + 128 - 1) % 128 = p.val - 1; omega

theorem pay12_at (a : FVec Ideal S128x512 .f32) (w : FVec Ideal S1x1x512 .f32) (p : Fin 128) (q : Fin 512) :
    k0_pay12 (F := Ideal) a w (ix2 p q) = w (ix3 0 0 q) * a (ix2 p q) := by
  pointwise [k0_pay12]

/-- The gate: `c` times its logistic, times `b`. -/
def gated (c b : EReal) : EReal := c * Ideal.div 1 (1 + Ideal.exp (0 - c)) * b

theorem pay13_at (b u v : FVec Ideal S128x512 .f32) (p : Fin 128) (q : Fin 512) :
    k0_pay13 (F := Ideal) b u v (ix2 p q) = gated (u (ix2 p q) + v (ix2 p q)) (b (ix2 p q)) := by
  pointwise [k0_pay13, gated]

theorem pay14_at (a : FVec Ideal S128x512 .f32) (p : Fin 2) (q : Fin 512) :
    k0_pay14 (F := Ideal) a (ix2 p q) = a (ix2 (⟨126 + p.val, by omega⟩ : Fin 128) q) := by
  pointwise [k0_pay14]

theorem pay69_at (a : FVec Ideal S128x512 .f32) (p : Fin 2) (q : Fin 512) :
    k0_pay69 (F := Ideal) a (ix2 p q) = a (ix2 (⟨126 + p.val, by omega⟩ : Fin 128) q) := by
  pointwise [k0_pay69, k0_pay68]

theorem pay6_at (p : Fin 2) (q : Fin 512) : k0_pay6 (F := Ideal) (ix2 p q) = 0 := by
  pointwise [k0_pay6]

/-- A tile's product with weights `w`, row `p`, column `q`. -/
def dot (x : FVec Ideal S1024x2048 .bf16) (w : FVec Ideal S2048x512 .bf16) (p : Fin 1024) (q : Fin 512) : EReal :=
  ∑ k : Fin 2048, x (ix2 p k) * w (ix2 k q)

/-- The row `d` above row `p` of a tile, `d` 1 or 2: one of the two rows `h` before the tile at its start. -/
def above (h : FVec Ideal S2x512 .f32) (x : FVec Ideal S1024x2048 .bf16) (w : FVec Ideal S2048x512 .bf16) (d : ℕ) (hd : d ≤ 2)
    (p : Fin 1024) (q : Fin 512) : EReal :=
  if hp : p.val < d then h (ix2 (⟨p.val + (2 - d), by omega⟩ : Fin 2) q) else dot x w (⟨p.val - d, by omega⟩ : Fin 1024) q

theorem prior_at (h : FVec Ideal S2x512 .f32) (x : FVec Ideal S1024x2048 .bf16) (wa : FVec Ideal S2048x512 .bf16) (r : ℕ) (hr : r < 8) (j : Fin 2) (q : Fin 512) :
    prior (F := Ideal) h x wa r hr (ix2 j q)
      = if h0 : r = 0 then h (ix2 j q) else dot x wa (⟨128 * r + j.val - 2, by omega⟩ : Fin 1024) q := by
  cases r with
  | zero => rw [dif_pos rfl]; rfl
  | succ r =>
    rw [dif_neg (Nat.succ_ne_zero r)]
    show k0_pay14 (F := Ideal) (prod x wa r _) (ix2 j q) = _
    refine (pay14_at _ _ _).trans ((prod_at _ _ _ _ _ _).trans ?_)
    refine congrArg (fun p : Fin 1024 => dot x wa p q) (Fin.ext ?_)
    show 128 * r + (126 + j.val) = 128 * (r + 1) + j.val - 2
    omega

theorem up2_at (h : FVec Ideal S2x512 .f32) (x : FVec Ideal S1024x2048 .bf16) (wa : FVec Ideal S2048x512 .bf16) (r : ℕ) (hr : r < 8) (p : Fin 128) (q : Fin 512) :
    up2 (prior (F := Ideal) h x wa r hr) (prod (F := Ideal) x wa r hr) p q = above h x wa 2 (by decide) (⟨128 * r + p.val, by omega⟩ : Fin 1024) q := by
  unfold up2 above
  by_cases h2 : p.val < 2
  · rw [dif_pos h2]
    refine (prior_at _ _ _ _ _ _ _).trans ?_
    by_cases h0 : r = 0
    · rw [dif_pos h0, dif_pos (by show 128 * r + p.val < 2; omega)]
      refine congrArg (fun j : Fin 2 => h (ix2 j q)) (Fin.ext ?_)
      show p.val = 128 * r + p.val + (2 - 2); omega
    · rw [dif_neg h0, dif_neg (by show ¬ 128 * r + p.val < 2; omega)]
  · rw [dif_neg h2, dif_neg (by show ¬ 128 * r + p.val < 2; omega)]
    refine (prod_at _ _ _ _ _ _).trans ?_
    refine congrArg (fun p : Fin 1024 => dot x wa p q) (Fin.ext ?_)
    show 128 * r + (p.val - 2) = 128 * r + p.val - 2; omega

theorem up1_at (h : FVec Ideal S2x512 .f32) (x : FVec Ideal S1024x2048 .bf16) (wa : FVec Ideal S2048x512 .bf16) (r : ℕ) (hr : r < 8) (p : Fin 128) (q : Fin 512) :
    up1 (prior (F := Ideal) h x wa r hr) (prod (F := Ideal) x wa r hr) p q = above h x wa 1 (by decide) (⟨128 * r + p.val, by omega⟩ : Fin 1024) q := by
  unfold up1 above
  by_cases h2 : p.val < 1
  · rw [dif_pos h2]
    refine (prior_at _ _ _ _ _ _ _).trans ?_
    by_cases h0 : r = 0
    · rw [dif_pos h0, dif_pos (by show 128 * r + p.val < 1; omega)]
      refine congrArg (fun j : Fin 2 => h (ix2 j q)) (Fin.ext ?_)
      show 1 = 128 * r + p.val + (2 - 1); omega
    · rw [dif_neg h0, dif_neg (by show ¬ 128 * r + p.val < 1; omega)]
      refine congrArg (fun p : Fin 1024 => dot x wa p q) (Fin.ext ?_)
      show 128 * r + 1 - 2 = 128 * r + p.val - 1; omega
  · rw [dif_neg h2, dif_neg (by show ¬ 128 * r + p.val < 1; omega)]
    refine (prod_at _ _ _ _ _ _).trans ?_
    refine congrArg (fun p : Fin 1024 => dot x wa p q) (Fin.ext ?_)
    show 128 * r + (p.val - 1) = 128 * r + p.val - 1; omega

/-- A tile's convolution. -/
def conv (h : FVec Ideal S2x512 .f32) (x : FVec Ideal S1024x2048 .bf16) (wa : FVec Ideal S2048x512 .bf16) (cw : FVec Ideal S1x3x512 .f32) (cb : FVec Ideal S1x1x512 .f32)
    (p : Fin 1024) (q : Fin 512) : EReal :=
  cb (ix3 0 0 q) + cw (ix3 0 0 q) * above h x wa 2 (by decide) p q + cw (ix3 0 1 q) * above h x wa 1 (by decide) p q + cw (ix3 0 2 q) * dot x wa p q

theorem tile_value (h : FVec Ideal S2x512 .f32) (x : FVec Ideal S1024x2048 .bf16) (wa wb : FVec Ideal S2048x512 .bf16) (cw : FVec Ideal S1x3x512 .f32) (cb : FVec Ideal S1x1x512 .f32)
    (p : Fin 1024) (q : Fin 512) :
    tile (F := Ideal) h x wa wb cw cb (ix2 p q) = gated (conv h x wa cw cb p q) (dot x wb p q) := by
  have hr : p.val / 128 < 8 := by omega
  have hp : (⟨128 * (p.val / 128) + p.val % 128, by omega⟩ : Fin 1024) = p := Fin.ext (Nat.div_add_mod _ _)
  show block (F := Ideal) h x wa wb cw cb (p.val / 128) hr (ix2 (⟨p.val % 128, Nat.mod_lt _ (by norm_num)⟩ : Fin 128) q) = _
  unfold block gate
  refine (pay13_at _ _ _ _ _).trans ?_
  refine congrArg₂ gated ?_ ?_
  · refine (congrArg₂ (· + ·) (pay11_at _ _ _ _ _ _ _) (pay12_at _ _ _ _)).trans ?_
    rw [up2_at, up1_at, prod_at, tap_at, tap_at, tap_at]
    simp only [hp]
    rfl
  · refine (prod_at _ _ _ _ _ _).trans ?_
    simp only [hp]
    rfl

end Cert.Kernel2Ideal.Body
end
-- ==== Proof.FfnIn.Value.lean ====
/-
  The gated feed-forward input: what its results hold.
-/
module

public import proofs.«01_k».proof.Proof.FfnIn.RunIdeal
public import proofs.«01_k».proof.Proof.FfnIn.Pointwise
public import Idealize.ShloMosaic.Lib.Pipeline.ValueKit

@[expose] public section
set_option maxRecDepth 16384
noncomputable section
namespace Cert.Kernel2Ideal.Body
open Idealize.ShloMosaic Idealize.ShloMosaic.TcCoe Idealize.SL.Sem
open Idealize.ShloMosaic.Pipeline (Dat)
open Cert.Kernel2Ideal Cert.Kernel2Ideal.Gen

/-- Column `q` of the first half of the weights, -/
def colA (q : Fin 5632) : Fin 11264 := ⟨q.val, by omega⟩

/-- and of the second half. -/
def colB (q : Fin 5632) : Fin 11264 := ⟨5632 + q.val, by omega⟩

/-- Row `p` of the input times column `j` of the weights. -/
def lin (X : FVec Ideal S8192x2048 .bf16) (W : FVec Ideal S4x2048x11264 .f32) (p : Fin 8192) (j : Fin 11264) : EReal :=
  ∑ k : Fin 2048, X (ix2 p k) * W (ix3 0 k j)

/-- The first product `d` rows above row `p` of the same sequence, zero above its first row. -/
def lifted (X : FVec Ideal S8192x2048 .bf16) (W : FVec Ideal S4x2048x11264 .f32) (d : ℕ) (p : Fin 8192) (q : Fin 5632) : EReal :=
  if p.val % 2048 < d then 0 else lin X W (⟨p.val - d, by omega⟩ : Fin 8192) (colA q)

/-- The convolution along the rows of a sequence. -/
def Conv (X : FVec Ideal S8192x2048 .bf16) (W : FVec Ideal S4x2048x11264 .f32) (CW : FVec Ideal S4x3x5632 .f32) (CB : FVec Ideal S4x5632 .f32)
    (p : Fin 8192) (q : Fin 5632) : EReal :=
  CB (ix2 0 q) + CW (ix3 0 0 q) * lifted X W 2 p q + CW (ix3 0 1 q) * lifted X W 1 p q + CW (ix3 0 2 q) * lin X W p (colA q)

/-- The gated product over the arguments. -/
def Result (X : FVec Ideal S8192x2048 .bf16) (W : FVec Ideal S4x2048x11264 .f32) (CW : FVec Ideal S4x3x5632 .f32) (CB : FVec Ideal S4x5632 .f32) :
    FVec Ideal S8192x5632 .bf16 := fun y => gated (Conv X W CW CB (y 0) (y 1)) (lin X W (y 0) (colB (y 1)))

/-- The convolution's state over the arguments: the last two rows of each sequence's first product. -/
def State (X : FVec Ideal S8192x2048 .bf16) (W : FVec Ideal S4x2048x11264 .f32) : FVec Ideal S4x2x5632 .f32 := fun y =>
  lin X W (⟨2048 * (y 0).val + 2046 + (y 1).val, by
    have h0 : (y 0).val < 4 := (y 0).isLt
    have h1 : (y 1).val < 2 := (y 1).isLt
    omega⟩ : Fin 8192) (colA (y 2))

/-- A product of the sample rows over the arguments. -/
def Sample (col : Fin 5632 → Fin 11264) (X : FVec Ideal S32x2048 .bf16) (W : FVec Ideal S4x2048x11264 .f32) : FVec Ideal S32x5632 .f32 := fun y =>
  ∑ k : Fin 2048, X (ix2 (y 0) k) * W (ix3 0 k (col (y 1)))

theorem pay2_at (w : FVec Ideal S1x2048x512 .f32) (k : Fin 2048) (b : Fin 512) :
    (k0_pay2 (F := Ideal) w) (ix2 k b) = w (ix3 0 k b) := by pointwise [k0_pay2]

theorem pay3_at (w : FVec Ideal S1x2048x512 .f32) (k : Fin 2048) (b : Fin 512) :
    (k0_pay3 (F := Ideal) w) (ix2 k b) = w (ix3 0 k b) := by pointwise [k0_pay3]

theorem pay4_at (x : FVec Ideal S32x2048 .bf16) (w : FVec Ideal S2048x512 .bf16) (y : S32x512.Idx) :
    (k0_pay4 (F := Ideal) x w) y = ∑ k : Fin 2048, x (ix2 (y 0) k) * w (ix2 k (y 1)) := by pointwise [k0_pay4]

theorem pay5_at (x : FVec Ideal S32x2048 .bf16) (w : FVec Ideal S2048x512 .bf16) (y : S32x512.Idx) :
    (k0_pay5 (F := Ideal) x w) y = ∑ k : Fin 2048, x (ix2 (y 0) k) * w (ix2 k (y 1)) := by pointwise [k0_pay5]

theorem pay1_at (h : FVec Ideal S2x512 .f32) (y : S1x2x512.Idx) :
    (k0_pay1 (F := Ideal) h) y = h (ix2 (y 1) (y 2)) := by pointwise [k0_pay1]

theorem last_at (x : FVec Ideal S1024x2048 .bf16) (w : FVec Ideal S2048x512 .bf16) (j : Fin 2) (q : Fin 512) :
    last (F := Ideal) x w (ix2 j q) = dot x w (⟨1022 + j.val, by omega⟩ : Fin 1024) q := by
  unfold last
  refine (pay14_at _ _ _).trans ((prod_at _ _ _ _ _ _).trans ?_)
  refine congrArg (fun p : Fin 1024 => dot x w p q) (Fin.ext ?_)
  show 128 * 7 + (126 + j.val) = 1022 + j.val; omega

theorem kept_at (x : FVec Ideal S1024x2048 .bf16) (w : FVec Ideal S2048x512 .bf16) (j : Fin 2) (q : Fin 512) :
    kept (F := Ideal) x w (ix2 j q) = dot x w (⟨1022 + j.val, by omega⟩ : Fin 1024) q := by
  unfold kept
  refine (pay69_at _ _ _).trans ((prod_at _ _ _ _ _ _).trans ?_)
  refine congrArg (fun p : Fin 1024 => dot x w p q) (Fin.ext ?_)
  show 128 * 7 + (126 + j.val) = 1022 + j.val; omega

variable (m : (ℓ : Loc nD τ sig) → Buf (Elt Ideal) ℓ)

theorem idx : ∀ t : Fin cfg0.N, win0_0.index t = ![t.val % 8, 0]
    ∧ win0_1.index t = ![0, 0, t.val / 8]
    ∧ win0_2.index t = ![0, 0, 11 + t.val / 8]
    ∧ win0_3.index t = ![0, 0]
    ∧ win0_4.index t = ![0, 0, t.val / 8]
    ∧ win0_5.index t = ![0, 0, t.val / 8]
    ∧ win0_6.index t = ![t.val % 8, t.val / 8]
    ∧ win0_7.index t = ![t.val % 8 / 2, 0, t.val / 8]
    ∧ win0_8.index t = ![0, t.val / 8]
    ∧ win0_9.index t = ![0, t.val / 8] :=
  (by decide +kernel : ∀ t : Fin grid0.N, _)

theorem flush_state : ∀ t : Fin cfg0.N, (cfg0.win 7).flush t = decide (t.val % 2 = 1) :=
  (by decide +kernel : ∀ t : Fin grid0.N, _)

/-- The row of the input behind row `p` of the tile that point `t` works on. -/
def rowOf (t : Fin cfg0.N) (p : Fin 1024) : Fin 8192 := ⟨1024 * (t.val % 8) + p.val, by omega⟩

/-- The column of the result behind column `q` of the tile that point `t` works on. -/
def colOf (t : Fin cfg0.N) (q : Fin 512) : Fin 5632 := ⟨512 * (t.val / 8) + q.val, by
  have h : t.val < 88 := lt_of_lt_of_eq t.isLt points
  omega⟩

theorem dotA (c : Dev nD) (t : Fin cfg0.N) (p : Fin 1024) (q : Fin 512) :
    dot (iblk m c 0 t) (weightsA m c t) p q
      = lin (m ((c : Thread nD τ).loc main_arg0)) (m ((c : Thread nD τ).loc main_arg2)) (rowOf t p) (colA (colOf t q)) := by
  have hs : (start t).val / 8 = t.val / 8 := Nat.mul_div_cancel _ (by norm_num)
  unfold dot lin weightsA
  refine Finset.sum_congr rfl fun k _ => congr (congrArg HMul.hMul ?_) ?_
  · blk_ext [iblk, V, idx t, rowOf]
  · refine (pay2_at _ _ _).trans ?_
    blk_ext [iblk, V, idx (start t), hs, colA, colOf]

theorem dotB (c : Dev nD) (t : Fin cfg0.N) (p : Fin 1024) (q : Fin 512) :
    dot (iblk m c 0 t) (weightsB m c t) p q
      = lin (m ((c : Thread nD τ).loc main_arg0)) (m ((c : Thread nD τ).loc main_arg2)) (rowOf t p) (colB (colOf t q)) := by
  have hs : (start t).val / 8 = t.val / 8 := Nat.mul_div_cancel _ (by norm_num)
  unfold dot lin weightsB
  refine Finset.sum_congr rfl fun k _ => congr (congrArg HMul.hMul ?_) ?_
  · blk_ext [iblk, V, idx t, rowOf]
  · refine (pay3_at _ _ _).trans ?_
    blk_ext [iblk, V, idx (start t), hs, colB, colOf]

theorem dot_previous (c : Dev nD) (t : Fin cfg0.N) (h : ¬ t.val % 2 = 0) (p : Fin 1024) (q : Fin 512) :
    dot (iblk m c 0 (previous t)) (weightsA m c t) p q
      = lin (m ((c : Thread nD τ).loc main_arg0)) (m ((c : Thread nD τ).loc main_arg2)) (rowOf (previous t) p) (colA (colOf t q)) := by
  have hw : weightsA m c t = weightsA m c (previous t) := by
    unfold weightsA
    rw [start_step (previous t) t (by show t.val - 1 + 1 = t.val; omega) (by omega)]
  have hc : colOf t q = colOf (previous t) q := by
    apply Fin.ext; show 512 * (t.val / 8) + q.val = 512 * ((t.val - 1) / 8) + q.val; omega
  rw [hw, hc]
  exact dotA m c _ p q

theorem above_at (c : Dev nD) (t : Fin cfg0.N) (d : ℕ) (hd : d ≤ 2) (p : Fin 1024) (q : Fin 512) :
    above (history m c t) (iblk m c 0 t) (weightsA m c t) d hd p q
      = lifted (m ((c : Thread nD τ).loc main_arg0)) (m ((c : Thread nD τ).loc main_arg2)) d (rowOf t p) (colOf t q) := by
  unfold above lifted
  by_cases hp : p.val < d
  · rw [dif_pos hp]
    unfold history
    by_cases h : t.val % 2 = 0
    · rw [if_pos h, if_pos (by show (1024 * (t.val % 8) + p.val) % 2048 < d; omega)]
      exact pay6_at _ _
    · rw [if_neg h, if_neg (by show ¬ (1024 * (t.val % 8) + p.val) % 2048 < d; omega)]
      refine (kept_at _ _ _ _).trans ((dot_previous m c t h _ _).trans ?_)
      refine congrArg (fun r : Fin 8192 => lin _ _ r _) (Fin.ext ?_)
      show 1024 * ((t.val - 1) % 8) + (1022 + (p.val + (2 - d))) = 1024 * (t.val % 8) + p.val - d
      omega
  · rw [dif_neg hp, if_neg (by show ¬ (1024 * (t.val % 8) + p.val) % 2048 < d; omega)]
    refine (dotA m c t _ _).trans ?_
    refine congrArg (fun r : Fin 8192 => lin _ _ r _) (Fin.ext ?_)
    show 1024 * (t.val % 8) + (p.val - d) = 1024 * (t.val % 8) + p.val - d
    omega

theorem tap_block (c : Dev nD) (t : Fin cfg0.N) (k : Fin 3) (q : Fin 512) :
    (iblk m c 4 t : FVec Ideal S1x3x512 .f32) (ix3 0 k q) = (m ((c : Thread nD τ).loc main_arg3) : FVec Ideal S4x3x5632 .f32) (ix3 0 k (colOf t q)) := by
  blk_ext [iblk, V, idx t, colOf]

theorem bias_block (c : Dev nD) (t : Fin cfg0.N) (q : Fin 512) :
    (iblk m c 5 t : FVec Ideal S1x1x512 .f32) (ix3 0 0 q) = (m ((c : Thread nD τ).loc main_arg4) : FVec Ideal S4x5632 .f32) (ix2 0 (colOf t q)) := by
  blk_ext! [iblk, V, idx t, colOf]

theorem conv_block (c : Dev nD) (t : Fin cfg0.N) (p : Fin 1024) (q : Fin 512) :
    conv (history m c t) (iblk m c 0 t) (weightsA m c t) (iblk m c 4 t) (iblk m c 5 t) p q
      = Conv (m ((c : Thread nD τ).loc main_arg0)) (m ((c : Thread nD τ).loc main_arg2))
        (m ((c : Thread nD τ).loc main_arg3)) (m ((c : Thread nD τ).loc main_arg4)) (rowOf t p) (colOf t q) :=
  congrArg₂ (· + ·) (congrArg₂ (· + ·) (congrArg₂ (· + ·) (bias_block m c t q)
      (congrArg₂ (· * ·) (tap_block m c t 0 q) (above_at m c t 2 (by decide) p q)))
      (congrArg₂ (· * ·) (tap_block m c t 1 q) (above_at m c t 1 (by decide) p q)))
    (congrArg₂ (· * ·) (tap_block m c t 2 q) (dotA m c t p q))

/-- Writing back the row tiles leaves the gated product. -/
theorem result_final (c : Dev nD) : (dats m 0 c).arrAt 6 cfg0.N = Result (m ((c : Thread nD τ).loc main_arg0)) (m ((c : Thread nD τ).loc main_arg2))
    (m ((c : Thread nD τ).loc main_arg3)) (m ((c : Thread nD τ).loc main_arg4)) := by
  refine (dats m 0 c).arrAt_eq_of_covers 6 _ (by decide +kernel) fun t _ y => ?_
  blk_simp
  rw [after0_6]
  unfold result
  have he : (win0_6.blk t).view.emb y = ix2 (rowOf t (y 0)) (colOf t (y 1)) := by blk_ext [idx t, rowOf, colOf]
  rw [he]
  refine (congrArg _ (eq_ix2 y)).trans ((tile_value _ _ _ _ _ _ _ _).trans ?_)
  unfold Result
  exact congrArg₂ gated (conv_block m c t _ _) (dotB m c t _ _)

theorem state_final (c : Dev nD) : (dats m 0 c).arrAt 7 cfg0.N = State (m ((c : Thread nD τ).loc main_arg0)) (m ((c : Thread nD τ).loc main_arg2)) := by
  refine (dats m 0 c).arrAt_eq_of_covers 7 _ (by decide +kernel) fun t hf y => ?_
  have ht : t.val % 2 = 1 := of_decide_eq_true ((flush_state t).symm.trans hf)
  blk_simp
  rw [after0_7]
  unfold state
  refine (pay1_at _ _).trans ((last_at _ _ _ _).trans ((dotA m c t _ _).trans ?_))
  have he : (win0_7.blk t).view.emb y = ix3 (⟨t.val % 8 / 2, by omega⟩ : Fin 4) (y 1) (colOf t (y 2)) := by blk_ext [idx t, colOf]
  rw [he]
  unfold State
  refine congrArg (fun r : Fin 8192 => lin _ _ r _) (Fin.ext ?_)
  show 1024 * (t.val % 8) + (1022 + (y 1).val) = 2048 * (t.val % 8 / 2) + 2046 + (y 1).val
  omega

theorem sampleA_final (c : Dev nD) : (dats m 0 c).arrAt 8 cfg0.N = Sample colA (m ((c : Thread nD τ).loc main_arg1)) (m ((c : Thread nD τ).loc main_arg2)) := by
  refine (dats m 0 c).arrAt_eq_of_covers 8 _ (by decide +kernel) fun t _ y => ?_
  have hs : (start t).val / 8 = t.val / 8 := Nat.mul_div_cancel _ (by norm_num)
  blk_simp
  rw [after0_8]
  unfold sampleA weightsA
  refine (pay4_at _ _ _).trans ?_
  unfold Sample
  refine Finset.sum_congr rfl fun k _ => congr (congrArg HMul.hMul ?_) ?_
  · blk_ext [iblk, V, idx t, idx (start t), hs]
  · refine (pay2_at _ _ _).trans ?_
    blk_ext [iblk, V, idx t, idx (start t), hs, colA]

theorem sampleB_final (c : Dev nD) : (dats m 0 c).arrAt 9 cfg0.N = Sample colB (m ((c : Thread nD τ).loc main_arg1)) (m ((c : Thread nD τ).loc main_arg2)) := by
  refine (dats m 0 c).arrAt_eq_of_covers 9 _ (by decide +kernel) fun t _ y => ?_
  have hs : (start t).val / 8 = t.val / 8 := Nat.mul_div_cancel _ (by norm_num)
  blk_simp
  rw [after0_9]
  unfold sampleB weightsB
  refine (pay5_at _ _ _).trans ?_
  unfold Sample
  refine Finset.sum_congr rfl fun k _ => congr (congrArg HMul.hMul ?_) ?_
  · blk_ext [iblk, V, idx t, idx (start t), hs]
  · refine (pay3_at _ _ _).trans ?_
    blk_ext [iblk, V, idx t, idx (start t), hs, colB]

end Cert.Kernel2Ideal.Body
end
-- ==== Proof.FfnIn.Claim.lean ====
/- The gated feed-forward input: the kernel and its reference leave the same arrays. -/
module

public import proofs.«01_k».proof.Defs
public import proofs.«01_k».proof.Proof.FfnIn.Value
public import proofs.«01_k».proof.Proof.Gen.Reference2Ideal.Run

@[expose] public section

set_option maxRecDepth 16384

noncomputable section

namespace Cert.Reference2Ideal.Value

open Idealize.ShloMosaic Idealize.ShloMosaic.TcCoe Idealize.SL.Sem Idealize.ShloMosaic.StableHlo
open Cert.Reference2Ideal Cert.Reference2Ideal.Gen
open Cert.Kernel2Ideal.Body (colA colB lin lifted gated)

/-- The reference's product of a sequence's rows with both halves of the weights, -/
def refDot (X : FVec Ideal S8192x2048 .bf16) (W : FVec Ideal S4x2048x11264 .f32) : FVec Ideal S4x2048x11264 .f32 :=
  Host.dotGeneral dot_S4x2048x2048_S2048x11264_S4x2048x11264_2_0_01_1_n_n none (shapeCast _ (extf .f32 X bitsLt_bf16_f32) shapeCasts_S8192x2048_S4x2048x2048) (shapeCast _ (extractStridedSlice S1x2048x11264 ![0, 0, 0] W slices_S4x2048x11264_S1x2048x11264_0_0_0) shapeCasts_S1x2048x11264_S2048x11264)

/-- its first half after two rows of zeros, -/
def refExt (X : FVec Ideal S8192x2048 .bf16) (W : FVec Ideal S4x2048x11264 .f32) : FVec Ideal S4x2050x5632 .f32 :=
  concatenate S4x2050x5632 1 [⟨S4x2x5632, (broadcastInDim S4x2x5632 ![] bcast_S_S4x2x5632 (constant S_ .f32 0x00000000#32))⟩, ⟨S4x2048x5632, (extractStridedSlice S4x2048x5632 ![0, 0, 0] (refDot X W) slices_S4x2048x11264_S4x2048x5632_0_0_0)⟩] concatenates_S4x2x5632_S4x2048x5632_S4x2050x5632_d1

/-- the convolution, -/
def refConv (X : FVec Ideal S8192x2048 .bf16) (W : FVec Ideal S4x2048x11264 .f32) (CW : FVec Ideal S4x3x5632 .f32) (CB : FVec Ideal S4x5632 .f32) : FVec Ideal S4x2048x5632 .f32 :=
  addf (addf (addf (broadcastInDim S4x2048x5632 ![0, 1, 2] bcast_S1x1x5632_S4x2048x5632_0_1_2 (broadcastInDim S1x1x5632 ![2] bcast_S5632_S1x1x5632_2 (shapeCast _ (extractStridedSlice S1x5632 ![0, 0] CB slices_S4x5632_S1x5632_0_0) shapeCasts_S1x5632_S5632))) (mulf (broadcastInDim S4x2048x5632 ![0, 1, 2] bcast_S1x1x5632_S4x2048x5632_0_1_2 (broadcastInDim S1x1x5632 ![2] bcast_S5632_S1x1x5632_2 (shapeCast _ (extractStridedSlice S1x1x5632 ![0, 0, 0] CW slices_S4x3x5632_S1x1x5632_0_0_0) shapeCasts_S1x1x5632_S5632))) (extractStridedSlice S4x2048x5632 ![0, 0, 0] (refExt X W) slices_S4x2050x5632_S4x2048x5632_0_0_0))) (mulf (broadcastInDim S4x2048x5632 ![0, 1, 2] bcast_S1x1x5632_S4x2048x5632_0_1_2 (broadcastInDim S1x1x5632 ![2] bcast_S5632_S1x1x5632_2 (shapeCast _ (extractStridedSlice S1x1x5632 ![0, 1, 0] CW slices_S4x3x5632_S1x1x5632_0_1_0) shapeCasts_S1x1x5632_S5632))) (extractStridedSlice S4x2048x5632 ![0, 1, 0] (refExt X W) slices_S4x2050x5632_S4x2048x5632_0_1_0))) (mulf (broadcastInDim S4x2048x5632 ![0, 1, 2] bcast_S1x1x5632_S4x2048x5632_0_1_2 (broadcastInDim S1x1x5632 ![2] bcast_S5632_S1x1x5632_2 (shapeCast _ (extractStridedSlice S1x1x5632 ![0, 2, 0] CW slices_S4x3x5632_S1x1x5632_0_2_0) shapeCasts_S1x1x5632_S5632))) (extractStridedSlice S4x2048x5632 ![0, 2, 0] (refExt X W) slices_S4x2050x5632_S4x2048x5632_0_2_0))

/-- and the sample rows' product. -/
def refDotS (Xs : FVec Ideal S32x2048 .bf16) (W : FVec Ideal S4x2048x11264 .f32) : FVec Ideal S32x11264 .f32 :=
  Host.dotGeneral dot_S32x2048_S2048x11264_S32x11264_1_0_0_1_n_n none (extf .f32 Xs bitsLt_bf16_f32) (shapeCast _ (extractStridedSlice S1x2048x11264 ![0, 0, 0] W slices_S4x2048x11264_S1x2048x11264_0_0_0) shapeCasts_S1x2048x11264_S2048x11264)

theorem refDot_at (X : FVec Ideal S8192x2048 .bf16) (W : FVec Ideal S4x2048x11264 .f32) (s : Fin 4) (r : Fin 2048) (j : Fin 11264) :
    refDot X W (ix3 s r j) = lin X W (⟨2048 * s.val + r.val, by omega⟩ : Fin 8192) j := by
  pointwise [refDot, lin]
  exact congrArg (fun p : Fin 8192 => lin X W p j) (Fin.ext (by show s.val * 2048 + r.val = 2048 * s.val + r.val; omega))

theorem refExt_at (X : FVec Ideal S8192x2048 .bf16) (W : FVec Ideal S4x2048x11264 .f32) (s : Fin 4) (r : Fin 2050) (q : Fin 5632) :
    refExt X W (ix3 s r q) = if h : r.val < 2 then 0 else refDot X W (ix3 s (⟨r.val - 2, by omega⟩ : Fin 2048) (colA q)) := by
  pointwise [refExt, colA]

/-- The extended first product, `d` rows up. -/
theorem refExt_lifted (X : FVec Ideal S8192x2048 .bf16) (W : FVec Ideal S4x2048x11264 .f32) (d : ℕ) (hd : d ≤ 2) (s : Fin 4) (r : Fin 2048) (q : Fin 5632) :
    refExt X W (ix3 s (⟨(2 - d) + r.val, by omega⟩ : Fin 2050) q) = lifted X W d (⟨2048 * s.val + r.val, by omega⟩ : Fin 8192) q := by
  rw [refExt_at]
  unfold lifted
  by_cases h : r.val < d
  · rw [dif_pos (by show 2 - d + r.val < 2; omega), if_pos (by show (2048 * s.val + r.val) % 2048 < d; omega)]
  · rw [dif_neg (by show ¬ 2 - d + r.val < 2; omega), if_neg (by show ¬ (2048 * s.val + r.val) % 2048 < d; omega), refDot_at]
    refine congrArg (fun p : Fin 8192 => lin X W p (colA q)) (Fin.ext ?_)
    show 2048 * s.val + (2 - d + r.val - 2) = 2048 * s.val + r.val - d
    omega

theorem refConv_at (X : FVec Ideal S8192x2048 .bf16) (W : FVec Ideal S4x2048x11264 .f32) (CW : FVec Ideal S4x3x5632 .f32) (CB : FVec Ideal S4x5632 .f32) (s : Fin 4) (r : Fin 2048) (q : Fin 5632) :
    refConv X W CW CB (ix3 s r q) = Cert.Kernel2Ideal.Body.Conv X W CW CB (⟨2048 * s.val + r.val, by omega⟩ : Fin 8192) q := by
  have h2 := refExt_lifted X W 2 (by decide) s r q
  have h1 := refExt_lifted X W 1 (by decide) s r q
  have h0 := refExt_lifted X W 0 (by decide) s r q
  pointwise [refConv, Cert.Kernel2Ideal.Body.Conv]
  have e2 : refExt X W (ix3 s (⟨r.val, by omega⟩ : Fin 2050) q) = lifted X W 2 (⟨2048 * s.val + r.val, by omega⟩ : Fin 8192) q :=
    (congrArg (fun i : Fin 2050 => refExt X W (ix3 s i q)) (Fin.ext (by show r.val = 2 - 2 + r.val; omega))).trans h2
  have e0 : lifted X W 0 (⟨2048 * s.val + r.val, by omega⟩ : Fin 8192) q = lin X W (⟨2048 * s.val + r.val, by omega⟩ : Fin 8192) (colA q) :=
    if_neg (Nat.not_lt_zero _)
  rw [← e0]
  exact congrArg₂ (· + ·) (congrArg₂ (· + ·) (congrArg (fun v => CB (ix2 0 q) + CW (ix3 0 0 q) * v) e2)
    (congrArg (fun v => CW (ix3 0 1 q) * v) h1)) (congrArg (fun v => CW (ix3 0 2 q) * v) h0)

/-- The reference's gated product. -/
theorem ref_result (X : FVec Ideal S8192x2048 .bf16) (W : FVec Ideal S4x2048x11264 .f32) (CW : FVec Ideal S4x3x5632 .f32) (CB : FVec Ideal S4x5632 .f32) :
    truncf .bf16 (shapeCast _ (mulf (mulf (refConv X W CW CB) (Host.divf (broadcastInDim S4x2048x5632 ![] bcast_S_S4x2048x5632 (constant S_ .f32 0x3F800000#32)) (addf (broadcastInDim S4x2048x5632 ![] bcast_S_S4x2048x5632 (constant S_ .f32 0x3F800000#32)) (Host.exp (Host.negf (refConv X W CW CB)))))) (extractStridedSlice S4x2048x5632 ![0, 0, 5632] (refDot X W) slices_S4x2048x11264_S4x2048x5632_0_0_5632)) shapeCasts_S4x2048x5632_S8192x5632) bitsLt_bf16_f32
      = Cert.Kernel2Ideal.Body.Result X W CW CB := by
  funext y
  pointwise [Cert.Kernel2Ideal.Body.Result, gated]
  have hy : (y 0).val < 8192 := (y 0).isLt
  have hp : (⟨2048 * ((y 0).val / 2048) + (y 0).val % 2048, by omega⟩ : Fin 8192) = y 0 := Fin.ext (by show 2048 * ((y 0).val / 2048) + (y 0).val % 2048 = (y 0).val; omega)
  have ec := (refConv_at X W CW CB (⟨(y 0).val / 2048, by omega⟩ : Fin 4) (⟨(y 0).val % 2048, by omega⟩ : Fin 2048) (y 1)).trans
    (congrArg (fun p : Fin 8192 => Cert.Kernel2Ideal.Body.Conv X W CW CB p (y 1)) hp)
  have ed := (refDot_at X W (⟨(y 0).val / 2048, by omega⟩ : Fin 4) (⟨(y 0).val % 2048, by omega⟩ : Fin 2048) (colB (y 1))).trans
    (congrArg (fun p : Fin 8192 => lin X W p (colB (y 1))) hp)
  refine congrArg₂ (· * ·) (congrArg₂ (· * ·) ec ?_) ed
  exact congrArg (fun v => Ideal.div 1 (1 + Ideal.exp v)) ((congrArg (fun v => -v) ec).trans (zero_sub _).symm)

/-- The reference's state of the convolution. -/
theorem ref_state (X : FVec Ideal S8192x2048 .bf16) (W : FVec Ideal S4x2048x11264 .f32) :
    extractStridedSlice S4x2x5632 ![0, 2048, 0] (refExt X W) slices_S4x2050x5632_S4x2x5632_0_2048_0
      = Cert.Kernel2Ideal.Body.State X W := by
  funext y
  have h1 : (y 1).val < 2 := (y 1).isLt
  pointwise [Cert.Kernel2Ideal.Body.State]
  refine (refExt_at X W (y 0) (⟨2048 + (y 1).val, by omega⟩ : Fin 2050) (y 2)).trans ?_
  rw [dif_neg (by show ¬ 2048 + (y 1).val < 2; omega)]
  refine (refDot_at X W (y 0) (⟨2048 + (y 1).val - 2, by omega⟩ : Fin 2048) (colA (y 2))).trans ?_
  refine congrArg (fun p : Fin 8192 => lin X W p (colA (y 2))) (Fin.ext ?_)
  show 2048 * (y 0).val + (2048 + (y 1).val - 2) = 2048 * (y 0).val + 2046 + (y 1).val
  omega

theorem ref_sampleA (Xs : FVec Ideal S32x2048 .bf16) (W : FVec Ideal S4x2048x11264 .f32) :
    extractStridedSlice S32x5632 ![0, 0] (refDotS Xs W) slices_S32x11264_S32x5632_0_0
      = Cert.Kernel2Ideal.Body.Sample colA Xs W := by
  funext y
  pointwise [refDotS, Cert.Kernel2Ideal.Body.Sample, colA]

theorem ref_sampleB (Xs : FVec Ideal S32x2048 .bf16) (W : FVec Ideal S4x2048x11264 .f32) :
    extractStridedSlice S32x5632 ![0, 5632] (refDotS Xs W) slices_S32x11264_S32x5632_0_5632
      = Cert.Kernel2Ideal.Body.Sample colB Xs W := by
  funext y
  pointwise [refDotS, Cert.Kernel2Ideal.Body.Sample, colB]

end Cert.Reference2Ideal.Value

namespace Cert.Kernel2Ideal.Body

open Idealize.ShloMosaic Idealize.ShloMosaic.TcCoe Idealize.SL.Sem
open Idealize.ShloMosaic.Pipeline (Dat)
open Cert.Kernel2Ideal Cert.Kernel2Ideal.Gen

/-- The kernel's run, its results named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1_0) = Result (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v1_1) = State (m ((c.tc : Thread nD τ).loc main_arg0)) (m ((c.tc : Thread nD τ).loc main_arg2))
      ∧ r.2.mem ((c.tc : Thread nD τ).loc main_v1_2) = Sample colA (m ((c.tc : Thread nD τ).loc main_arg1)) (m ((c.tc : Thread nD τ).loc main_arg2))
      ∧ r.2.mem ((c.tc : Thread nD τ).loc main_v1_3) = Sample colB (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 6).trans (result_final m c), ((h c).1 7).trans (state_final m c),
      ((h c).1 8).trans (sampleA_final m c), ((h c).1 9).trans (sampleB_final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.Kernel2Ideal.Body

open Idealize.ShloMosaic Idealize.ShloMosaic.TcCoe Idealize.SL.Sem

/-- The call computes its reference. -/
theorem Cert.Kernel2Ideal.Body.algebraic : Cert.algebraic_Kernel2Ideal_Reference2Ideal (hKernel2Ideal := Cert.Kernel2Ideal.Gen.facts)
    (hReference2Ideal := Cert.Reference2Ideal.Gen.facts) := by
  intro m g m' g' _ hag
  refine ⟨fun c => Cert.Kernel2Ideal.Body.Result (m (c.tc.loc Cert.Kernel2Ideal.main_arg0)) (m (c.tc.loc Cert.Kernel2Ideal.main_arg2)) (m (c.tc.loc Cert.Kernel2Ideal.main_arg3)) (m (c.tc.loc Cert.Kernel2Ideal.main_arg4)),
    fun c => Cert.Kernel2Ideal.Body.State (m (c.tc.loc Cert.Kernel2Ideal.main_arg0)) (m (c.tc.loc Cert.Kernel2Ideal.main_arg2)),
    fun c => Cert.Kernel2Ideal.Body.Sample Cert.Kernel2Ideal.Body.colA (m (c.tc.loc Cert.Kernel2Ideal.main_arg1)) (m (c.tc.loc Cert.Kernel2Ideal.main_arg2)),
    fun c => Cert.Kernel2Ideal.Body.Sample Cert.Kernel2Ideal.Body.colB (m (c.tc.loc Cert.Kernel2Ideal.main_arg1)) (m (c.tc.loc Cert.Kernel2Ideal.main_arg2)),
    Cert.Kernel2Ideal.Body.run_values m g, ?_⟩
  refine (θ_run Cert.Reference2Ideal.defs _ _).mono (fun r hr c => ?_) (Cert.Reference2Ideal.Value.run m' g')
  obtain ⟨h0, h1, h2, h3, h4⟩ := hag c
  obtain ⟨hv, hw, hu, hz, hk⟩ := hr c
  refine ⟨hv.trans ?_, hw.trans ?_, hu.trans ?_, hz.trans ?_, hk⟩
  · refine (Cert.Reference2Ideal.Value.ref_result _ _ _ _).trans ?_
    rw [h0, h2, h3, h4]
  · refine (Cert.Reference2Ideal.Value.ref_state _ _).trans ?_
    rw [h0, h2]
  · refine (Cert.Reference2Ideal.Value.ref_sampleA _ _).trans ?_
    rw [h1, h2]
  · refine (Cert.Reference2Ideal.Value.ref_sampleB _ _).trans ?_
    rw [h1, h2]

end
-- ==== Proof.FfnOut.BodyIdeal.lean ====
/-
  The feed-forward output product, one grid point at a time: what the body leaves in its buffers.

  At the first row tile of a column the body rounds the column's weights into its scratch buffer and
  stores the sample rows' product; at every row tile it stores the tile's product, reading the rounded
  weights from the scratch buffer.
-/
module

public import proofs.«01_k».proof.Proof.Gen.Kernel3Ideal.Frame
public import proofs.«01_k».proof.Proof.Gen.Kernel3Ideal.Skeleton
public import Idealize.ShloMosaic.Lib.Claim
public import Idealize.ShloMosaic.Lib.Pipeline.ValueKit
public import Idealize.ShloMosaic.Lib.VecWindow

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first row tile of a column: both products are stored, the weights rounded into the scratch buffer. -/
theorem firstRun (c : Dev nD) (i : grid0.Coords) (hc : k0_cond1 i = 1#1) (arg2 : Memref sig .tc .vmem S512x5632 .bf16) (harg2 : arg2.IsWhole) (arg3 : Memref sig .tc .vmem S1x5632x512 .f32) (harg3 : arg3.IsWhole) (arg4 : Memref sig .tc .vmem S512x512 .f32) (harg4 : arg4.IsWhole) (arg5 : Memref sig .tc .vmem S32x5632 .f32) (harg5 : arg5.IsWhole) (arg6 : Memref sig .tc .vmem S32x512 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S5632x512 .bf16) (harg9 : arg9.IsWhole)
    (x0 : Vec F S512x5632 .bf16) (x1 : Vec F S1x5632x512 .f32) (x2 : Vec F S512x512 .f32) (x3 : Vec F S32x5632 .f32) (x4 : Vec F S32x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 (k0_pay1 x1) x2) ∗ owns (c : Thread nD τ) arg8 fullShare (k0_pay2 x3 (k0_pay1 x1) x4) ∗ owns (c : Thread nD τ) arg9 fullShare (k0_pay1 x1)) -∗ K ⟨⟩))
      ⊢ wp frame (wpE (defs₀ (F := F)) Variants.none c none) E (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; refine (View.read_writes_full _ _ _ _ _).trans ?_; frame_out
  isplitl [H6]
  · iexists _; isplitr; swap; · iexact H6
    ipureintro; refine (View.read_writes_full _ _ _ _ _).trans ?_; frame_out
  iexists _; isplitr; swap; · iexact H7
  ipureintro; refine (View.read_writes_full _ _ _ _ _).trans ?_; frame_out

/-- At any later row tile: the prompt rows' product is stored, the rest stays as found. -/
theorem laterRun (c : Dev nD) (i : grid0.Coords) (hc : ¬ k0_cond1 i = 1#1) (arg2 : Memref sig .tc .vmem S512x5632 .bf16) (harg2 : arg2.IsWhole) (arg3 : Memref sig .tc .vmem S1x5632x512 .f32) (harg3 : arg3.IsWhole) (arg4 : Memref sig .tc .vmem S512x512 .f32) (harg4 : arg4.IsWhole) (arg5 : Memref sig .tc .vmem S32x5632 .f32) (harg5 : arg5.IsWhole) (arg6 : Memref sig .tc .vmem S32x512 .f32) (harg6 : arg6.IsWhole) (arg7 : Memref sig .tc .vmem S1x512x512 .f32) (harg7 : arg7.IsWhole) (arg8 : Memref sig .tc .vmem S1x32x512 .f32) (harg8 : arg8.IsWhole) (arg9 : Memref sig .tc .vmem S5632x512 .bf16) (harg9 : arg9.IsWhole)
    (x0 : Vec F S512x5632 .bf16) (x1 : Vec F S1x5632x512 .f32) (x2 : Vec F S512x512 .f32) (x3 : Vec F S32x5632 .f32) (x4 : Vec F S32x512 .f32) (z : Vec F S1x32x512 .f32) (wb : Vec F S5632x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare z ∗ owns (c : Thread nD τ) arg9 fullShare wb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 wb x2) ∗ owns (c : Thread nD τ) arg8 fullShare z ∗ owns (c : Thread nD τ) arg9 fullShare wb) -∗ K ⟨⟩))
      ⊢ wp frame (wpE (defs₀ (F := F)) Variants.none c none) E (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; refine (View.read_writes_full _ _ _ _ _).trans ?_; frame_out
  isplitl [H6]
  · iexists _; isplitr; · ipureintro; exact harg8.read_unread _
    iexact H6
  iexists _; isplitr; · ipureintro; exact harg9.read_unread _
  iexact H7

end Cert.Kernel3Ideal.Body

end
-- ==== Proof.FfnOut.RunIdeal.lean ====
/-
  The feed-forward output product: the whole run.

  Along one column of weights the scratch buffer keeps what the column's first row tile put there, and so
  does the sample rows' result buffer; at a column's first tile both are written anew.
-/
module

public import proofs.«01_k».proof.Proof.FfnOut.BodyIdeal

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 64 points. -/
theorem points : cfg0.N = 64 := N_0

/-- The first row tile of the column that point `t` works on. -/
def start (t : Fin cfg0.N) : Fin cfg0.N := ⟨t.val / 16 * 16, lt_of_le_of_lt (Nat.div_mul_le_self _ _) t.isLt⟩

theorem start_of_first (t : Fin cfg0.N) (h : t.val % 16 = 0) : start t = t := by
  apply Fin.ext; show t.val / 16 * 16 = t.val; omega

theorem start_step (s t : Fin cfg0.N) (hs : s.val + 1 = t.val) (h : ¬ t.val % 16 = 0) : start s = start t := by
  apply Fin.ext; show s.val / 16 * 16 = t.val / 16 * 16; omega

/-- The column's weights as the scratch buffer holds them. -/
def weights (c : Dev nD) (t : Fin cfg0.N) : Vec F S5632x512 .bf16 := k0_pay1 (iblk m c 1 (start t))

/-- What a point leaves in the prompt rows' result buffer. -/
def prompt (c : Dev nD) (t : Fin cfg0.N) : Vec F S1x512x512 .f32 := k0_pay3 (iblk m c 0 t) (weights m c t) (iblk m c 2 t)

/-- What a point leaves in the sample rows' result buffer. -/
def sample (c : Dev nD) (t : Fin cfg0.N) : Vec F S1x32x512 .f32 := k0_pay2 (iblk m c 3 (start t)) (weights m c t) (iblk m c 4 (start t))

/-- Window 0's buffer at a point. -/
abbrev ms0_0 (t : Fin cfg0.N) := win0_0.stage (cfg0.slots t 0)
abbrev hs0_0 (t : Fin cfg0.N) := hstage0_0 ((cfg0.slots t 0).cast nbuf0_0)
/-- Window 1's buffer at a point. -/
abbrev ms0_1 (t : Fin cfg0.N) := win0_1.stage (cfg0.slots t 1)
abbrev hs0_1 (t : Fin cfg0.N) := hstage0_1 ((cfg0.slots t 1).cast nbuf0_1)
/-- Window 2's buffer at a point. -/
abbrev ms0_2 (t : Fin cfg0.N) := win0_2.stage (cfg0.slots t 2)
abbrev hs0_2 (t : Fin cfg0.N) := hstage0_2 ((cfg0.slots t 2).cast nbuf0_2)
/-- Window 3's buffer at a point. -/
abbrev ms0_3 (t : Fin cfg0.N) := win0_3.stage (cfg0.slots t 3)
abbrev hs0_3 (t : Fin cfg0.N) := hstage0_3 ((cfg0.slots t 3).cast nbuf0_3)
/-- Window 4's buffer at a point. -/
abbrev ms0_4 (t : Fin cfg0.N) := win0_4.stage (cfg0.slots t 4)
abbrev hs0_4 (t : Fin cfg0.N) := hstage0_4 ((cfg0.slots t 4).cast nbuf0_4)
/-- Window 5's buffer at a point. -/
abbrev ms0_5 (t : Fin cfg0.N) := win0_5.stage (cfg0.slots t 5)
abbrev hs0_5 (t : Fin cfg0.N) := hstage0_5 ((cfg0.slots t 5).cast nbuf0_5)
/-- Window 6's buffer at a point. -/
abbrev ms0_6 (t : Fin cfg0.N) := win0_6.stage (cfg0.slots t 6)
abbrev hs0_6 (t : Fin cfg0.N) := hstage0_6 ((cfg0.slots t 6).cast nbuf0_6)
/-- The scratch buffer. -/
abbrev scM0_0 := Memref.whole cc0_scratch0

/-- What the scratch buffer holds before point `t`: at a later row tile of a column, the column's weights. -/
def carry (c : Dev nD) (t : Fin (cfg0.N + 1)) : sProp 𝕄 :=
  iprop((∃ d, ⌜∀ s : Fin cfg0.N, s.val = t.val → ¬ s.val % 16 = 0 → d = weights m c s⌝ ∗ owns (c : Thread nD τ) scM0_0 fullShare d)
    ∗ (∃ r, prngReg c r))

/-- The run's data: the arrays as found, what each point leaves in each buffer, and the scratch buffer's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prompt m c t
    | ⟨6, _⟩ => sample m c t
  Φ t := carry m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = prompt m c t := by dsimp only [dats]
theorem after0_6 (c : Dev nD) (t : Fin cfg0.N) : (dats m 0 c).after 6 t = sample m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The branch is taken at a column's first row tile. -/
theorem hcond : ∀ t : Fin cfg0.N, k0_cond1 (grid0.coords t) = 1#1 ↔ t.val % 16 = 0 :=
  (by decide +kernel : ∀ t : Fin grid0.N, _)

/-- The sample rows' result buffer is left alone at the other tiles, -/
theorem idle_sample : ∀ t : Fin cfg0.N, cfg0.idle 6 (grid0.coords t) = !decide (t.val % 16 = 0) :=
  (by decide +kernel : ∀ t : Fin grid0.N, _)

/-- and written back at a column's last. -/
theorem flush_sample : ∀ t : Fin cfg0.N, (cfg0.win 6).flush t = decide (t.val % 16 = 15) :=
  (by decide +kernel : ∀ t : Fin grid0.N, _)

/-- The sample rows' result is the same along a column. -/
theorem sample_step (c : Dev nD) (s t : Fin cfg0.N) (hs : s.val + 1 = t.val) (h : ¬ t.val % 16 = 0) : sample m c s = sample m c t := by
  unfold sample weights; rw [start_step s t hs h]

/-- At a later row tile the sample rows' result buffer holds what the column's first tile stored. -/
theorem before_sample (c : Dev nD) (n : ℕ) : ∀ (h : n < cfg0.N) (d), ¬ n % 16 = 0 → (dats m 0 c).before 6 ⟨n, h⟩ d = sample m c ⟨n, h⟩ := by
  induction n with
  | zero => intro h d h0; exact absurd rfl h0
  | succ n ih =>
    intro h d h0
    have hn : n < cfg0.N := Nat.lt_of_succ_lt h
    have hfl : (cfg0.win 6).flush ⟨n, hn⟩ = false := by
      rw [flush_sample]; exact decide_eq_false (by show ¬ n % 16 = 15; omega)
    have hstep : sample m c ⟨n, hn⟩ = sample m c ⟨n + 1, h⟩ := sample_step m c _ _ rfl h0
    rw [(dats m 0 c).before_of_pos 6 ⟨n + 1, h⟩ (Nat.succ_ne_zero n) (Window.fetch_out _ rfl _)]
    show (if (cfg0.win 6).flush ⟨n, hn⟩ then d else (dats m 0 c).left 6 ⟨n, hn⟩ d) = _
    rw [hfl, if_neg Bool.false_ne_true, ← hstep]
    unfold Dat.left
    rw [idle_sample]
    by_cases h1 : n % 16 = 0
    · simp only [h1, decide_true, Bool.not_true]
      unfold Dat.kept
      exact (Pipeline.fill_of_clip_none (cfg := cfg0) 6 _ (fun _ => rfl) d _ _).trans ((Window.fill_cut _ _ _).trans (after0_6 m c _))
    · simp only [h1, decide_false, Bool.not_false]
      exact ih hn d h1

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns, the sample rows' result buffer at `z`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare (sample m c t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = carry m c t.succ from rfl, show (dats m 0 c).Φ t.castSucc = carry m c t.castSucc from rfl,
    show (dats m 0 c).owesAt () t.succ = (dats m 0 c).owesAt () t.castSucc from rfl,
    after0_0, after0_1, after0_2, after0_3, after0_4, after0_5]
  unfold carry
  iintro ⟨⟨⟨%d7, %hd, H7⟩, Hg⟩, Ho, ⟨%d0, H0⟩, ⟨%d1, H1⟩, ⟨%d2, H2⟩, ⟨%d3, H3⟩, ⟨%d4, H4⟩, ⟨%d5, H5⟩, ⟨%d6, H6⟩⟩
  have hsucc : ∀ d : Vec F S5632x512 .bf16, d = weights m c t →
      ∀ s : Fin cfg0.N, s.val = t.succ.val → ¬ s.val % 16 = 0 → d = weights m c s := by
    intro d hd s hs h0
    rw [hd]; unfold weights; rw [start_step t s (by rw [hs]; rfl) h0]
  by_cases h : t.val % 16 = 0
  · have hw : k0_pay1 (iblk m c 1 t) = weights m c t := by unfold weights; rw [start_of_first t h]
    have ho : k0_pay3 (iblk m c 0 t) (k0_pay1 (iblk m c 1 t)) (iblk m c 2 t) = prompt m c t := by rw [hw]; rfl
    have hsm : k0_pay2 (iblk m c 3 t) (k0_pay1 (iblk m c 1 t)) (iblk m c 4 t) = sample m c t := by
      rw [hw]; unfold sample; rw [start_of_first t h]
    iapply (firstRun c (grid0.coords t) ((hcond t).2 h) _ _ _ _ _ _ _ _ _ _ _ _ _ _ _ _ (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    rw [ho, hsm, hw]
    iintro ⟨H0, H1, H2, H3, H4, H5, H6, H7⟩
    isplitl [H7 Hg]
    · isplitl [H7]
      · iexists _; isplitr; swap; · iexact H7
        ipureintro; exact hsucc _ rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).before 6 t d6 = sample m c t from before_sample m c t.val t.isLt d6 h]
    obtain rfl : d7 = weights m c t := hd t rfl h
    iapply (laterRun c (grid0.coords t) (fun hc => h ((hcond t).1 hc)) _ _ _ _ _ _ _ _ _ _ _ _ _ _ _ _ (iblk m c 0 t) (iblk m c 1 t) (iblk m c 2 t) (iblk m c 3 t) (iblk m c 4 t) (sample m c t) (weights m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    rw [show k0_pay3 (iblk m c 0 t) (weights m c t) (iblk m c 2 t) = prompt m c t from rfl]
    iintro ⟨H0, H1, H2, H3, H4, H5, H6, H7⟩
    isplitl [H7 Hg]
    · isplitl [H7]
      · iexists _; isplitr; swap; · iexact H7
        ipureintro; exact hsucc _ rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- What a point may leave in the sample rows' result buffer: left alone and not written back, what was found; else the sample rows' result. -/
theorem leave (c : Dev nD) (t : Fin cfg0.N) :
    (owns (c : Thread nD τ) (ms0_6 t) fullShare (sample m c t) : sProp 𝕄)
      ⊢ match cfg0.idle 6 (cfg0.grid.coords t) with
        | true =>
          match (cfg0.win 6).flush t with
          | false => iprop(∃ d, owns (c : Thread nD τ) (ms0_6 t) fullShare ((dats m 0 c).before 6 t d))
          | true => owns (c : Thread nD τ) (ms0_6 t) fullShare ((dats m 0 c).after 6 t)
        | false => owns (c : Thread nD τ) (ms0_6 t) fullShare ((dats m 0 c).after 6 t) := by
  rw [idle_sample, flush_sample, after0_6]
  by_cases h : t.val % 16 = 0
  · simp only [h, decide_true, Bool.not_true]; exact .rfl
  · by_cases h1 : t.val % 16 = 15
    · simp only [h, h1, decide_true, decide_false, Bool.not_false]; exact .rfl
    · simp only [h, h1, decide_false, Bool.not_false]
      have hb : (dats m 0 c).before 6 t (sample m c t) = sample m c t := before_sample m c t.val t.isLt _ h
      iintro H
      iexists (sample m c t)
      rw [hb]; iexact H

/-- The body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leave m c t)
  iexact H6

/-- What the pipeline hands the body beyond the windows: the scratch buffer and the generator's register. -/
theorem rest_eq (c : Dev nD) : (Pipeline.ΦA spec0 c : sProp 𝕄)
    = iprop((∃ d, owns (c : Thread nD τ) scM0_0 fullShare d) ∗ (∃ r, prngReg c r)) := by
  unfold Pipeline.ΦA; rw [scopedRest0_eq]; simp only [scM0_0, owns_whole]; try rfl

/-- At the start nothing is asked of the scratch buffer, -/
theorem carry_in (c : Dev nD) : (Pipeline.ΦA spec0 c : sProp 𝕄) ⊢ (dats m 0 c).Φ 0 := by
  rw [rest_eq]; show _ ⊢ carry m c 0; unfold carry
  iintro ⟨⟨%d, H⟩, Hg⟩
  isplitl [H]
  · iexists d; isplitr; swap; · iexact H
    ipureintro; intro s hs h0; exact absurd (by rw [hs]; rfl) h0
  iexact Hg

/-- and at the end its contents are forgotten. -/
theorem carry_out (c : Dev nD) : (dats m 0 c).Φ (Fin.last cfg0.N) ⊢ (Pipeline.ΦA spec0 c : sProp 𝕄) := by
  rw [rest_eq]; show carry m c _ ⊢ _; unfold carry
  iintro ⟨⟨%d, -, H⟩, Hg⟩
  isplitl [H]
  · iexists d; iexact H
  iexact Hg

set_option backward.isDefEq.respectTransparency.types false in
/-- The launch: every fair execution ends with the arrays at what the run's data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := carry_in m) (hout := carry_out m)

theorem run_main : θ_run defs (onTc (τ := τ) (main (F := F))) (s₀ m ρ) (Pipeline.FramePost cfgs (dats m) 0 (V m)) :=
  (θ_run defs _ _).mono (fun _ h => h.1) (run_main_quiescent m ρ)

/-- Every fair execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel3Ideal.Body

end
-- ==== Proof.FfnOut.Value.lean ====
/- The feed-forward output product: what the two result arrays hold, as sums over the arguments. -/
module

public import proofs.«01_k».proof.Proof.FfnOut.RunIdeal
public import Idealize.ShloMosaic.Lib.Pipeline.ValueKit

@[expose] public section

set_option maxRecDepth 16384

noncomputable section

namespace Cert.Kernel3Ideal.Body

open Idealize.ShloMosaic Idealize.ShloMosaic.TcCoe Idealize.SL.Sem
open Idealize.ShloMosaic.Pipeline (Dat)
open Cert.Kernel3Ideal Cert.Kernel3Ideal.Gen

/-- The prompt rows' result over the arguments. -/
def Prompt (X : FVec Ideal S8192x5632 .bf16) (W : FVec Ideal S4x5632x2048 .f32) (R : FVec Ideal S8192x2048 .f32) : FVec Ideal S1x8192x2048 .f32 := fun y =>
  (∑ k : Fin 5632, X (ix2 (y 1) k) * W (ix3 3 k (y 2))) + R (ix2 (y 1) (y 2))

/-- The sample rows' result over the arguments. -/
def Sample (X : FVec Ideal S32x5632 .f32) (W : FVec Ideal S4x5632x2048 .f32) (R : FVec Ideal S32x2048 .f32) : FVec Ideal S1x32x2048 .f32 := fun y =>
  (∑ k : Fin 5632, X (ix2 (y 1) k) * W (ix3 3 k (y 2))) + R (ix2 (y 1) (y 2))

/-- The rounded weights are the weights. -/
theorem pay1_at (w : FVec Ideal S1x5632x512 .f32) (k : Fin 5632) (b : Fin 512) :
    (k0_pay1 (F := Ideal) w) (ix2 k b) = w (ix3 0 k b) := by pointwise [k0_pay1]

/-- One tile's product. -/
theorem pay3_at (x : FVec Ideal S512x5632 .bf16) (w : FVec Ideal S5632x512 .bf16) (r : FVec Ideal S512x512 .f32) (y : S1x512x512.Idx) :
    (k0_pay3 (F := Ideal) x w r) y = (∑ k : Fin 5632, x (ix2 (y 1) k) * w (ix2 k (y 2))) + r (ix2 (y 1) (y 2)) := by pointwise [k0_pay3]

/-- The sample rows' product. -/
theorem pay2_at (x : FVec Ideal S32x5632 .f32) (w : FVec Ideal S5632x512 .bf16) (r : FVec Ideal S32x512 .f32) (y : S1x32x512.Idx) :
    (k0_pay2 (F := Ideal) x w r) y = (∑ k : Fin 5632, x (ix2 (y 1) k) * w (ix2 k (y 2))) + r (ix2 (y 1) (y 2)) := by pointwise [k0_pay2]

variable (m : (ℓ : Loc nD τ sig) → Buf (Elt Ideal) ℓ)

theorem idx : ∀ t : Fin cfg0.N, win0_0.index t = ![t.val % 16, 0]
    ∧ win0_1.index t = ![3, 0, t.val / 16]
    ∧ win0_2.index t = ![t.val % 16, t.val / 16]
    ∧ win0_3.index t = ![0, 0]
    ∧ win0_4.index t = ![0, t.val / 16]
    ∧ win0_5.index t = ![0, t.val % 16, t.val / 16]
    ∧ win0_6.index t = ![0, 0, t.val / 16] :=
  (by decide +kernel : ∀ t : Fin grid0.N, _)

/-- Writing back the prompt rows' tiles leaves the product. -/
theorem prompt_final (c : Dev nD) : (dats m 0 c).arrAt 5 cfg0.N = Prompt (m ((c : Thread nD τ).loc main_arg0)) (m ((c : Thread nD τ).loc main_arg2)) (m ((c : Thread nD τ).loc main_arg3)) := by
  refine (dats m 0 c).arrAt_eq_of_covers 5 _ (by decide +kernel) fun t _ y => ?_
  have hs : (start t).val / 16 = t.val / 16 := Nat.mul_div_cancel _ (by norm_num)
  blk_simp
  rw [after0_5]
  unfold prompt weights
  refine (pay3_at _ _ _ _).trans ?_
  unfold Prompt
  refine congr (congrArg HAdd.hAdd (Finset.sum_congr rfl fun k _ => congr (congrArg HMul.hMul ?_) ?_)) ?_
  · blk_ext [iblk, V, idx t, idx (start t), hs]
  · refine (pay1_at _ _ _).trans ?_
    blk_ext [iblk, V, idx t, idx (start t), hs]
  · blk_ext [iblk, V, idx t, idx (start t), hs]

/-- Writing back the sample rows' tiles leaves the product. -/
theorem sample_final (c : Dev nD) : (dats m 0 c).arrAt 6 cfg0.N = Sample (m ((c : Thread nD τ).loc main_arg1)) (m ((c : Thread nD τ).loc main_arg2)) (m ((c : Thread nD τ).loc main_arg4)) := by
  refine (dats m 0 c).arrAt_eq_of_covers 6 _ (by decide +kernel) fun t _ y => ?_
  have hs : (start t).val / 16 = t.val / 16 := Nat.mul_div_cancel _ (by norm_num)
  blk_simp
  rw [after0_6]
  unfold sample weights
  refine (pay2_at _ _ _ _).trans ?_
  unfold Sample
  refine congr (congrArg HAdd.hAdd (Finset.sum_congr rfl fun k _ => congr (congrArg HMul.hMul ?_) ?_)) ?_
  · blk_ext [iblk, V, idx t, idx (start t), hs]
  · refine (pay1_at _ _ _).trans ?_
    blk_ext [iblk, V, idx t, idx (start t), hs]
  · blk_ext [iblk, V, idx t, idx (start t), hs]

end Cert.Kernel3Ideal.Body

end
-- ==== Proof.FfnOut.Claim.lean ====
/- The feed-forward output product: the kernel and its reference leave the same arrays. -/
module

public import proofs.«01_k».proof.Defs
public import proofs.«01_k».proof.Proof.FfnOut.Value
public import proofs.«01_k».proof.Proof.Gen.Reference3Ideal.Run

@[expose] public section

set_option maxRecDepth 16384

noncomputable section

namespace Cert.Reference3Ideal.Value

open Idealize.ShloMosaic Idealize.ShloMosaic.TcCoe Idealize.SL.Sem Idealize.ShloMosaic.StableHlo
open Cert.Reference3Ideal Cert.Reference3Ideal.Gen

/-- The reference's prompt rows. -/
theorem ref_prompt (X : FVec Ideal S8192x5632 .bf16) (W : FVec Ideal S4x5632x2048 .f32) (R : FVec Ideal S8192x2048 .f32) :
    broadcastInDim S1x8192x2048 ![1, 2] bcast_S8192x2048_S1x8192x2048_1_2 (addf R (Host.dotGeneral dot_S8192x5632_S5632x2048_S8192x2048_1_0_0_1_n_n none (extf .f32 X bitsLt_bf16_f32) (shapeCast _ (extractStridedSlice S1x5632x2048 ![3, 0, 0] W slices_S4x5632x2048_S1x5632x2048_3_0_0) shapeCasts_S1x5632x2048_S5632x2048)))
      = Cert.Kernel3Ideal.Body.Prompt X W R := by
  funext y
  pointwise [Cert.Kernel3Ideal.Body.Prompt]; exact add_comm _ _

/-- The reference's sample rows. -/
theorem ref_sample (Xs : FVec Ideal S32x5632 .f32) (W : FVec Ideal S4x5632x2048 .f32) (Rs : FVec Ideal S32x2048 .f32) :
    broadcastInDim S1x32x2048 ![1, 2] bcast_S32x2048_S1x32x2048_1_2 (addf Rs (Host.dotGeneral dot_S32x5632_S5632x2048_S32x2048_1_0_0_1_n_n none Xs (shapeCast _ (extractStridedSlice S1x5632x2048 ![3, 0, 0] W slices_S4x5632x2048_S1x5632x2048_3_0_0) shapeCasts_S1x5632x2048_S5632x2048)))
      = Cert.Kernel3Ideal.Body.Sample Xs W Rs := by
  funext y
  pointwise [Cert.Kernel3Ideal.Body.Sample]; exact add_comm _ _

end Cert.Reference3Ideal.Value

namespace Cert.Kernel3Ideal.Body

open Idealize.ShloMosaic Idealize.ShloMosaic.TcCoe Idealize.SL.Sem
open Idealize.ShloMosaic.Pipeline (Dat)
open Cert.Kernel3Ideal Cert.Kernel3Ideal.Gen

/-- The kernel's run, its results named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = Prompt (m ((c.tc : Thread nD τ).loc main_arg0)) (m ((c.tc : Thread nD τ).loc main_arg2)) (m ((c.tc : Thread nD τ).loc main_arg3))
      ∧ r.2.mem ((c.tc : Thread nD τ).loc main_v0_1) = Sample (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 5).trans (prompt_final m c), ((h c).1 6).trans (sample_final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c)))⟩) (run_main m ρ)

end Cert.Kernel3Ideal.Body

open Idealize.ShloMosaic Idealize.ShloMosaic.TcCoe Idealize.SL.Sem

/-- The call computes its reference. -/
theorem Cert.Kernel3Ideal.Body.algebraic : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Kernel3Ideal.Body.Prompt (m (c.tc.loc Cert.Kernel3Ideal.main_arg0)) (m (c.tc.loc Cert.Kernel3Ideal.main_arg2)) (m (c.tc.loc Cert.Kernel3Ideal.main_arg3)),
    fun c => Cert.Kernel3Ideal.Body.Sample (m (c.tc.loc Cert.Kernel3Ideal.main_arg1)) (m (c.tc.loc Cert.Kernel3Ideal.main_arg2)) (m (c.tc.loc Cert.Kernel3Ideal.main_arg4)),
    Cert.Kernel3Ideal.Body.run_values m g, ?_⟩
  refine (θ_run Cert.Reference3Ideal.defs _ _).mono (fun r hr c => ?_) (Cert.Reference3Ideal.Value.run m' g')
  obtain ⟨h0, h1, h2, h3, h4⟩ := hag c
  obtain ⟨hv, hw, hk⟩ := hr c
  refine ⟨hv.trans ?_, hw.trans ?_, hk⟩
  · rw [Cert.Reference3Ideal.Value.ref_prompt, h0, h2, h3]
  · rw [Cert.Reference3Ideal.Value.ref_sample, h1, h2, h4]

end
-- ==== Proof.HgIn.BodyIdeal.lean ====
/-
  The input projections of the recurrent branch, one grid point at a time: what the body leaves in its buffers.

  At the first row tile of a column the body rounds the column's weights into its scratch buffer and
  stores the sample rows' product; at every row tile it stores the tile's product, reading the rounded
  weights from the scratch buffer.
-/
module

public import proofs.«01_k».proof.Proof.Gen.Kernel4Ideal.Frame
public import proofs.«01_k».proof.Proof.Gen.Kernel4Ideal.Skeleton
public import Idealize.ShloMosaic.Lib.Claim
public import Idealize.ShloMosaic.Lib.Pipeline.ValueKit
public import Idealize.ShloMosaic.Lib.VecWindow

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first row tile of a column: both products are stored, the weights rounded into the scratch buffer. -/
theorem firstRun (c : Dev nD) (i : grid0.Coords) (hc : k0_cond1 i = 1#1) (arg2 : Memref sig .tc .vmem S1024x2048 .bf16) (harg2 : arg2.IsWhole) (arg3 : Memref sig .tc .vmem S1x2048x1024 .f32) (harg3 : arg3.IsWhole) (arg4 : Memref sig .tc .vmem S32x2048 .bf16) (harg4 : arg4.IsWhole) (arg5 : Memref sig .tc .vmem S1x1024x1024 .f32) (harg5 : arg5.IsWhole) (arg6 : Memref sig .tc .vmem S1x32x1024 .f32) (harg6 : arg6.IsWhole) (arg7 : Memref sig .tc .vmem S2048x1024 .bf16) (harg7 : arg7.IsWhole)
    (x0 : Vec F S1024x2048 .bf16) (x1 : Vec F S1x2048x1024 .f32) (x2 : Vec F S32x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 (k0_pay1 x1)) ∗ owns (c : Thread nD τ) arg6 fullShare (k0_pay2 x2 (k0_pay1 x1)) ∗ owns (c : Thread nD τ) arg7 fullShare (k0_pay1 x1)) -∗ K ⟨⟩))
      ⊢ wp frame (wpE (defs₀ (F := F)) Variants.none c none) E (cc0_matmul i arg2 harg2 arg3 harg3 arg4 harg4 arg5 harg5 arg6 harg6 arg7 harg7) K := by
  simp only [cc0_matmul_eq_skeleton]; unfold cc0_matmul_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; refine (View.read_writes_full _ _ _ _ _).trans ?_; frame_out
  isplitl [H4]
  · iexists _; isplitr; swap; · iexact H4
    ipureintro; refine (View.read_writes_full _ _ _ _ _).trans ?_; frame_out
  iexists _; isplitr; swap; · iexact H5
  ipureintro; refine (View.read_writes_full _ _ _ _ _).trans ?_; frame_out

/-- At any later row tile: the prompt rows' product is stored, the rest stays as found. -/
theorem laterRun (c : Dev nD) (i : grid0.Coords) (hc : ¬ k0_cond1 i = 1#1) (arg2 : Memref sig .tc .vmem S1024x2048 .bf16) (harg2 : arg2.IsWhole) (arg3 : Memref sig .tc .vmem S1x2048x1024 .f32) (harg3 : arg3.IsWhole) (arg4 : Memref sig .tc .vmem S32x2048 .bf16) (harg4 : arg4.IsWhole) (arg5 : Memref sig .tc .vmem S1x1024x1024 .f32) (harg5 : arg5.IsWhole) (arg6 : Memref sig .tc .vmem S1x32x1024 .f32) (harg6 : arg6.IsWhole) (arg7 : Memref sig .tc .vmem S2048x1024 .bf16) (harg7 : arg7.IsWhole)
    (x0 : Vec F S1024x2048 .bf16) (x1 : Vec F S1x2048x1024 .f32) (x2 : Vec F S32x2048 .bf16) (z : Vec F S1x32x1024 .f32) (wb : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare z ∗ owns (c : Thread nD τ) arg7 fullShare wb
        ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 wb) ∗ owns (c : Thread nD τ) arg6 fullShare z ∗ owns (c : Thread nD τ) arg7 fullShare wb) -∗ K ⟨⟩))
      ⊢ wp frame (wpE (defs₀ (F := F)) Variants.none c none) E (cc0_matmul i arg2 harg2 arg3 harg3 arg4 harg4 arg5 harg5 arg6 harg6 arg7 harg7) K := by
  simp only [cc0_matmul_eq_skeleton]; unfold cc0_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2; obtain rfl := harg6.eq_unread hf4; obtain rfl := harg7.eq_unread hf5
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; refine (View.read_writes_full _ _ _ _ _).trans ?_; frame_out
  isplitl [H4]
  · iexists _; isplitr; · ipureintro; exact harg6.read_unread _
    iexact H4
  iexists _; isplitr; · ipureintro; exact harg7.read_unread _
  iexact H5

end Cert.Kernel4Ideal.Body

end
-- ==== Proof.HgIn.RunIdeal.lean ====
/-
  The input projections of the recurrent branch: the whole run.

  Along one column of weights the scratch buffer keeps what the column's first row tile put there, and so
  does the sample rows' result buffer; at a column's first tile both are written anew.
-/
module

public import proofs.«01_k».proof.Proof.HgIn.BodyIdeal

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 64 points. -/
theorem points : cfg0.N = 64 := N_0

/-- The first row tile of the column that point `t` works on. -/
def start (t : Fin cfg0.N) : Fin cfg0.N := ⟨t.val / 8 * 8, lt_of_le_of_lt (Nat.div_mul_le_self _ _) t.isLt⟩

theorem start_of_first (t : Fin cfg0.N) (h : t.val % 8 = 0) : start t = t := by
  apply Fin.ext; show t.val / 8 * 8 = t.val; omega

theorem start_step (s t : Fin cfg0.N) (hs : s.val + 1 = t.val) (h : ¬ t.val % 8 = 0) : start s = start t := by
  apply Fin.ext; show s.val / 8 * 8 = t.val / 8 * 8; omega

/-- The column's weights as the scratch buffer holds them. -/
def weights (c : Dev nD) (t : Fin cfg0.N) : Vec F S2048x1024 .bf16 := k0_pay1 (iblk m c 1 (start t))

/-- What a point leaves in the prompt rows' result buffer. -/
def prompt (c : Dev nD) (t : Fin cfg0.N) : Vec F S1x1024x1024 .f32 := k0_pay3 (iblk m c 0 t) (weights m c t)

/-- What a point leaves in the sample rows' result buffer. -/
def sample (c : Dev nD) (t : Fin cfg0.N) : Vec F S1x32x1024 .f32 := k0_pay2 (iblk m c 2 (start t)) (weights m c t)

/-- Window 0's buffer at a point. -/
abbrev ms0_0 (t : Fin cfg0.N) := win0_0.stage (cfg0.slots t 0)
abbrev hs0_0 (t : Fin cfg0.N) := hstage0_0 ((cfg0.slots t 0).cast nbuf0_0)
/-- Window 1's buffer at a point. -/
abbrev ms0_1 (t : Fin cfg0.N) := win0_1.stage (cfg0.slots t 1)
abbrev hs0_1 (t : Fin cfg0.N) := hstage0_1 ((cfg0.slots t 1).cast nbuf0_1)
/-- Window 2's buffer at a point. -/
abbrev ms0_2 (t : Fin cfg0.N) := win0_2.stage (cfg0.slots t 2)
abbrev hs0_2 (t : Fin cfg0.N) := hstage0_2 ((cfg0.slots t 2).cast nbuf0_2)
/-- Window 3's buffer at a point. -/
abbrev ms0_3 (t : Fin cfg0.N) := win0_3.stage (cfg0.slots t 3)
abbrev hs0_3 (t : Fin cfg0.N) := hstage0_3 ((cfg0.slots t 3).cast nbuf0_3)
/-- Window 4's buffer at a point. -/
abbrev ms0_4 (t : Fin cfg0.N) := win0_4.stage (cfg0.slots t 4)
abbrev hs0_4 (t : Fin cfg0.N) := hstage0_4 ((cfg0.slots t 4).cast nbuf0_4)
/-- The scratch buffer. -/
abbrev scM0_0 := Memref.whole cc0_scratch0

/-- What the scratch buffer holds before point `t`: at a later row tile of a column, the column's weights. -/
def carry (c : Dev nD) (t : Fin (cfg0.N + 1)) : sProp 𝕄 :=
  iprop((∃ d, ⌜∀ s : Fin cfg0.N, s.val = t.val → ¬ s.val % 8 = 0 → d = weights m c s⌝ ∗ owns (c : Thread nD τ) scM0_0 fullShare d)
    ∗ (∃ r, prngReg c r))

/-- The run's data: the arrays as found, what each point leaves in each buffer, and the scratch buffer's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prompt m c t
    | ⟨4, _⟩ => sample m c t
  Φ t := carry m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = prompt m c t := by dsimp only [dats]
theorem after0_4 (c : Dev nD) (t : Fin cfg0.N) : (dats m 0 c).after 4 t = sample m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The branch is taken at a column's first row tile. -/
theorem hcond : ∀ t : Fin cfg0.N, k0_cond1 (grid0.coords t) = 1#1 ↔ t.val % 8 = 0 :=
  (by decide +kernel : ∀ t : Fin grid0.N, _)

/-- The sample rows' result buffer is left alone at the other tiles, -/
theorem idle_sample : ∀ t : Fin cfg0.N, cfg0.idle 4 (grid0.coords t) = !decide (t.val % 8 = 0) :=
  (by decide +kernel : ∀ t : Fin grid0.N, _)

/-- and written back at a column's last. -/
theorem flush_sample : ∀ t : Fin cfg0.N, (cfg0.win 4).flush t = decide (t.val % 8 = 7) :=
  (by decide +kernel : ∀ t : Fin grid0.N, _)

/-- The sample rows' result is the same along a column. -/
theorem sample_step (c : Dev nD) (s t : Fin cfg0.N) (hs : s.val + 1 = t.val) (h : ¬ t.val % 8 = 0) : sample m c s = sample m c t := by
  unfold sample weights; rw [start_step s t hs h]

/-- At a later row tile the sample rows' result buffer holds what the column's first tile stored. -/
theorem before_sample (c : Dev nD) (n : ℕ) : ∀ (h : n < cfg0.N) (d), ¬ n % 8 = 0 → (dats m 0 c).before 4 ⟨n, h⟩ d = sample m c ⟨n, h⟩ := by
  induction n with
  | zero => intro h d h0; exact absurd rfl h0
  | succ n ih =>
    intro h d h0
    have hn : n < cfg0.N := Nat.lt_of_succ_lt h
    have hfl : (cfg0.win 4).flush ⟨n, hn⟩ = false := by
      rw [flush_sample]; exact decide_eq_false (by show ¬ n % 8 = 7; omega)
    have hstep : sample m c ⟨n, hn⟩ = sample m c ⟨n + 1, h⟩ := sample_step m c _ _ rfl h0
    rw [(dats m 0 c).before_of_pos 4 ⟨n + 1, h⟩ (Nat.succ_ne_zero n) (Window.fetch_out _ rfl _)]
    show (if (cfg0.win 4).flush ⟨n, hn⟩ then d else (dats m 0 c).left 4 ⟨n, hn⟩ d) = _
    rw [hfl, if_neg Bool.false_ne_true, ← hstep]
    unfold Dat.left
    rw [idle_sample]
    by_cases h1 : n % 8 = 0
    · simp only [h1, decide_true, Bool.not_true]
      unfold Dat.kept
      exact (Pipeline.fill_of_clip_none (cfg := cfg0) 4 _ (fun _ => rfl) d _ _).trans ((Window.fill_cut _ _ _).trans (after0_4 m c _))
    · simp only [h1, decide_false, Bool.not_false]
      exact ih hn d h1

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns, the sample rows' result buffer at `z`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare (sample m c t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = carry m c t.succ from rfl, show (dats m 0 c).Φ t.castSucc = carry m c t.castSucc from rfl,
    show (dats m 0 c).owesAt () t.succ = (dats m 0 c).owesAt () t.castSucc from rfl,
    after0_0, after0_1, after0_2, after0_3]
  unfold carry
  iintro ⟨⟨⟨%d5, %hd, H5⟩, Hg⟩, Ho, ⟨%d0, H0⟩, ⟨%d1, H1⟩, ⟨%d2, H2⟩, ⟨%d3, H3⟩, ⟨%d4, H4⟩⟩
  have hsucc : ∀ d : Vec F S2048x1024 .bf16, d = weights m c t →
      ∀ s : Fin cfg0.N, s.val = t.succ.val → ¬ s.val % 8 = 0 → d = weights m c s := by
    intro d hd s hs h0
    rw [hd]; unfold weights; rw [start_step t s (by rw [hs]; rfl) h0]
  by_cases h : t.val % 8 = 0
  · have hw : k0_pay1 (iblk m c 1 t) = weights m c t := by unfold weights; rw [start_of_first t h]
    have ho : k0_pay3 (iblk m c 0 t) (k0_pay1 (iblk m c 1 t))  = prompt m c t := by rw [hw]; rfl
    have hsm : k0_pay2 (iblk m c 2 t) (k0_pay1 (iblk m c 1 t))  = sample m c t := by
      rw [hw]; unfold sample; rw [start_of_first t h]
    iapply (firstRun c (grid0.coords t) ((hcond t).2 h) _ _ _ _ _ _ _ _ _ _ _ _ (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    rw [ho, hsm, hw]
    iintro ⟨H0, H1, H2, H3, H4, H5⟩
    isplitl [H5 Hg]
    · isplitl [H5]
      · iexists _; isplitr; swap; · iexact H5
        ipureintro; exact hsucc _ rfl
      iexact Hg
    isplitl [Ho]; · iexact Ho
    isplitl [H0]; · iexact H0
    isplitl [H1]; · iexact H1
    isplitl [H2]; · iexact H2
    isplitl [H3]; · iexact H3
    iexact H4
  · rw [show (dats m 0 c).before 4 t d4 = sample m c t from before_sample m c t.val t.isLt d4 h]
    obtain rfl : d5 = weights m c t := hd t rfl h
    iapply (laterRun c (grid0.coords t) (fun hc => h ((hcond t).1 hc)) _ _ _ _ _ _ _ _ _ _ _ _ (iblk m c 0 t) (iblk m c 1 t) (iblk m c 2 t) (sample m c t) (weights m c t) Set.univ _)
    isplitl [H0]; · iexact H0
    isplitl [H1]; · iexact H1
    isplitl [H2]; · iexact H2
    isplitl [H3]; · iexists _; iexact H3
    isplitl [H4]; · iexact H4
    isplitl [H5]; · iexact H5
    rw [show k0_pay3 (iblk m c 0 t) (weights m c t)  = prompt m c t from rfl]
    iintro ⟨H0, H1, H2, H3, H4, H5⟩
    isplitl [H5 Hg]
    · isplitl [H5]
      · iexists _; isplitr; swap; · iexact H5
        ipureintro; exact hsucc _ rfl
      iexact Hg
    isplitl [Ho]; · iexact Ho
    isplitl [H0]; · iexact H0
    isplitl [H1]; · iexact H1
    isplitl [H2]; · iexact H2
    isplitl [H3]; · iexact H3
    iexact H4

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- What a point may leave in the sample rows' result buffer: left alone and not written back, what was found; else the sample rows' result. -/
theorem leave (c : Dev nD) (t : Fin cfg0.N) :
    (owns (c : Thread nD τ) (ms0_4 t) fullShare (sample m c t) : sProp 𝕄)
      ⊢ match cfg0.idle 4 (cfg0.grid.coords t) with
        | true =>
          match (cfg0.win 4).flush t with
          | false => iprop(∃ d, owns (c : Thread nD τ) (ms0_4 t) fullShare ((dats m 0 c).before 4 t d))
          | true => owns (c : Thread nD τ) (ms0_4 t) fullShare ((dats m 0 c).after 4 t)
        | false => owns (c : Thread nD τ) (ms0_4 t) fullShare ((dats m 0 c).after 4 t) := by
  rw [idle_sample, flush_sample, after0_4]
  by_cases h : t.val % 8 = 0
  · simp only [h, decide_true, Bool.not_true]; exact .rfl
  · by_cases h1 : t.val % 8 = 7
    · simp only [h, h1, decide_true, decide_false, Bool.not_false]; exact .rfl
    · simp only [h, h1, decide_false, Bool.not_false]
      have hb : (dats m 0 c).before 4 t (sample m c t) = sample m c t := before_sample m c t.val t.isLt _ h
      iintro H
      iexists (sample m c t)
      rw [hb]; iexact H

/-- The body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4⟩
  isplitl [HP]; · iexact HP
  isplitl [Ho]; · iexact Ho
  isplitl [H0]; · iexact H0
  isplitl [H1]; · iexact H1
  isplitl [H2]; · iexact H2
  isplitl [H3]; · iexact H3
  iapply (leave m c t)
  iexact H4

/-- What the pipeline hands the body beyond the windows: the scratch buffer and the generator's register. -/
theorem rest_eq (c : Dev nD) : (Pipeline.ΦA spec0 c : sProp 𝕄)
    = iprop((∃ d, owns (c : Thread nD τ) scM0_0 fullShare d) ∗ (∃ r, prngReg c r)) := by
  unfold Pipeline.ΦA; rw [scopedRest0_eq]; simp only [scM0_0, owns_whole]; try rfl

/-- At the start nothing is asked of the scratch buffer, -/
theorem carry_in (c : Dev nD) : (Pipeline.ΦA spec0 c : sProp 𝕄) ⊢ (dats m 0 c).Φ 0 := by
  rw [rest_eq]; show _ ⊢ carry m c 0; unfold carry
  iintro ⟨⟨%d, H⟩, Hg⟩
  isplitl [H]
  · iexists d; isplitr; swap; · iexact H
    ipureintro; intro s hs h0; exact absurd (by rw [hs]; rfl) h0
  iexact Hg

/-- and at the end its contents are forgotten. -/
theorem carry_out (c : Dev nD) : (dats m 0 c).Φ (Fin.last cfg0.N) ⊢ (Pipeline.ΦA spec0 c : sProp 𝕄) := by
  rw [rest_eq]; show carry m c _ ⊢ _; unfold carry
  iintro ⟨⟨%d, -, H⟩, Hg⟩
  isplitl [H]
  · iexists d; iexact H
  iexact Hg

set_option backward.isDefEq.respectTransparency.types false in
/-- The launch: every fair execution ends with the arrays at what the run's data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := carry_in m) (hout := carry_out m)

theorem run_main : θ_run defs (onTc (τ := τ) (main (F := F))) (s₀ m ρ) (Pipeline.FramePost cfgs (dats m) 0 (V m)) :=
  (θ_run defs _ _).mono (fun _ h => h.1) (run_main_quiescent m ρ)

/-- Every fair execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel4Ideal.Body

end
-- ==== Proof.HgIn.Value.lean ====
/- The input projections of the recurrent branch: what the two result arrays hold, as sums over the arguments. -/
module

public import proofs.«01_k».proof.Proof.HgIn.RunIdeal
public import Idealize.ShloMosaic.Lib.Pipeline.ValueKit

@[expose] public section

set_option maxRecDepth 16384

noncomputable section

namespace Cert.Kernel4Ideal.Body

open Idealize.ShloMosaic Idealize.ShloMosaic.TcCoe Idealize.SL.Sem
open Idealize.ShloMosaic.Pipeline (Dat)
open Cert.Kernel4Ideal Cert.Kernel4Ideal.Gen

/-- The prompt rows' result over the arguments. -/
def Prompt (X : FVec Ideal S8192x2048 .bf16) (W : FVec Ideal S2x2048x8192 .f32) : FVec Ideal S1x8192x8192 .f32 := fun y =>
  (∑ k : Fin 2048, X (ix2 (y 1) k) * W (ix3 0 k (y 2)))

/-- The sample rows' result over the arguments. -/
def Sample (X : FVec Ideal S32x2048 .bf16) (W : FVec Ideal S2x2048x8192 .f32) : FVec Ideal S1x32x8192 .f32 := fun y =>
  (∑ k : Fin 2048, X (ix2 (y 1) k) * W (ix3 0 k (y 2)))

/-- The rounded weights are the weights. -/
theorem pay1_at (w : FVec Ideal S1x2048x1024 .f32) (k : Fin 2048) (b : Fin 1024) :
    (k0_pay1 (F := Ideal) w) (ix2 k b) = w (ix3 0 k b) := by pointwise [k0_pay1]

/-- One tile's product. -/
theorem pay3_at (x : FVec Ideal S1024x2048 .bf16) (w : FVec Ideal S2048x1024 .bf16) (y : S1x1024x1024.Idx) :
    (k0_pay3 (F := Ideal) x w) y = (∑ k : Fin 2048, x (ix2 (y 1) k) * w (ix2 k (y 2))) := by pointwise [k0_pay3]

/-- The sample rows' product. -/
theorem pay2_at (x : FVec Ideal S32x2048 .bf16) (w : FVec Ideal S2048x1024 .bf16) (y : S1x32x1024.Idx) :
    (k0_pay2 (F := Ideal) x w) y = (∑ k : Fin 2048, x (ix2 (y 1) k) * w (ix2 k (y 2))) := by pointwise [k0_pay2]

variable (m : (ℓ : Loc nD τ sig) → Buf (Elt Ideal) ℓ)

theorem idx : ∀ t : Fin cfg0.N, win0_0.index t = ![t.val % 8, 0]
    ∧ win0_1.index t = ![0, 0, t.val / 8]
    ∧ win0_2.index t = ![0, 0]
    ∧ win0_3.index t = ![0, t.val % 8, t.val / 8]
    ∧ win0_4.index t = ![0, 0, t.val / 8] :=
  (by decide +kernel : ∀ t : Fin grid0.N, _)

/-- Writing back the prompt rows' tiles leaves the product. -/
theorem prompt_final (c : Dev nD) : (dats m 0 c).arrAt 3 cfg0.N = Prompt (m ((c : Thread nD τ).loc main_arg0)) (m ((c : Thread nD τ).loc main_arg2)) := by
  refine (dats m 0 c).arrAt_eq_of_covers 3 _ (by decide +kernel) fun t _ y => ?_
  have hs : (start t).val / 8 = t.val / 8 := Nat.mul_div_cancel _ (by norm_num)
  blk_simp
  rw [after0_3]
  unfold prompt weights
  refine (pay3_at _ _ _).trans ?_
  unfold Prompt
  refine Finset.sum_congr rfl fun k _ => congr (congrArg HMul.hMul ?_) ?_
  · blk_ext [iblk, V, idx t, idx (start t), hs]
  · refine (pay1_at _ _ _).trans ?_
    blk_ext [iblk, V, idx t, idx (start t), hs]

/-- Writing back the sample rows' tiles leaves the product. -/
theorem sample_final (c : Dev nD) : (dats m 0 c).arrAt 4 cfg0.N = Sample (m ((c : Thread nD τ).loc main_arg1)) (m ((c : Thread nD τ).loc main_arg2)) := by
  refine (dats m 0 c).arrAt_eq_of_covers 4 _ (by decide +kernel) fun t _ y => ?_
  have hs : (start t).val / 8 = t.val / 8 := Nat.mul_div_cancel _ (by norm_num)
  blk_simp
  rw [after0_4]
  unfold sample weights
  refine (pay2_at _ _ _).trans ?_
  unfold Sample
  refine Finset.sum_congr rfl fun k _ => congr (congrArg HMul.hMul ?_) ?_
  · blk_ext [iblk, V, idx t, idx (start t), hs]
  · refine (pay1_at _ _ _).trans ?_
    blk_ext [iblk, V, idx t, idx (start t), hs]

end Cert.Kernel4Ideal.Body

end
-- ==== Proof.HgIn.Claim.lean ====
/- The input projections of the recurrent branch: the kernel and its reference leave the same arrays. -/
module

public import proofs.«01_k».proof.Defs
public import proofs.«01_k».proof.Proof.HgIn.Value
public import proofs.«01_k».proof.Proof.Gen.Reference4Ideal.Run

@[expose] public section

set_option maxRecDepth 16384

noncomputable section

namespace Cert.Reference4Ideal.Value

open Idealize.ShloMosaic Idealize.ShloMosaic.TcCoe Idealize.SL.Sem Idealize.ShloMosaic.StableHlo
open Cert.Reference4Ideal Cert.Reference4Ideal.Gen

/-- The reference's prompt rows. -/
theorem ref_prompt (X : FVec Ideal S8192x2048 .bf16) (W : FVec Ideal S2x2048x8192 .f32) :
    broadcastInDim S1x8192x8192 ![1, 2] bcast_S8192x8192_S1x8192x8192_1_2 (Host.dotGeneral dot_S8192x2048_S2048x8192_S8192x8192_1_0_0_1_n_n none (extf .f32 X bitsLt_bf16_f32) (shapeCast _ (extractStridedSlice S1x2048x8192 ![0, 0, 0] W slices_S2x2048x8192_S1x2048x8192_0_0_0) shapeCasts_S1x2048x8192_S2048x8192))
      = Cert.Kernel4Ideal.Body.Prompt X W := by
  funext y
  pointwise [Cert.Kernel4Ideal.Body.Prompt]

/-- The reference's sample rows. -/
theorem ref_sample (Xs : FVec Ideal S32x2048 .bf16) (W : FVec Ideal S2x2048x8192 .f32) :
    broadcastInDim S1x32x8192 ![1, 2] bcast_S32x8192_S1x32x8192_1_2 (Host.dotGeneral dot_S32x2048_S2048x8192_S32x8192_1_0_0_1_n_n none (extf .f32 Xs bitsLt_bf16_f32) (shapeCast _ (extractStridedSlice S1x2048x8192 ![0, 0, 0] W slices_S2x2048x8192_S1x2048x8192_0_0_0) shapeCasts_S1x2048x8192_S2048x8192))
      = Cert.Kernel4Ideal.Body.Sample Xs W := by
  funext y
  pointwise [Cert.Kernel4Ideal.Body.Sample]

end Cert.Reference4Ideal.Value

namespace Cert.Kernel4Ideal.Body

open Idealize.ShloMosaic Idealize.ShloMosaic.TcCoe Idealize.SL.Sem
open Idealize.ShloMosaic.Pipeline (Dat)
open Cert.Kernel4Ideal Cert.Kernel4Ideal.Gen

/-- The kernel's run, its results named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = Prompt (m ((c.tc : Thread nD τ).loc main_arg0)) (m ((c.tc : Thread nD τ).loc main_arg2))
      ∧ r.2.mem ((c.tc : Thread nD τ).loc main_v0_1) = Sample (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 3).trans (prompt_final m c), ((h c).1 4).trans (sample_final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩) (run_main m ρ)

end Cert.Kernel4Ideal.Body

open Idealize.ShloMosaic Idealize.ShloMosaic.TcCoe Idealize.SL.Sem

/-- The call computes its reference. -/
theorem Cert.Kernel4Ideal.Body.algebraic : Cert.algebraic_Kernel4Ideal_Reference4Ideal (hKernel4Ideal := Cert.Kernel4Ideal.Gen.facts)
    (hReference4Ideal := Cert.Reference4Ideal.Gen.facts) := by
  intro m g m' g' _ hag
  refine ⟨fun c => Cert.Kernel4Ideal.Body.Prompt (m (c.tc.loc Cert.Kernel4Ideal.main_arg0)) (m (c.tc.loc Cert.Kernel4Ideal.main_arg2)),
    fun c => Cert.Kernel4Ideal.Body.Sample (m (c.tc.loc Cert.Kernel4Ideal.main_arg1)) (m (c.tc.loc Cert.Kernel4Ideal.main_arg2)),
    Cert.Kernel4Ideal.Body.run_values m g, ?_⟩
  refine (θ_run Cert.Reference4Ideal.defs _ _).mono (fun r hr c => ?_) (Cert.Reference4Ideal.Value.run m' g')
  obtain ⟨h0, h1, h2⟩ := hag c
  obtain ⟨hv, hw, hk⟩ := hr c
  refine ⟨hv.trans ?_, hw.trans ?_, hk⟩
  · rw [Cert.Reference4Ideal.Value.ref_prompt, h0, h2]
  · rw [Cert.Reference4Ideal.Value.ref_sample, h1, h2]

end
-- ==== Proof.Qkv.BodyIdeal.lean ====
/-
  The query, key and value projections, one grid point at a time: what the body leaves in its buffers.

  At the first row tile of a column the body rounds the column's weights into its scratch buffer and
  stores the sample rows' product; at every row tile it stores the tile's product, reading the rounded
  weights from the scratch buffer.
-/
module

public import proofs.«01_k».proof.Proof.Gen.Kernel5Ideal.Frame
public import proofs.«01_k».proof.Proof.Gen.Kernel5Ideal.Skeleton
public import Idealize.ShloMosaic.Lib.Claim
public import Idealize.ShloMosaic.Lib.Pipeline.ValueKit
public import Idealize.ShloMosaic.Lib.VecWindow

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first row tile of a column: both products are stored, the weights rounded into the scratch buffer. -/
theorem firstRun (c : Dev nD) (i : grid0.Coords) (hc : k0_cond1 i = 1#1) (arg2 : Memref sig .tc .vmem S1024x2048 .bf16) (harg2 : arg2.IsWhole) (arg3 : Memref sig .tc .vmem S1x2048x1024 .f32) (harg3 : arg3.IsWhole) (arg4 : Memref sig .tc .vmem S32x2048 .bf16) (harg4 : arg4.IsWhole) (arg5 : Memref sig .tc .vmem S1x1024x1024 .f32) (harg5 : arg5.IsWhole) (arg6 : Memref sig .tc .vmem S1x32x1024 .f32) (harg6 : arg6.IsWhole) (arg7 : Memref sig .tc .vmem S2048x1024 .bf16) (harg7 : arg7.IsWhole)
    (x0 : Vec F S1024x2048 .bf16) (x1 : Vec F S1x2048x1024 .f32) (x2 : Vec F S32x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 (k0_pay1 x1)) ∗ owns (c : Thread nD τ) arg6 fullShare (k0_pay2 x2 (k0_pay1 x1)) ∗ owns (c : Thread nD τ) arg7 fullShare (k0_pay1 x1)) -∗ K ⟨⟩))
      ⊢ wp frame (wpE (defs₀ (F := F)) Variants.none c none) E (cc0_matmul i arg2 harg2 arg3 harg3 arg4 harg4 arg5 harg5 arg6 harg6 arg7 harg7) K := by
  simp only [cc0_matmul_eq_skeleton]; unfold cc0_matmul_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; refine (View.read_writes_full _ _ _ _ _).trans ?_; frame_out
  isplitl [H4]
  · iexists _; isplitr; swap; · iexact H4
    ipureintro; refine (View.read_writes_full _ _ _ _ _).trans ?_; frame_out
  iexists _; isplitr; swap; · iexact H5
  ipureintro; refine (View.read_writes_full _ _ _ _ _).trans ?_; frame_out

/-- At any later row tile: the prompt rows' product is stored, the rest stays as found. -/
theorem laterRun (c : Dev nD) (i : grid0.Coords) (hc : ¬ k0_cond1 i = 1#1) (arg2 : Memref sig .tc .vmem S1024x2048 .bf16) (harg2 : arg2.IsWhole) (arg3 : Memref sig .tc .vmem S1x2048x1024 .f32) (harg3 : arg3.IsWhole) (arg4 : Memref sig .tc .vmem S32x2048 .bf16) (harg4 : arg4.IsWhole) (arg5 : Memref sig .tc .vmem S1x1024x1024 .f32) (harg5 : arg5.IsWhole) (arg6 : Memref sig .tc .vmem S1x32x1024 .f32) (harg6 : arg6.IsWhole) (arg7 : Memref sig .tc .vmem S2048x1024 .bf16) (harg7 : arg7.IsWhole)
    (x0 : Vec F S1024x2048 .bf16) (x1 : Vec F S1x2048x1024 .f32) (x2 : Vec F S32x2048 .bf16) (z : Vec F S1x32x1024 .f32) (wb : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare z ∗ owns (c : Thread nD τ) arg7 fullShare wb
        ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 wb) ∗ owns (c : Thread nD τ) arg6 fullShare z ∗ owns (c : Thread nD τ) arg7 fullShare wb) -∗ K ⟨⟩))
      ⊢ wp frame (wpE (defs₀ (F := F)) Variants.none c none) E (cc0_matmul i arg2 harg2 arg3 harg3 arg4 harg4 arg5 harg5 arg6 harg6 arg7 harg7) K := by
  simp only [cc0_matmul_eq_skeleton]; unfold cc0_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2; obtain rfl := harg6.eq_unread hf4; obtain rfl := harg7.eq_unread hf5
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; refine (View.read_writes_full _ _ _ _ _).trans ?_; frame_out
  isplitl [H4]
  · iexists _; isplitr; · ipureintro; exact harg6.read_unread _
    iexact H4
  iexists _; isplitr; · ipureintro; exact harg7.read_unread _
  iexact H5

end Cert.Kernel5Ideal.Body

end
-- ==== Proof.Qkv.RunIdeal.lean ====
/-
  The query, key and value projections: the whole run.

  Along one column of weights the scratch buffer keeps what the column's first row tile put there, and so
  does the sample rows' result buffer; at a column's first tile both are written anew.
-/
module

public import proofs.«01_k».proof.Proof.Qkv.BodyIdeal

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 48 points. -/
theorem points : cfg0.N = 48 := N_0

/-- The first row tile of the column that point `t` works on. -/
def start (t : Fin cfg0.N) : Fin cfg0.N := ⟨t.val / 8 * 8, lt_of_le_of_lt (Nat.div_mul_le_self _ _) t.isLt⟩

theorem start_of_first (t : Fin cfg0.N) (h : t.val % 8 = 0) : start t = t := by
  apply Fin.ext; show t.val / 8 * 8 = t.val; omega

theorem start_step (s t : Fin cfg0.N) (hs : s.val + 1 = t.val) (h : ¬ t.val % 8 = 0) : start s = start t := by
  apply Fin.ext; show s.val / 8 * 8 = t.val / 8 * 8; omega

/-- The column's weights as the scratch buffer holds them. -/
def weights (c : Dev nD) (t : Fin cfg0.N) : Vec F S2048x1024 .bf16 := k0_pay1 (iblk m c 1 (start t))

/-- What a point leaves in the prompt rows' result buffer. -/
def prompt (c : Dev nD) (t : Fin cfg0.N) : Vec F S1x1024x1024 .f32 := k0_pay3 (iblk m c 0 t) (weights m c t)

/-- What a point leaves in the sample rows' result buffer. -/
def sample (c : Dev nD) (t : Fin cfg0.N) : Vec F S1x32x1024 .f32 := k0_pay2 (iblk m c 2 (start t)) (weights m c t)

/-- Window 0's buffer at a point. -/
abbrev ms0_0 (t : Fin cfg0.N) := win0_0.stage (cfg0.slots t 0)
abbrev hs0_0 (t : Fin cfg0.N) := hstage0_0 ((cfg0.slots t 0).cast nbuf0_0)
/-- Window 1's buffer at a point. -/
abbrev ms0_1 (t : Fin cfg0.N) := win0_1.stage (cfg0.slots t 1)
abbrev hs0_1 (t : Fin cfg0.N) := hstage0_1 ((cfg0.slots t 1).cast nbuf0_1)
/-- Window 2's buffer at a point. -/
abbrev ms0_2 (t : Fin cfg0.N) := win0_2.stage (cfg0.slots t 2)
abbrev hs0_2 (t : Fin cfg0.N) := hstage0_2 ((cfg0.slots t 2).cast nbuf0_2)
/-- Window 3's buffer at a point. -/
abbrev ms0_3 (t : Fin cfg0.N) := win0_3.stage (cfg0.slots t 3)
abbrev hs0_3 (t : Fin cfg0.N) := hstage0_3 ((cfg0.slots t 3).cast nbuf0_3)
/-- Window 4's buffer at a point. -/
abbrev ms0_4 (t : Fin cfg0.N) := win0_4.stage (cfg0.slots t 4)
abbrev hs0_4 (t : Fin cfg0.N) := hstage0_4 ((cfg0.slots t 4).cast nbuf0_4)
/-- The scratch buffer. -/
abbrev scM0_0 := Memref.whole cc0_scratch0

/-- What the scratch buffer holds before point `t`: at a later row tile of a column, the column's weights. -/
def carry (c : Dev nD) (t : Fin (cfg0.N + 1)) : sProp 𝕄 :=
  iprop((∃ d, ⌜∀ s : Fin cfg0.N, s.val = t.val → ¬ s.val % 8 = 0 → d = weights m c s⌝ ∗ owns (c : Thread nD τ) scM0_0 fullShare d)
    ∗ (∃ r, prngReg c r))

/-- The run's data: the arrays as found, what each point leaves in each buffer, and the scratch buffer's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prompt m c t
    | ⟨4, _⟩ => sample m c t
  Φ t := carry m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = prompt m c t := by dsimp only [dats]
theorem after0_4 (c : Dev nD) (t : Fin cfg0.N) : (dats m 0 c).after 4 t = sample m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The branch is taken at a column's first row tile. -/
theorem hcond : ∀ t : Fin cfg0.N, k0_cond1 (grid0.coords t) = 1#1 ↔ t.val % 8 = 0 :=
  (by decide +kernel : ∀ t : Fin grid0.N, _)

/-- The sample rows' result buffer is left alone at the other tiles, -/
theorem idle_sample : ∀ t : Fin cfg0.N, cfg0.idle 4 (grid0.coords t) = !decide (t.val % 8 = 0) :=
  (by decide +kernel : ∀ t : Fin grid0.N, _)

/-- and written back at a column's last. -/
theorem flush_sample : ∀ t : Fin cfg0.N, (cfg0.win 4).flush t = decide (t.val % 8 = 7) :=
  (by decide +kernel : ∀ t : Fin grid0.N, _)

/-- The sample rows' result is the same along a column. -/
theorem sample_step (c : Dev nD) (s t : Fin cfg0.N) (hs : s.val + 1 = t.val) (h : ¬ t.val % 8 = 0) : sample m c s = sample m c t := by
  unfold sample weights; rw [start_step s t hs h]

/-- At a later row tile the sample rows' result buffer holds what the column's first tile stored. -/
theorem before_sample (c : Dev nD) (n : ℕ) : ∀ (h : n < cfg0.N) (d), ¬ n % 8 = 0 → (dats m 0 c).before 4 ⟨n, h⟩ d = sample m c ⟨n, h⟩ := by
  induction n with
  | zero => intro h d h0; exact absurd rfl h0
  | succ n ih =>
    intro h d h0
    have hn : n < cfg0.N := Nat.lt_of_succ_lt h
    have hfl : (cfg0.win 4).flush ⟨n, hn⟩ = false := by
      rw [flush_sample]; exact decide_eq_false (by show ¬ n % 8 = 7; omega)
    have hstep : sample m c ⟨n, hn⟩ = sample m c ⟨n + 1, h⟩ := sample_step m c _ _ rfl h0
    rw [(dats m 0 c).before_of_pos 4 ⟨n + 1, h⟩ (Nat.succ_ne_zero n) (Window.fetch_out _ rfl _)]
    show (if (cfg0.win 4).flush ⟨n, hn⟩ then d else (dats m 0 c).left 4 ⟨n, hn⟩ d) = _
    rw [hfl, if_neg Bool.false_ne_true, ← hstep]
    unfold Dat.left
    rw [idle_sample]
    by_cases h1 : n % 8 = 0
    · simp only [h1, decide_true, Bool.not_true]
      unfold Dat.kept
      exact (Pipeline.fill_of_clip_none (cfg := cfg0) 4 _ (fun _ => rfl) d _ _).trans ((Window.fill_cut _ _ _).trans (after0_4 m c _))
    · simp only [h1, decide_false, Bool.not_false]
      exact ih hn d h1

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns, the sample rows' result buffer at `z`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare (sample m c t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = carry m c t.succ from rfl, show (dats m 0 c).Φ t.castSucc = carry m c t.castSucc from rfl,
    show (dats m 0 c).owesAt () t.succ = (dats m 0 c).owesAt () t.castSucc from rfl,
    after0_0, after0_1, after0_2, after0_3]
  unfold carry
  iintro ⟨⟨⟨%d5, %hd, H5⟩, Hg⟩, Ho, ⟨%d0, H0⟩, ⟨%d1, H1⟩, ⟨%d2, H2⟩, ⟨%d3, H3⟩, ⟨%d4, H4⟩⟩
  have hsucc : ∀ d : Vec F S2048x1024 .bf16, d = weights m c t →
      ∀ s : Fin cfg0.N, s.val = t.succ.val → ¬ s.val % 8 = 0 → d = weights m c s := by
    intro d hd s hs h0
    rw [hd]; unfold weights; rw [start_step t s (by rw [hs]; rfl) h0]
  by_cases h : t.val % 8 = 0
  · have hw : k0_pay1 (iblk m c 1 t) = weights m c t := by unfold weights; rw [start_of_first t h]
    have ho : k0_pay3 (iblk m c 0 t) (k0_pay1 (iblk m c 1 t))  = prompt m c t := by rw [hw]; rfl
    have hsm : k0_pay2 (iblk m c 2 t) (k0_pay1 (iblk m c 1 t))  = sample m c t := by
      rw [hw]; unfold sample; rw [start_of_first t h]
    iapply (firstRun c (grid0.coords t) ((hcond t).2 h) _ _ _ _ _ _ _ _ _ _ _ _ (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    rw [ho, hsm, hw]
    iintro ⟨H0, H1, H2, H3, H4, H5⟩
    isplitl [H5 Hg]
    · isplitl [H5]
      · iexists _; isplitr; swap; · iexact H5
        ipureintro; exact hsucc _ rfl
      iexact Hg
    isplitl [Ho]; · iexact Ho
    isplitl [H0]; · iexact H0
    isplitl [H1]; · iexact H1
    isplitl [H2]; · iexact H2
    isplitl [H3]; · iexact H3
    iexact H4
  · rw [show (dats m 0 c).before 4 t d4 = sample m c t from before_sample m c t.val t.isLt d4 h]
    obtain rfl : d5 = weights m c t := hd t rfl h
    iapply (laterRun c (grid0.coords t) (fun hc => h ((hcond t).1 hc)) _ _ _ _ _ _ _ _ _ _ _ _ (iblk m c 0 t) (iblk m c 1 t) (iblk m c 2 t) (sample m c t) (weights m c t) Set.univ _)
    isplitl [H0]; · iexact H0
    isplitl [H1]; · iexact H1
    isplitl [H2]; · iexact H2
    isplitl [H3]; · iexists _; iexact H3
    isplitl [H4]; · iexact H4
    isplitl [H5]; · iexact H5
    rw [show k0_pay3 (iblk m c 0 t) (weights m c t)  = prompt m c t from rfl]
    iintro ⟨H0, H1, H2, H3, H4, H5⟩
    isplitl [H5 Hg]
    · isplitl [H5]
      · iexists _; isplitr; swap; · iexact H5
        ipureintro; exact hsucc _ rfl
      iexact Hg
    isplitl [Ho]; · iexact Ho
    isplitl [H0]; · iexact H0
    isplitl [H1]; · iexact H1
    isplitl [H2]; · iexact H2
    isplitl [H3]; · iexact H3
    iexact H4

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- What a point may leave in the sample rows' result buffer: left alone and not written back, what was found; else the sample rows' result. -/
theorem leave (c : Dev nD) (t : Fin cfg0.N) :
    (owns (c : Thread nD τ) (ms0_4 t) fullShare (sample m c t) : sProp 𝕄)
      ⊢ match cfg0.idle 4 (cfg0.grid.coords t) with
        | true =>
          match (cfg0.win 4).flush t with
          | false => iprop(∃ d, owns (c : Thread nD τ) (ms0_4 t) fullShare ((dats m 0 c).before 4 t d))
          | true => owns (c : Thread nD τ) (ms0_4 t) fullShare ((dats m 0 c).after 4 t)
        | false => owns (c : Thread nD τ) (ms0_4 t) fullShare ((dats m 0 c).after 4 t) := by
  rw [idle_sample, flush_sample, after0_4]
  by_cases h : t.val % 8 = 0
  · simp only [h, decide_true, Bool.not_true]; exact .rfl
  · by_cases h1 : t.val % 8 = 7
    · simp only [h, h1, decide_true, decide_false, Bool.not_false]; exact .rfl
    · simp only [h, h1, decide_false, Bool.not_false]
      have hb : (dats m 0 c).before 4 t (sample m c t) = sample m c t := before_sample m c t.val t.isLt _ h
      iintro H
      iexists (sample m c t)
      rw [hb]; iexact H

/-- The body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4⟩
  isplitl [HP]; · iexact HP
  isplitl [Ho]; · iexact Ho
  isplitl [H0]; · iexact H0
  isplitl [H1]; · iexact H1
  isplitl [H2]; · iexact H2
  isplitl [H3]; · iexact H3
  iapply (leave m c t)
  iexact H4

/-- What the pipeline hands the body beyond the windows: the scratch buffer and the generator's register. -/
theorem rest_eq (c : Dev nD) : (Pipeline.ΦA spec0 c : sProp 𝕄)
    = iprop((∃ d, owns (c : Thread nD τ) scM0_0 fullShare d) ∗ (∃ r, prngReg c r)) := by
  unfold Pipeline.ΦA; rw [scopedRest0_eq]; simp only [scM0_0, owns_whole]; try rfl

/-- At the start nothing is asked of the scratch buffer, -/
theorem carry_in (c : Dev nD) : (Pipeline.ΦA spec0 c : sProp 𝕄) ⊢ (dats m 0 c).Φ 0 := by
  rw [rest_eq]; show _ ⊢ carry m c 0; unfold carry
  iintro ⟨⟨%d, H⟩, Hg⟩
  isplitl [H]
  · iexists d; isplitr; swap; · iexact H
    ipureintro; intro s hs h0; exact absurd (by rw [hs]; rfl) h0
  iexact Hg

/-- and at the end its contents are forgotten. -/
theorem carry_out (c : Dev nD) : (dats m 0 c).Φ (Fin.last cfg0.N) ⊢ (Pipeline.ΦA spec0 c : sProp 𝕄) := by
  rw [rest_eq]; show carry m c _ ⊢ _; unfold carry
  iintro ⟨⟨%d, -, H⟩, Hg⟩
  isplitl [H]
  · iexists d; iexact H
  iexact Hg

set_option backward.isDefEq.respectTransparency.types false in
/-- The launch: every fair execution ends with the arrays at what the run's data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := carry_in m) (hout := carry_out m)

theorem run_main : θ_run defs (onTc (τ := τ) (main (F := F))) (s₀ m ρ) (Pipeline.FramePost cfgs (dats m) 0 (V m)) :=
  (θ_run defs _ _).mono (fun _ h => h.1) (run_main_quiescent m ρ)

/-- Every fair execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel5Ideal.Body

end
-- ==== Proof.Qkv.Value.lean ====
/- The query, key and value projections: what the two result arrays hold, as sums over the arguments. -/
module

public import proofs.«01_k».proof.Proof.Qkv.RunIdeal
public import Idealize.ShloMosaic.Lib.Pipeline.ValueKit

@[expose] public section

set_option maxRecDepth 16384

noncomputable section

namespace Cert.Kernel5Ideal.Body

open Idealize.ShloMosaic Idealize.ShloMosaic.TcCoe Idealize.SL.Sem
open Idealize.ShloMosaic.Pipeline (Dat)
open Cert.Kernel5Ideal Cert.Kernel5Ideal.Gen

/-- The column of the weights behind a section and a column of it. -/
def wide (a : Fin 3) (b : Fin 2048) : Fin 6144 := ⟨a.val * 2048 + b.val, by omega⟩

/-- The prompt rows' result over the arguments. -/
def Prompt (X : FVec Ideal S8192x2048 .bf16) (W : FVec Ideal S2x2048x6144 .f32) : FVec Ideal S3x8192x2048 .f32 := fun y =>
  (∑ k : Fin 2048, X (ix2 (y 1) k) * W (ix3 0 k (wide (y 0) (y 2))))

/-- The sample rows' result over the arguments. -/
def Sample (X : FVec Ideal S32x2048 .bf16) (W : FVec Ideal S2x2048x6144 .f32) : FVec Ideal S3x32x2048 .f32 := fun y =>
  (∑ k : Fin 2048, X (ix2 (y 1) k) * W (ix3 0 k (wide (y 0) (y 2))))

/-- The rounded weights are the weights. -/
theorem pay1_at (w : FVec Ideal S1x2048x1024 .f32) (k : Fin 2048) (b : Fin 1024) :
    (k0_pay1 (F := Ideal) w) (ix2 k b) = w (ix3 0 k b) := by pointwise [k0_pay1]

/-- One tile's product. -/
theorem pay3_at (x : FVec Ideal S1024x2048 .bf16) (w : FVec Ideal S2048x1024 .bf16) (y : S1x1024x1024.Idx) :
    (k0_pay3 (F := Ideal) x w) y = (∑ k : Fin 2048, x (ix2 (y 1) k) * w (ix2 k (y 2))) := by pointwise [k0_pay3]

/-- The sample rows' product. -/
theorem pay2_at (x : FVec Ideal S32x2048 .bf16) (w : FVec Ideal S2048x1024 .bf16) (y : S1x32x1024.Idx) :
    (k0_pay2 (F := Ideal) x w) y = (∑ k : Fin 2048, x (ix2 (y 1) k) * w (ix2 k (y 2))) := by pointwise [k0_pay2]

variable (m : (ℓ : Loc nD τ sig) → Buf (Elt Ideal) ℓ)

theorem idx : ∀ t : Fin cfg0.N, win0_0.index t = ![t.val % 8, 0]
    ∧ win0_1.index t = ![0, 0, t.val / 8]
    ∧ win0_2.index t = ![0, 0]
    ∧ win0_3.index t = ![t.val / 8 / 2, t.val % 8, t.val / 8 % 2]
    ∧ win0_4.index t = ![t.val / 8 / 2, 0, t.val / 8 % 2] :=
  (by decide +kernel : ∀ t : Fin grid0.N, _)

/-- Writing back the prompt rows' tiles leaves the product. -/
theorem prompt_final (c : Dev nD) : (dats m 0 c).arrAt 3 cfg0.N = Prompt (m ((c : Thread nD τ).loc main_arg0)) (m ((c : Thread nD τ).loc main_arg2)) := by
  refine (dats m 0 c).arrAt_eq_of_covers 3 _ (by decide +kernel) fun t _ y => ?_
  have hs : (start t).val / 8 = t.val / 8 := Nat.mul_div_cancel _ (by norm_num)
  blk_simp
  rw [after0_3]
  unfold prompt weights
  refine (pay3_at _ _ _).trans ?_
  unfold Prompt
  refine Finset.sum_congr rfl fun k _ => congr (congrArg HMul.hMul ?_) ?_
  · blk_ext [iblk, V, idx t, idx (start t), hs, wide]
  · refine (pay1_at _ _ _).trans ?_
    blk_ext [iblk, V, idx t, idx (start t), hs, wide]

/-- Writing back the sample rows' tiles leaves the product. -/
theorem sample_final (c : Dev nD) : (dats m 0 c).arrAt 4 cfg0.N = Sample (m ((c : Thread nD τ).loc main_arg1)) (m ((c : Thread nD τ).loc main_arg2)) := by
  refine (dats m 0 c).arrAt_eq_of_covers 4 _ (by decide +kernel) fun t _ y => ?_
  have hs : (start t).val / 8 = t.val / 8 := Nat.mul_div_cancel _ (by norm_num)
  blk_simp
  rw [after0_4]
  unfold sample weights
  refine (pay2_at _ _ _).trans ?_
  unfold Sample
  refine Finset.sum_congr rfl fun k _ => congr (congrArg HMul.hMul ?_) ?_
  · blk_ext [iblk, V, idx t, idx (start t), hs, wide]
  · refine (pay1_at _ _ _).trans ?_
    blk_ext [iblk, V, idx t, idx (start t), hs, wide]

end Cert.Kernel5Ideal.Body

end
-- ==== Proof.Qkv.Claim.lean ====
/- The query, key and value projections: the kernel and its reference leave the same arrays. -/
module

public import proofs.«01_k».proof.Defs
public import proofs.«01_k».proof.Proof.Qkv.Value
public import proofs.«01_k».proof.Proof.Gen.Reference5Ideal.Run

@[expose] public section

set_option maxRecDepth 16384

noncomputable section

namespace Cert.Reference5Ideal.Value

open Idealize.ShloMosaic Idealize.ShloMosaic.TcCoe Idealize.SL.Sem Idealize.ShloMosaic.StableHlo
open Cert.Reference5Ideal Cert.Reference5Ideal.Gen

/-- The reference's prompt rows. -/
theorem ref_prompt (X : FVec Ideal S8192x2048 .bf16) (W : FVec Ideal S2x2048x6144 .f32) :
    (concatenate S3x8192x2048 0 [⟨S1x8192x2048, ((broadcastInDim S1x8192x2048 ![1, 2] bcast_S8192x2048_S1x8192x2048_1_2 (extractStridedSlice S8192x2048 ![0, 0] (Host.dotGeneral dot_S8192x2048_S2048x6144_S8192x6144_1_0_0_1_n_n none (extf .f32 X bitsLt_bf16_f32) (shapeCast _ (extractStridedSlice S1x2048x6144 ![0, 0, 0] W slices_S2x2048x6144_S1x2048x6144_0_0_0) shapeCasts_S1x2048x6144_S2048x6144)) slices_S8192x6144_S8192x2048_0_0)) : (⟨S1x8192x2048, .f32⟩ : BufTy).Contents (Elt Ideal))⟩, ⟨S1x8192x2048, ((broadcastInDim S1x8192x2048 ![1, 2] bcast_S8192x2048_S1x8192x2048_1_2 (extractStridedSlice S8192x2048 ![0, 2048] (Host.dotGeneral dot_S8192x2048_S2048x6144_S8192x6144_1_0_0_1_n_n none (extf .f32 X bitsLt_bf16_f32) (shapeCast _ (extractStridedSlice S1x2048x6144 ![0, 0, 0] W slices_S2x2048x6144_S1x2048x6144_0_0_0) shapeCasts_S1x2048x6144_S2048x6144)) slices_S8192x6144_S8192x2048_0_2048)) : (⟨S1x8192x2048, .f32⟩ : BufTy).Contents (Elt Ideal))⟩, ⟨S1x8192x2048, ((broadcastInDim S1x8192x2048 ![1, 2] bcast_S8192x2048_S1x8192x2048_1_2 (extractStridedSlice S8192x2048 ![0, 4096] (Host.dotGeneral dot_S8192x2048_S2048x6144_S8192x6144_1_0_0_1_n_n none (extf .f32 X bitsLt_bf16_f32) (shapeCast _ (extractStridedSlice S1x2048x6144 ![0, 0, 0] W slices_S2x2048x6144_S1x2048x6144_0_0_0) shapeCasts_S1x2048x6144_S2048x6144)) slices_S8192x6144_S8192x2048_0_4096)) : (⟨S1x8192x2048, .f32⟩ : BufTy).Contents (Elt Ideal))⟩] concatenates_S1x8192x2048_S1x8192x2048_S1x8192x2048_S3x8192x2048_d0 : (⟨S3x8192x2048, .f32⟩ : BufTy).Contents (Elt Ideal))
      = Cert.Kernel5Ideal.Body.Prompt X W := by
  funext y
  have h0 : (y 0).val < 3 := (y 0).isLt
  pointwise [Cert.Kernel5Ideal.Body.Prompt, Cert.Kernel5Ideal.Body.wide]
  split
  · refine Finset.sum_congr rfl fun k _ => congrArg _ (congrArg _ (congrArg _ (Fin.ext ?_)))
    show (y 2).val = (y 0).val * 2048 + (y 2).val; omega
  · split
    · refine Finset.sum_congr rfl fun k _ => congrArg _ (congrArg _ (congrArg _ (Fin.ext ?_)))
      show 2048 + (y 2).val = (y 0).val * 2048 + (y 2).val; omega
    · refine Finset.sum_congr rfl fun k _ => congrArg _ (congrArg _ (congrArg _ (Fin.ext ?_)))
      show 4096 + (y 2).val = (y 0).val * 2048 + (y 2).val; omega

/-- The reference's sample rows. -/
theorem ref_sample (Xs : FVec Ideal S32x2048 .bf16) (W : FVec Ideal S2x2048x6144 .f32) :
    (concatenate S3x32x2048 0 [⟨S1x32x2048, ((broadcastInDim S1x32x2048 ![1, 2] bcast_S32x2048_S1x32x2048_1_2 (extractStridedSlice S32x2048 ![0, 0] (Host.dotGeneral dot_S32x2048_S2048x6144_S32x6144_1_0_0_1_n_n none (extf .f32 Xs bitsLt_bf16_f32) (shapeCast _ (extractStridedSlice S1x2048x6144 ![0, 0, 0] W slices_S2x2048x6144_S1x2048x6144_0_0_0) shapeCasts_S1x2048x6144_S2048x6144)) slices_S32x6144_S32x2048_0_0)) : (⟨S1x32x2048, .f32⟩ : BufTy).Contents (Elt Ideal))⟩, ⟨S1x32x2048, ((broadcastInDim S1x32x2048 ![1, 2] bcast_S32x2048_S1x32x2048_1_2 (extractStridedSlice S32x2048 ![0, 2048] (Host.dotGeneral dot_S32x2048_S2048x6144_S32x6144_1_0_0_1_n_n none (extf .f32 Xs bitsLt_bf16_f32) (shapeCast _ (extractStridedSlice S1x2048x6144 ![0, 0, 0] W slices_S2x2048x6144_S1x2048x6144_0_0_0) shapeCasts_S1x2048x6144_S2048x6144)) slices_S32x6144_S32x2048_0_2048)) : (⟨S1x32x2048, .f32⟩ : BufTy).Contents (Elt Ideal))⟩, ⟨S1x32x2048, ((broadcastInDim S1x32x2048 ![1, 2] bcast_S32x2048_S1x32x2048_1_2 (extractStridedSlice S32x2048 ![0, 4096] (Host.dotGeneral dot_S32x2048_S2048x6144_S32x6144_1_0_0_1_n_n none (extf .f32 Xs bitsLt_bf16_f32) (shapeCast _ (extractStridedSlice S1x2048x6144 ![0, 0, 0] W slices_S2x2048x6144_S1x2048x6144_0_0_0) shapeCasts_S1x2048x6144_S2048x6144)) slices_S32x6144_S32x2048_0_4096)) : (⟨S1x32x2048, .f32⟩ : BufTy).Contents (Elt Ideal))⟩] concatenates_S1x32x2048_S1x32x2048_S1x32x2048_S3x32x2048_d0 : (⟨S3x32x2048, .f32⟩ : BufTy).Contents (Elt Ideal))
      = Cert.Kernel5Ideal.Body.Sample Xs W := by
  funext y
  have h0 : (y 0).val < 3 := (y 0).isLt
  pointwise [Cert.Kernel5Ideal.Body.Sample, Cert.Kernel5Ideal.Body.wide]
  split
  · refine Finset.sum_congr rfl fun k _ => congrArg _ (congrArg _ (congrArg _ (Fin.ext ?_)))
    show (y 2).val = (y 0).val * 2048 + (y 2).val; omega
  · split
    · refine Finset.sum_congr rfl fun k _ => congrArg _ (congrArg _ (congrArg _ (Fin.ext ?_)))
      show 2048 + (y 2).val = (y 0).val * 2048 + (y 2).val; omega
    · refine Finset.sum_congr rfl fun k _ => congrArg _ (congrArg _ (congrArg _ (Fin.ext ?_)))
      show 4096 + (y 2).val = (y 0).val * 2048 + (y 2).val; omega

end Cert.Reference5Ideal.Value

namespace Cert.Kernel5Ideal.Body

open Idealize.ShloMosaic Idealize.ShloMosaic.TcCoe Idealize.SL.Sem
open Idealize.ShloMosaic.Pipeline (Dat)
open Cert.Kernel5Ideal Cert.Kernel5Ideal.Gen

/-- The kernel's run, its results named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = Prompt (m ((c.tc : Thread nD τ).loc main_arg0)) (m ((c.tc : Thread nD τ).loc main_arg2))
      ∧ r.2.mem ((c.tc : Thread nD τ).loc main_v0_1) = Sample (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 3).trans (prompt_final m c), ((h c).1 4).trans (sample_final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩) (run_main m ρ)

end Cert.Kernel5Ideal.Body

open Idealize.ShloMosaic Idealize.ShloMosaic.TcCoe Idealize.SL.Sem

/-- The call computes its reference. -/
theorem Cert.Kernel5Ideal.Body.algebraic : Cert.algebraic_Kernel5Ideal_Reference5Ideal (hKernel5Ideal := Cert.Kernel5Ideal.Gen.facts)
    (hReference5Ideal := Cert.Reference5Ideal.Gen.facts) := by
  intro m g m' g' _ hag
  refine ⟨fun c => Cert.Kernel5Ideal.Body.Prompt (m (c.tc.loc Cert.Kernel5Ideal.main_arg0)) (m (c.tc.loc Cert.Kernel5Ideal.main_arg2)),
    fun c => Cert.Kernel5Ideal.Body.Sample (m (c.tc.loc Cert.Kernel5Ideal.main_arg1)) (m (c.tc.loc Cert.Kernel5Ideal.main_arg2)),
    Cert.Kernel5Ideal.Body.run_values m g, ?_⟩
  refine (θ_run Cert.Reference5Ideal.defs _ _).mono (fun r hr c => ?_) (Cert.Reference5Ideal.Value.run m' g')
  obtain ⟨h0, h1, h2⟩ := hag c
  obtain ⟨hv, hw, hk⟩ := hr c
  refine ⟨hv.trans ?_, hw.trans ?_, hk⟩
  · rw [Cert.Reference5Ideal.Value.ref_prompt, h0, h2]
  · rw [Cert.Reference5Ideal.Value.ref_sample, h1, h2]

end
-- ==== Proof.ProjOut.BodyIdeal.lean ====
/-
  The output projection with its residual, one grid point at a time: what the body leaves in its buffers.

  At the first row tile of a column the body rounds the column's weights into its scratch buffer and
  stores the sample rows' product; at every row tile it stores the tile's product, reading the rounded
  weights from the scratch buffer.
-/
module

public import proofs.«01_k».proof.Proof.Gen.Kernel6Ideal.Frame
public import proofs.«01_k».proof.Proof.Gen.Kernel6Ideal.Skeleton
public import Idealize.ShloMosaic.Lib.Claim
public import Idealize.ShloMosaic.Lib.Pipeline.ValueKit
public import Idealize.ShloMosaic.Lib.VecWindow

@[expose] public section

set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first row tile of a column: both products are stored, the weights rounded into the scratch buffer. -/
theorem firstRun (c : Dev nD) (i : grid0.Coords) (hc : k0_cond1 i = 1#1) (arg2 : Memref sig .tc .vmem S1024x2048 .bf16) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S32x2048 .f32) (harg5 : arg5.IsWhole) (arg6 : Memref sig .tc .vmem S32x1024 .f32) (harg6 : arg6.IsWhole) (arg7 : Memref sig .tc .vmem S1x1024x1024 .f32) (harg7 : arg7.IsWhole) (arg8 : Memref sig .tc .vmem S1x32x1024 .f32) (harg8 : arg8.IsWhole) (arg9 : Memref sig .tc .vmem S2048x1024 .bf16) (harg9 : arg9.IsWhole)
    (x0 : Vec F S1024x2048 .bf16) (x1 : Vec F S1x2048x1024 .f32) (x2 : Vec F S1024x1024 .f32) (x3 : Vec F S32x2048 .f32) (x4 : Vec F S32x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 (k0_pay1 x1) x2) ∗ owns (c : Thread nD τ) arg8 fullShare (k0_pay2 x3 (k0_pay1 x1) x4) ∗ owns (c : Thread nD τ) arg9 fullShare (k0_pay1 x1)) -∗ K ⟨⟩))
      ⊢ wp frame (wpE (defs₀ (F := F)) Variants.none c none) E (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; refine (View.read_writes_full _ _ _ _ _).trans ?_; frame_out
  isplitl [H6]
  · iexists _; isplitr; swap; · iexact H6
    ipureintro; refine (View.read_writes_full _ _ _ _ _).trans ?_; frame_out
  iexists _; isplitr; swap; · iexact H7
  ipureintro; refine (View.read_writes_full _ _ _ _ _).trans ?_; frame_out

/-- At any later row tile: the prompt rows' product is stored, the rest stays as found. -/
theorem laterRun (c : Dev nD) (i : grid0.Coords) (hc : ¬ k0_cond1 i = 1#1) (arg2 : Memref sig .tc .vmem S1024x2048 .bf16) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S32x2048 .f32) (harg5 : arg5.IsWhole) (arg6 : Memref sig .tc .vmem S32x1024 .f32) (harg6 : arg6.IsWhole) (arg7 : Memref sig .tc .vmem S1x1024x1024 .f32) (harg7 : arg7.IsWhole) (arg8 : Memref sig .tc .vmem S1x32x1024 .f32) (harg8 : arg8.IsWhole) (arg9 : Memref sig .tc .vmem S2048x1024 .bf16) (harg9 : arg9.IsWhole)
    (x0 : Vec F S1024x2048 .bf16) (x1 : Vec F S1x2048x1024 .f32) (x2 : Vec F S1024x1024 .f32) (x3 : Vec F S32x2048 .f32) (x4 : Vec F S32x1024 .f32) (z : Vec F S1x32x1024 .f32) (wb : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare z ∗ owns (c : Thread nD τ) arg9 fullShare wb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 wb x2) ∗ owns (c : Thread nD τ) arg8 fullShare z ∗ owns (c : Thread nD τ) arg9 fullShare wb) -∗ K ⟨⟩))
      ⊢ wp frame (wpE (defs₀ (F := F)) Variants.none c none) E (cc0_matmul i arg2 harg2 arg3 harg3 arg4 harg4 arg5 harg5 arg6 harg6 arg7 harg7 arg8 harg8 arg9 harg9) K := by
  simp only [cc0_matmul_eq_skeleton]; unfold cc0_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; refine (View.read_writes_full _ _ _ _ _).trans ?_; frame_out
  isplitl [H6]
  · iexists _; isplitr; · ipureintro; exact harg8.read_unread _
    iexact H6
  iexists _; isplitr; · ipureintro; exact harg9.read_unread _
  iexact H7

end Cert.Kernel6Ideal.Body

end
-- ==== Proof.ProjOut.RunIdeal.lean ====
/-
  The output projection with its residual: the whole run.

  Along one column of weights the scratch buffer keeps what the column's first row tile put there, and so
  does the sample rows' result buffer; at a column's first tile both are written anew.
-/
module

public import proofs.«01_k».proof.Proof.ProjOut.BodyIdeal

@[expose] public section

set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 16 points. -/
theorem points : cfg0.N = 16 := N_0

/-- The first row tile of the column that point `t` works on. -/
def start (t : Fin cfg0.N) : Fin cfg0.N := ⟨t.val / 8 * 8, lt_of_le_of_lt (Nat.div_mul_le_self _ _) t.isLt⟩

theorem start_of_first (t : Fin cfg0.N) (h : t.val % 8 = 0) : start t = t := by
  apply Fin.ext; show t.val / 8 * 8 = t.val; omega

theorem start_step (s t : Fin cfg0.N) (hs : s.val + 1 = t.val) (h : ¬ t.val % 8 = 0) : start s = start t := by
  apply Fin.ext; show s.val / 8 * 8 = t.val / 8 * 8; omega

/-- The column's weights as the scratch buffer holds them. -/
def weights (c : Dev nD) (t : Fin cfg0.N) : Vec F S2048x1024 .bf16 := k0_pay1 (iblk m c 1 (start t))

/-- What a point leaves in the prompt rows' result buffer. -/
def prompt (c : Dev nD) (t : Fin cfg0.N) : Vec F S1x1024x1024 .f32 := k0_pay3 (iblk m c 0 t) (weights m c t) (iblk m c 2 t)

/-- What a point leaves in the sample rows' result buffer. -/
def sample (c : Dev nD) (t : Fin cfg0.N) : Vec F S1x32x1024 .f32 := k0_pay2 (iblk m c 3 (start t)) (weights m c t) (iblk m c 4 (start t))

/-- Window 0's buffer at a point. -/
abbrev ms0_0 (t : Fin cfg0.N) := win0_0.stage (cfg0.slots t 0)
abbrev hs0_0 (t : Fin cfg0.N) := hstage0_0 ((cfg0.slots t 0).cast nbuf0_0)
/-- Window 1's buffer at a point. -/
abbrev ms0_1 (t : Fin cfg0.N) := win0_1.stage (cfg0.slots t 1)
abbrev hs0_1 (t : Fin cfg0.N) := hstage0_1 ((cfg0.slots t 1).cast nbuf0_1)
/-- Window 2's buffer at a point. -/
abbrev ms0_2 (t : Fin cfg0.N) := win0_2.stage (cfg0.slots t 2)
abbrev hs0_2 (t : Fin cfg0.N) := hstage0_2 ((cfg0.slots t 2).cast nbuf0_2)
/-- Window 3's buffer at a point. -/
abbrev ms0_3 (t : Fin cfg0.N) := win0_3.stage (cfg0.slots t 3)
abbrev hs0_3 (t : Fin cfg0.N) := hstage0_3 ((cfg0.slots t 3).cast nbuf0_3)
/-- Window 4's buffer at a point. -/
abbrev ms0_4 (t : Fin cfg0.N) := win0_4.stage (cfg0.slots t 4)
abbrev hs0_4 (t : Fin cfg0.N) := hstage0_4 ((cfg0.slots t 4).cast nbuf0_4)
/-- Window 5's buffer at a point. -/
abbrev ms0_5 (t : Fin cfg0.N) := win0_5.stage (cfg0.slots t 5)
abbrev hs0_5 (t : Fin cfg0.N) := hstage0_5 ((cfg0.slots t 5).cast nbuf0_5)
/-- Window 6's buffer at a point. -/
abbrev ms0_6 (t : Fin cfg0.N) := win0_6.stage (cfg0.slots t 6)
abbrev hs0_6 (t : Fin cfg0.N) := hstage0_6 ((cfg0.slots t 6).cast nbuf0_6)
/-- The scratch buffer. -/
abbrev scM0_0 := Memref.whole cc0_scratch0

/-- What the scratch buffer holds before point `t`: at a later row tile of a column, the column's weights. -/
def carry (c : Dev nD) (t : Fin (cfg0.N + 1)) : sProp 𝕄 :=
  iprop((∃ d, ⌜∀ s : Fin cfg0.N, s.val = t.val → ¬ s.val % 8 = 0 → d = weights m c s⌝ ∗ owns (c : Thread nD τ) scM0_0 fullShare d)
    ∗ (∃ r, prngReg c r))

/-- The run's data: the arrays as found, what each point leaves in each buffer, and the scratch buffer's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prompt m c t
    | ⟨6, _⟩ => sample m c t
  Φ t := carry m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = prompt m c t := by dsimp only [dats]
theorem after0_6 (c : Dev nD) (t : Fin cfg0.N) : (dats m 0 c).after 6 t = sample m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The branch is taken at a column's first row tile. -/
theorem hcond : ∀ t : Fin cfg0.N, k0_cond1 (grid0.coords t) = 1#1 ↔ t.val % 8 = 0 :=
  (by decide +kernel : ∀ t : Fin grid0.N, _)

/-- The sample rows' result buffer is left alone at the other tiles, -/
theorem idle_sample : ∀ t : Fin cfg0.N, cfg0.idle 6 (grid0.coords t) = !decide (t.val % 8 = 0) :=
  (by decide +kernel : ∀ t : Fin grid0.N, _)

/-- and written back at a column's last. -/
theorem flush_sample : ∀ t : Fin cfg0.N, (cfg0.win 6).flush t = decide (t.val % 8 = 7) :=
  (by decide +kernel : ∀ t : Fin grid0.N, _)

/-- The sample rows' result is the same along a column. -/
theorem sample_step (c : Dev nD) (s t : Fin cfg0.N) (hs : s.val + 1 = t.val) (h : ¬ t.val % 8 = 0) : sample m c s = sample m c t := by
  unfold sample weights; rw [start_step s t hs h]

/-- At a later row tile the sample rows' result buffer holds what the column's first tile stored. -/
theorem before_sample (c : Dev nD) (n : ℕ) : ∀ (h : n < cfg0.N) (d), ¬ n % 8 = 0 → (dats m 0 c).before 6 ⟨n, h⟩ d = sample m c ⟨n, h⟩ := by
  induction n with
  | zero => intro h d h0; exact absurd rfl h0
  | succ n ih =>
    intro h d h0
    have hn : n < cfg0.N := Nat.lt_of_succ_lt h
    have hfl : (cfg0.win 6).flush ⟨n, hn⟩ = false := by
      rw [flush_sample]; exact decide_eq_false (by show ¬ n % 8 = 7; omega)
    have hstep : sample m c ⟨n, hn⟩ = sample m c ⟨n + 1, h⟩ := sample_step m c _ _ rfl h0
    rw [(dats m 0 c).before_of_pos 6 ⟨n + 1, h⟩ (Nat.succ_ne_zero n) (Window.fetch_out _ rfl _)]
    show (if (cfg0.win 6).flush ⟨n, hn⟩ then d else (dats m 0 c).left 6 ⟨n, hn⟩ d) = _
    rw [hfl, if_neg Bool.false_ne_true, ← hstep]
    unfold Dat.left
    rw [idle_sample]
    by_cases h1 : n % 8 = 0
    · simp only [h1, decide_true, Bool.not_true]
      unfold Dat.kept
      exact (Pipeline.fill_of_clip_none (cfg := cfg0) 6 _ (fun _ => rfl) d _ _).trans ((Window.fill_cut _ _ _).trans (after0_6 m c _))
    · simp only [h1, decide_false, Bool.not_false]
      exact ih hn d h1

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns, the sample rows' result buffer at `z`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare (sample m c t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = carry m c t.succ from rfl, show (dats m 0 c).Φ t.castSucc = carry m c t.castSucc from rfl,
    show (dats m 0 c).owesAt () t.succ = (dats m 0 c).owesAt () t.castSucc from rfl,
    after0_0, after0_1, after0_2, after0_3, after0_4, after0_5]
  unfold carry
  iintro ⟨⟨⟨%d7, %hd, H7⟩, Hg⟩, Ho, ⟨%d0, H0⟩, ⟨%d1, H1⟩, ⟨%d2, H2⟩, ⟨%d3, H3⟩, ⟨%d4, H4⟩, ⟨%d5, H5⟩, ⟨%d6, H6⟩⟩
  have hsucc : ∀ d : Vec F S2048x1024 .bf16, d = weights m c t →
      ∀ s : Fin cfg0.N, s.val = t.succ.val → ¬ s.val % 8 = 0 → d = weights m c s := by
    intro d hd s hs h0
    rw [hd]; unfold weights; rw [start_step t s (by rw [hs]; rfl) h0]
  by_cases h : t.val % 8 = 0
  · have hw : k0_pay1 (iblk m c 1 t) = weights m c t := by unfold weights; rw [start_of_first t h]
    have ho : k0_pay3 (iblk m c 0 t) (k0_pay1 (iblk m c 1 t)) (iblk m c 2 t) = prompt m c t := by rw [hw]; rfl
    have hsm : k0_pay2 (iblk m c 3 t) (k0_pay1 (iblk m c 1 t)) (iblk m c 4 t) = sample m c t := by
      rw [hw]; unfold sample; rw [start_of_first t h]
    iapply (firstRun c (grid0.coords t) ((hcond t).2 h) _ _ _ _ _ _ _ _ _ _ _ _ _ _ _ _ (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    rw [ho, hsm, hw]
    iintro ⟨H0, H1, H2, H3, H4, H5, H6, H7⟩
    isplitl [H7 Hg]
    · isplitl [H7]
      · iexists _; isplitr; swap; · iexact H7
        ipureintro; exact hsucc _ rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).before 6 t d6 = sample m c t from before_sample m c t.val t.isLt d6 h]
    obtain rfl : d7 = weights m c t := hd t rfl h
    iapply (laterRun c (grid0.coords t) (fun hc => h ((hcond t).1 hc)) _ _ _ _ _ _ _ _ _ _ _ _ _ _ _ _ (iblk m c 0 t) (iblk m c 1 t) (iblk m c 2 t) (iblk m c 3 t) (iblk m c 4 t) (sample m c t) (weights m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    rw [show k0_pay3 (iblk m c 0 t) (weights m c t) (iblk m c 2 t) = prompt m c t from rfl]
    iintro ⟨H0, H1, H2, H3, H4, H5, H6, H7⟩
    isplitl [H7 Hg]
    · isplitl [H7]
      · iexists _; isplitr; swap; · iexact H7
        ipureintro; exact hsucc _ rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- What a point may leave in the sample rows' result buffer: left alone and not written back, what was found; else the sample rows' result. -/
theorem leave (c : Dev nD) (t : Fin cfg0.N) :
    (owns (c : Thread nD τ) (ms0_6 t) fullShare (sample m c t) : sProp 𝕄)
      ⊢ match cfg0.idle 6 (cfg0.grid.coords t) with
        | true =>
          match (cfg0.win 6).flush t with
          | false => iprop(∃ d, owns (c : Thread nD τ) (ms0_6 t) fullShare ((dats m 0 c).before 6 t d))
          | true => owns (c : Thread nD τ) (ms0_6 t) fullShare ((dats m 0 c).after 6 t)
        | false => owns (c : Thread nD τ) (ms0_6 t) fullShare ((dats m 0 c).after 6 t) := by
  rw [idle_sample, flush_sample, after0_6]
  by_cases h : t.val % 8 = 0
  · simp only [h, decide_true, Bool.not_true]; exact .rfl
  · by_cases h1 : t.val % 8 = 7
    · simp only [h, h1, decide_true, decide_false, Bool.not_false]; exact .rfl
    · simp only [h, h1, decide_false, Bool.not_false]
      have hb : (dats m 0 c).before 6 t (sample m c t) = sample m c t := before_sample m c t.val t.isLt _ h
      iintro H
      iexists (sample m c t)
      rw [hb]; iexact H

/-- The body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leave m c t)
  iexact H6

/-- What the pipeline hands the body beyond the windows: the scratch buffer and the generator's register. -/
theorem rest_eq (c : Dev nD) : (Pipeline.ΦA spec0 c : sProp 𝕄)
    = iprop((∃ d, owns (c : Thread nD τ) scM0_0 fullShare d) ∗ (∃ r, prngReg c r)) := by
  unfold Pipeline.ΦA; rw [scopedRest0_eq]; simp only [scM0_0, owns_whole]; try rfl

/-- At the start nothing is asked of the scratch buffer, -/
theorem carry_in (c : Dev nD) : (Pipeline.ΦA spec0 c : sProp 𝕄) ⊢ (dats m 0 c).Φ 0 := by
  rw [rest_eq]; show _ ⊢ carry m c 0; unfold carry
  iintro ⟨⟨%d, H⟩, Hg⟩
  isplitl [H]
  · iexists d; isplitr; swap; · iexact H
    ipureintro; intro s hs h0; exact absurd (by rw [hs]; rfl) h0
  iexact Hg

/-- and at the end its contents are forgotten. -/
theorem carry_out (c : Dev nD) : (dats m 0 c).Φ (Fin.last cfg0.N) ⊢ (Pipeline.ΦA spec0 c : sProp 𝕄) := by
  rw [rest_eq]; show carry m c _ ⊢ _; unfold carry
  iintro ⟨⟨%d, -, H⟩, Hg⟩
  isplitl [H]
  · iexists d; iexact H
  iexact Hg

set_option backward.isDefEq.respectTransparency.types false in
/-- The launch: every fair execution ends with the arrays at what the run's data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := carry_in m) (hout := carry_out m)

theorem run_main : θ_run defs (onTc (τ := τ) (main (F := F))) (s₀ m ρ) (Pipeline.FramePost cfgs (dats m) 0 (V m)) :=
  (θ_run defs _ _).mono (fun _ h => h.1) (run_main_quiescent m ρ)

/-- Every fair execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel6Ideal.Body

end
-- ==== Proof.ProjOut.Value.lean ====
/- The output projection with its residual: what the two result arrays hold, as sums over the arguments. -/
module

public import proofs.«01_k».proof.Proof.ProjOut.RunIdeal
public import Idealize.ShloMosaic.Lib.Pipeline.ValueKit

@[expose] public section

set_option maxRecDepth 16384

noncomputable section

namespace Cert.Kernel6Ideal.Body

open Idealize.ShloMosaic Idealize.ShloMosaic.TcCoe Idealize.SL.Sem
open Idealize.ShloMosaic.Pipeline (Dat)
open Cert.Kernel6Ideal Cert.Kernel6Ideal.Gen

/-- The prompt rows' result over the arguments. -/
def Prompt (X : FVec Ideal S8192x2048 .bf16) (W : FVec Ideal S2x2048x2048 .f32) (R : FVec Ideal S8192x2048 .f32) : FVec Ideal S1x8192x2048 .f32 := fun y =>
  (∑ k : Fin 2048, X (ix2 (y 1) k) * W (ix3 0 k (y 2))) + R (ix2 (y 1) (y 2))

/-- The sample rows' result over the arguments. -/
def Sample (X : FVec Ideal S32x2048 .f32) (W : FVec Ideal S2x2048x2048 .f32) (R : FVec Ideal S32x2048 .f32) : FVec Ideal S1x32x2048 .f32 := fun y =>
  (∑ k : Fin 2048, X (ix2 (y 1) k) * W (ix3 0 k (y 2))) + R (ix2 (y 1) (y 2))

/-- The rounded weights are the weights. -/
theorem pay1_at (w : FVec Ideal S1x2048x1024 .f32) (k : Fin 2048) (b : Fin 1024) :
    (k0_pay1 (F := Ideal) w) (ix2 k b) = w (ix3 0 k b) := by pointwise [k0_pay1]

/-- One tile's product. -/
theorem pay3_at (x : FVec Ideal S1024x2048 .bf16) (w : FVec Ideal S2048x1024 .bf16) (r : FVec Ideal S1024x1024 .f32) (y : S1x1024x1024.Idx) :
    (k0_pay3 (F := Ideal) x w r) y = (∑ k : Fin 2048, x (ix2 (y 1) k) * w (ix2 k (y 2))) + r (ix2 (y 1) (y 2)) := by pointwise [k0_pay3]

/-- The sample rows' product. -/
theorem pay2_at (x : FVec Ideal S32x2048 .f32) (w : FVec Ideal S2048x1024 .bf16) (r : FVec Ideal S32x1024 .f32) (y : S1x32x1024.Idx) :
    (k0_pay2 (F := Ideal) x w r) y = (∑ k : Fin 2048, x (ix2 (y 1) k) * w (ix2 k (y 2))) + r (ix2 (y 1) (y 2)) := by pointwise [k0_pay2]

variable (m : (ℓ : Loc nD τ sig) → Buf (Elt Ideal) ℓ)

theorem idx : ∀ t : Fin cfg0.N, win0_0.index t = ![t.val % 8, 0]
    ∧ win0_1.index t = ![0, 0, t.val / 8]
    ∧ win0_2.index t = ![t.val % 8, t.val / 8]
    ∧ win0_3.index t = ![0, 0]
    ∧ win0_4.index t = ![0, t.val / 8]
    ∧ win0_5.index t = ![0, t.val % 8, t.val / 8]
    ∧ win0_6.index t = ![0, 0, t.val / 8] :=
  (by decide +kernel : ∀ t : Fin grid0.N, _)

/-- Writing back the prompt rows' tiles leaves the product. -/
theorem prompt_final (c : Dev nD) : (dats m 0 c).arrAt 5 cfg0.N = Prompt (m ((c : Thread nD τ).loc main_arg0)) (m ((c : Thread nD τ).loc main_arg2)) (m ((c : Thread nD τ).loc main_arg3)) := by
  refine (dats m 0 c).arrAt_eq_of_covers 5 _ (by decide +kernel) fun t _ y => ?_
  have hs : (start t).val / 8 = t.val / 8 := Nat.mul_div_cancel _ (by norm_num)
  blk_simp
  rw [after0_5]
  unfold prompt weights
  refine (pay3_at _ _ _ _).trans ?_
  unfold Prompt
  refine congr (congrArg HAdd.hAdd (Finset.sum_congr rfl fun k _ => congr (congrArg HMul.hMul ?_) ?_)) ?_
  · blk_ext [iblk, V, idx t, idx (start t), hs]
  · refine (pay1_at _ _ _).trans ?_
    blk_ext [iblk, V, idx t, idx (start t), hs]
  · blk_ext [iblk, V, idx t, idx (start t), hs]

/-- Writing back the sample rows' tiles leaves the product. -/
theorem sample_final (c : Dev nD) : (dats m 0 c).arrAt 6 cfg0.N = Sample (m ((c : Thread nD τ).loc main_arg1)) (m ((c : Thread nD τ).loc main_arg2)) (m ((c : Thread nD τ).loc main_arg4)) := by
  refine (dats m 0 c).arrAt_eq_of_covers 6 _ (by decide +kernel) fun t _ y => ?_
  have hs : (start t).val / 8 = t.val / 8 := Nat.mul_div_cancel _ (by norm_num)
  blk_simp
  rw [after0_6]
  unfold sample weights
  refine (pay2_at _ _ _ _).trans ?_
  unfold Sample
  refine congr (congrArg HAdd.hAdd (Finset.sum_congr rfl fun k _ => congr (congrArg HMul.hMul ?_) ?_)) ?_
  · blk_ext [iblk, V, idx t, idx (start t), hs]
  · refine (pay1_at _ _ _).trans ?_
    blk_ext [iblk, V, idx t, idx (start t), hs]
  · blk_ext [iblk, V, idx t, idx (start t), hs]

end Cert.Kernel6Ideal.Body

end
-- ==== Proof.ProjOut.Claim.lean ====
/- The output projection with its residual: the kernel and its reference leave the same arrays. -/
module

public import proofs.«01_k».proof.Defs
public import proofs.«01_k».proof.Proof.ProjOut.Value
public import proofs.«01_k».proof.Proof.Gen.Reference6Ideal.Run

@[expose] public section

set_option maxRecDepth 16384

noncomputable section

namespace Cert.Reference6Ideal.Value

open Idealize.ShloMosaic Idealize.ShloMosaic.TcCoe Idealize.SL.Sem Idealize.ShloMosaic.StableHlo
open Cert.Reference6Ideal Cert.Reference6Ideal.Gen

/-- The reference's prompt rows. -/
theorem ref_prompt (X : FVec Ideal S8192x2048 .bf16) (W : FVec Ideal S2x2048x2048 .f32) (R : FVec Ideal S8192x2048 .f32) :
    broadcastInDim S1x8192x2048 ![1, 2] bcast_S8192x2048_S1x8192x2048_1_2 (addf R (Host.dotGeneral dot_S8192x2048_S2048x2048_S8192x2048_1_0_0_1_n_n none (extf .f32 X bitsLt_bf16_f32) (shapeCast _ (extractStridedSlice S1x2048x2048 ![0, 0, 0] W slices_S2x2048x2048_S1x2048x2048_0_0_0) shapeCasts_S1x2048x2048_S2048x2048)))
      = Cert.Kernel6Ideal.Body.Prompt X W R := by
  funext y
  pointwise [Cert.Kernel6Ideal.Body.Prompt]; exact add_comm _ _

/-- The reference's sample rows. -/
theorem ref_sample (Xs : FVec Ideal S32x2048 .f32) (W : FVec Ideal S2x2048x2048 .f32) (Rs : FVec Ideal S32x2048 .f32) :
    broadcastInDim S1x32x2048 ![1, 2] bcast_S32x2048_S1x32x2048_1_2 (addf Rs (Host.dotGeneral dot_S32x2048_S2048x2048_S32x2048_1_0_0_1_n_n none Xs (shapeCast _ (extractStridedSlice S1x2048x2048 ![0, 0, 0] W slices_S2x2048x2048_S1x2048x2048_0_0_0) shapeCasts_S1x2048x2048_S2048x2048)))
      = Cert.Kernel6Ideal.Body.Sample Xs W Rs := by
  funext y
  pointwise [Cert.Kernel6Ideal.Body.Sample]; exact add_comm _ _

end Cert.Reference6Ideal.Value

namespace Cert.Kernel6Ideal.Body

open Idealize.ShloMosaic Idealize.ShloMosaic.TcCoe Idealize.SL.Sem
open Idealize.ShloMosaic.Pipeline (Dat)
open Cert.Kernel6Ideal Cert.Kernel6Ideal.Gen

/-- The kernel's run, its results named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = Prompt (m ((c.tc : Thread nD τ).loc main_arg0)) (m ((c.tc : Thread nD τ).loc main_arg2)) (m ((c.tc : Thread nD τ).loc main_arg3))
      ∧ r.2.mem ((c.tc : Thread nD τ).loc main_v0_1) = Sample (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 5).trans (prompt_final m c), ((h c).1 6).trans (sample_final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c)))⟩) (run_main m ρ)

end Cert.Kernel6Ideal.Body

open Idealize.ShloMosaic Idealize.ShloMosaic.TcCoe Idealize.SL.Sem

/-- The call computes its reference. -/
theorem Cert.Kernel6Ideal.Body.algebraic : Cert.algebraic_Kernel6Ideal_Reference6Ideal (hKernel6Ideal := Cert.Kernel6Ideal.Gen.facts)
    (hReference6Ideal := Cert.Reference6Ideal.Gen.facts) := by
  intro m g m' g' _ hag
  refine ⟨fun c => Cert.Kernel6Ideal.Body.Prompt (m (c.tc.loc Cert.Kernel6Ideal.main_arg0)) (m (c.tc.loc Cert.Kernel6Ideal.main_arg2)) (m (c.tc.loc Cert.Kernel6Ideal.main_arg3)),
    fun c => Cert.Kernel6Ideal.Body.Sample (m (c.tc.loc Cert.Kernel6Ideal.main_arg1)) (m (c.tc.loc Cert.Kernel6Ideal.main_arg2)) (m (c.tc.loc Cert.Kernel6Ideal.main_arg4)),
    Cert.Kernel6Ideal.Body.run_values m g, ?_⟩
  refine (θ_run Cert.Reference6Ideal.defs _ _).mono (fun r hr c => ?_) (Cert.Reference6Ideal.Value.run m' g')
  obtain ⟨h0, h1, h2, h3, h4⟩ := hag c
  obtain ⟨hv, hw, hk⟩ := hr c
  refine ⟨hv.trans ?_, hw.trans ?_, hk⟩
  · rw [Cert.Reference6Ideal.Value.ref_prompt, h0, h2, h3]
  · rw [Cert.Reference6Ideal.Value.ref_sample, h1, h2, h4]

end
-- ==== Proof.FfnGate.Value.lean ====
/-
  The sample rows' gate: what its results hold. Each sequence's two kept rows and its four new rows stand one after the
  other in a scratch; the convolution reads three runs of four of those six rows.
-/
module

public import proofs.«01_k».proof.Proof.Gen.Kernel7Ideal.Value
public import proofs.«01_k».proof.Proof.Gen.Kernel7Ideal.Skeleton
public import Idealize.ShloMosaic.Lib.Pipeline.ValueKit

@[expose] public section
set_option maxRecDepth 16384
noncomputable section
namespace Cert.Kernel7Ideal.Body
open Idealize.ShloMosaic Idealize.ShloMosaic.TcCoe Idealize.SL.Sem
open Idealize.ShloMosaic.Pipeline (Dat)
open Cert.Kernel7Ideal Cert.Kernel7Ideal.Gen

/-- Row `r` of a sequence's six rows: the two kept ones, then the four new ones. -/
def Ext (A : FVec Ideal S32x5632 .f32) (B : FVec Ideal S4x8x2x5632 .f32) (s : Fin 8) (r : Fin 6) (q : Fin 5632) : EReal :=
  if h : r.val < 2 then B (ix4 0 s (⟨r.val, h⟩ : Fin 2) q) else A (ix2 (⟨4 * s.val + (r.val - 2), by omega⟩ : Fin 32) q)

/-- The convolution along the rows of a sequence. -/
def Conv (A : FVec Ideal S32x5632 .f32) (B : FVec Ideal S4x8x2x5632 .f32) (CW : FVec Ideal S4x3x5632 .f32) (CB : FVec Ideal S4x5632 .f32)
    (s : Fin 8) (r : Fin 4) (q : Fin 5632) : EReal :=
  CB (ix2 0 q) + CW (ix3 0 0 q) * Ext A B s (⟨r.val, by omega⟩ : Fin 6) q + CW (ix3 0 1 q) * Ext A B s (⟨1 + r.val, by omega⟩ : Fin 6) q
    + CW (ix3 0 2 q) * A (ix2 (⟨4 * s.val + r.val, by omega⟩ : Fin 32) q)

/-- `c` gated by its own logistic, times `b`. -/
def gated (c b : EReal) : EReal := c * Ideal.div 1 (1 + Ideal.exp (0 - c)) * b

/-- The gated product over the arguments. -/
def Result (A A' : FVec Ideal S32x5632 .f32) (B : FVec Ideal S4x8x2x5632 .f32) (CW : FVec Ideal S4x3x5632 .f32) (CB : FVec Ideal S4x5632 .f32) :
    FVec Ideal S8x4x5632 .f32 := fun y =>
  gated (Conv A B CW CB (y 0) (y 1) (y 2)) (A' (ix2 (⟨4 * (y 0).val + (y 1).val, by have h0 : (y 0).val < 8 := (y 0).isLt; have h1 : (y 1).val < 4 := (y 1).isLt; omega⟩ : Fin 32) (y 2)))

/-- The two rows kept for the next step. -/
def State (A : FVec Ideal S32x5632 .f32) (B : FVec Ideal S4x8x2x5632 .f32) : FVec Ideal S8x2x5632 .f32 := fun y =>
  Ext A B (y 0) (⟨4 + (y 1).val, by have h1 : (y 1).val < 2 := (y 1).isLt; omega⟩ : Fin 6) (y 2)

/-- Row `r` of the six rows, from the two blocks that hold them. -/
def ext (x : FVec Ideal S1x4x5632 .f32) (b : FVec Ideal S1x1x2x5632 .f32) (r : Fin 6) (q : Fin 5632) : EReal :=
  if h : r.val < 2 then b (ix4 0 0 (⟨r.val, h⟩ : Fin 2) q) else x (ix3 0 (⟨r.val - 2, by omega⟩ : Fin 4) q)

/-- The scratch after both stores, at a row they wrote. -/
theorem canon_at (x : FVec Ideal S1x4x5632 .f32) (b : FVec Ideal S1x1x2x5632 .f32) (y : S12x5632.Idx) (r : Fin 6) (q : Fin 5632)
    (hr : (y 0).val = 6 + r.val) (hq : (y 1).val = q.val) :
    View.canon (Val := Elt Ideal) (s := S12x5632) (e := .f32) [⟨Rect.unit ![8, 0] ![4, 5632] inb_S12x5632_S4x5632_8_0, k0_pay6 (F := Ideal) x⟩,
      ⟨Rect.unit ![6, 0] ![2, 5632] inb_S12x5632_S2x5632_6_0, k0_pay3 (F := Ideal) b⟩] y = ext x b r q := by
  have hq' : (y 1).val < 5632 := (y 1).isLt
  by_cases h : r.val < 2
  · have hc : ∃ p ∈ ([⟨Rect.unit ![8, 0] ![4, 5632] inb_S12x5632_S4x5632_8_0, k0_pay6 (F := Ideal) x⟩,
        ⟨Rect.unit ![6, 0] ![2, 5632] inb_S12x5632_S2x5632_6_0, k0_pay3 (F := Ideal) b⟩] : List (View.Piece (Elt Ideal) S12x5632 .f32)), y ∈ p.1.set :=
      ⟨_, List.mem_cons_of_mem _ List.mem_cons_self, (Rect.mem_set_unit (inb := inb_S12x5632_S2x5632_6_0)).mpr fun a => match a with
        | ⟨0, _⟩ => by show 6 ≤ (y 0).val ∧ (y 0).val < 6 + 2; omega
        | ⟨1, _⟩ => by show 0 ≤ (y 1).val ∧ (y 1).val < 0 + 5632; omega⟩
    canon_tiles z e using hc
    · omega
    · pointwise [k0_pay3]
      unfold ext
      rw [dif_pos h]
      blk_ext [Nat.zero_add]
  · have hc : ∃ p ∈ ([⟨Rect.unit ![8, 0] ![4, 5632] inb_S12x5632_S4x5632_8_0, k0_pay6 (F := Ideal) x⟩,
        ⟨Rect.unit ![6, 0] ![2, 5632] inb_S12x5632_S2x5632_6_0, k0_pay3 (F := Ideal) b⟩] : List (View.Piece (Elt Ideal) S12x5632 .f32)), y ∈ p.1.set :=
      ⟨_, List.mem_cons_self, (Rect.mem_set_unit (inb := inb_S12x5632_S4x5632_8_0)).mpr fun a => match a with
        | ⟨0, _⟩ => by show 8 ≤ (y 0).val ∧ (y 0).val < 8 + 4; omega
        | ⟨1, _⟩ => by show 0 ≤ (y 1).val ∧ (y 1).val < 0 + 5632; omega⟩
    canon_tiles z e using hc
    · pointwise [k0_pay6, k0_pay4]
      unfold ext
      rw [dif_neg h]
      blk_ext [Nat.zero_add]
    · omega

/-- A run of the scratch's rows, read back after both stores. -/
theorem rows_at (x : FVec Ideal S1x4x5632 .f32) (b : FVec Ideal S1x1x2x5632 .f32) (o n : ℕ) (inb : ∀ a, (![o, 0] : Fin 2 → ℕ) a + (![n, 5632] : Fin 2 → ℕ) a ≤ S12x5632.size a)
    (p : Fin n) (q : Fin 5632) (r : Fin 6) (hr : o + p.val = 6 + r.val) :
    (View.whole cc0_scratch0).readCov (Val := Elt Ideal) [⟨Rect.unit ![8, 0] ![4, 5632] inb_S12x5632_S4x5632_8_0, k0_pay6 (F := Ideal) x⟩,
      ⟨Rect.unit ![6, 0] ![2, 5632] inb_S12x5632_S2x5632_6_0, k0_pay3 (F := Ideal) b⟩] (Rect.unit (s := S12x5632) ![o, 0] ![n, 5632] inb).toLoadRect (ix2 p q) = ext x b r q := by
  rw [View.readCov_eq_canon']
  exact canon_at x b _ r q ((Rect.idx_unit_val (s := S12x5632) ![o, 0] ![n, 5632] inb (ix2 p q) 0).trans hr)
    ((Rect.idx_unit_val (s := S12x5632) ![o, 0] ![n, 5632] inb (ix2 p q) 1).trans (Nat.zero_add _))

/-- One row of the convolution's weights. -/
theorem tap_at (x : FVec Ideal S1x3x5632 .f32) (k : Fin 3) (inb : ∀ a, (![0, k.val, 0] : Fin 3 → ℕ) a + (![1, 1, 5632] : Fin 3 → ℕ) a ≤ S1x3x5632.size a) (q : Fin 5632) :
    View.ld (Val := Elt Ideal) (e' := .f32) x (Rect.unit (s := S1x3x5632) ![0, k.val, 0] ![1, 1, 5632] inb) (ix3 0 0 q) = x (ix3 0 k q) := by
  refine View.ld_unit_apply_of _ _ _ _ _ _ fun a => ?_
  fin_cases a
  · rfl
  · rfl
  · exact (Nat.zero_add _).symm

/-- The convolution's first three terms, over any two runs of rows. -/
theorem pay7_at (cb w0 w1 : FVec Ideal S1x1x5632 .f32) (u v : FVec Ideal S4x5632 .f32) (p : Fin 4) (q : Fin 5632) :
    (k0_pay7 (F := Ideal) cb w0 u w1 v) (ix2 p q)
      = cb (ix3 0 0 q) + w0 (ix3 0 0 q) * u (ix2 p q) + w1 (ix3 0 0 q) * v (ix2 p q) := by pointwise [k0_pay7]

/-- The gate. -/
theorem pay1_at (a b s : FVec Ideal S4x5632 .f32) (w : FVec Ideal S1x1x5632 .f32) (p : Fin 4) (q : Fin 5632) :
    (k0_pay1 (F := Ideal) a b s w) (ix3 0 p q) = gated (s (ix2 p q) + w (ix3 0 0 q) * a (ix2 p q)) (b (ix2 p q)) := by
  pointwise [k0_pay1, gated]

theorem pay4_at (x : FVec Ideal S1x4x5632 .f32) (p : Fin 4) (q : Fin 5632) : (k0_pay4 (F := Ideal) x) (ix2 p q) = x (ix3 0 p q) := by pointwise [k0_pay4]
theorem pay5_at (x : FVec Ideal S1x4x5632 .f32) (p : Fin 4) (q : Fin 5632) : (k0_pay5 (F := Ideal) x) (ix2 p q) = x (ix3 0 p q) := by pointwise [k0_pay5]
theorem pay2_at (x : FVec Ideal S2x5632 .f32) (p : Fin 2) (q : Fin 5632) : (k0_pay2 (F := Ideal) x) (ix3 0 p q) = x (ix2 p q) := by pointwise [k0_pay2]

variable (m : (ℓ : Loc nD τ sig) → Buf (Elt Ideal) ℓ)

theorem idx : ∀ t : Fin cfg0.N, win0_0.index t = ![t.val, 0, 0] ∧ win0_1.index t = ![t.val, 0, 0] ∧ win0_2.index t = ![0, t.val, 0, 0]
    ∧ win0_3.index t = ![0, 0, 0] ∧ win0_4.index t = ![0, 0, 0] ∧ win0_5.index t = ![t.val, 0, 0] ∧ win0_6.index t = ![t.val, 0, 0] :=
  (by decide +kernel : ∀ t : Fin grid0.N, _)

theorem points : cfg0.N = 8 := N_0

/-- The sequence a grid point works on. -/
def seqOf (t : Fin cfg0.N) : Fin 8 := ⟨t.val, lt_of_lt_of_eq t.isLt points⟩

theorem a_block (c : Dev nD) (t : Fin cfg0.N) (p : Fin 4) (q : Fin 5632) :
    (iblk m c 0 t : FVec Ideal S1x4x5632 .f32) (ix3 0 p q)
      = (m ((c : Thread nD τ).loc main_arg0) : FVec Ideal S32x5632 .f32) (ix2 (⟨4 * (seqOf t).val + p.val, by have := (seqOf t).isLt; omega⟩ : Fin 32) q) := by
  blk_ext! [iblk, V, idx t, seqOf]

theorem b_block (c : Dev nD) (t : Fin cfg0.N) (p : Fin 4) (q : Fin 5632) :
    (iblk m c 1 t : FVec Ideal S1x4x5632 .f32) (ix3 0 p q)
      = (m ((c : Thread nD τ).loc main_arg1) : FVec Ideal S32x5632 .f32) (ix2 (⟨4 * (seqOf t).val + p.val, by have := (seqOf t).isLt; omega⟩ : Fin 32) q) := by
  blk_ext! [iblk, V, idx t, seqOf]

theorem buf_block (c : Dev nD) (t : Fin cfg0.N) (p : Fin 2) (q : Fin 5632) :
    (iblk m c 2 t : FVec Ideal S1x1x2x5632 .f32) (ix4 0 0 p q)
      = (m ((c : Thread nD τ).loc main_arg2) : FVec Ideal S4x8x2x5632 .f32) (ix4 0 (seqOf t) p q) := by
  blk_ext [iblk, V, idx t, seqOf]

theorem tap_block (c : Dev nD) (t : Fin cfg0.N) (k : Fin 3) (q : Fin 5632) :
    (iblk m c 3 t : FVec Ideal S1x3x5632 .f32) (ix3 0 k q) = (m ((c : Thread nD τ).loc main_arg3) : FVec Ideal S4x3x5632 .f32) (ix3 0 k q) := by
  blk_ext [iblk, V, idx t]

theorem bias_block (c : Dev nD) (t : Fin cfg0.N) (q : Fin 5632) :
    (iblk m c 4 t : FVec Ideal S1x1x5632 .f32) (ix3 0 0 q) = (m ((c : Thread nD τ).loc main_arg4) : FVec Ideal S4x5632 .f32) (ix2 0 q) := by
  blk_ext! [iblk, V, idx t]

theorem ext_block (c : Dev nD) (t : Fin cfg0.N) (r : Fin 6) (q : Fin 5632) :
    ext (iblk m c 0 t) (iblk m c 2 t) r q = Ext (m ((c : Thread nD τ).loc main_arg0)) (m ((c : Thread nD τ).loc main_arg2)) (seqOf t) r q := by
  unfold ext Ext
  by_cases h : r.val < 2
  · rw [dif_pos h, dif_pos h]; exact buf_block m c t _ q
  · rw [dif_neg h, dif_neg h]; exact a_block m c t _ q

/-- Writing back every sequence's block leaves the gated product. -/
theorem result_final (c : Dev nD) : (dats m 0 c).arrAt 5 cfg0.N = Result (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  have he : (win0_5.blk t).view.emb y = ix3 (seqOf t) (y 1) (y 2) := by blk_ext [idx t, seqOf]
  rw [he]
  have hy : (y : S1x4x5632.Idx) = ix3 0 (y 1) (y 2) := by blk_ext [Nat.zero_add]
  dsimp only [outsAt0]
  unfold out0_A_5
  frame_out
  refine (congrArg _ hy).trans ((pay1_at _ _ _ _ _ _).trans ?_)
  unfold Result
  refine congrArg₂ gated ?_ ((pay5_at _ _ _).trans (b_block m c t _ _))
  refine congrArg₂ (· + ·) ((pay7_at _ _ _ _ _ _ _).trans ?_) (congrArg₂ (· * ·) ?_ ((pay4_at _ _ _).trans (a_block m c t _ _)))
  · exact congrArg₂ (· + ·) (congrArg₂ (· + ·) (bias_block m c t _)
      (congrArg₂ (· * ·) ((tap_at _ 0 _ _).trans (tap_block m c t 0 _))
        ((rows_at _ _ 6 4 _ _ _ (⟨(y 1).val, by have h1 : (y 1).val < 4 := (y 1).isLt; omega⟩ : Fin 6) rfl).trans (ext_block m c t _ _))))
      (congrArg₂ (· * ·) ((tap_at _ 1 _ _).trans (tap_block m c t 1 _))
        ((rows_at _ _ 7 4 _ _ _ (⟨1 + (y 1).val, by have h1 : (y 1).val < 4 := (y 1).isLt; omega⟩ : Fin 6) (by show 7 + (y 1).val = 6 + (1 + (y 1).val); omega)).trans (ext_block m c t _ _)))
  · exact (tap_at _ 2 _ _).trans (tap_block m c t 2 _)

/-- Writing back every sequence's last two rows leaves the state. -/
theorem state_final (c : Dev nD) : (dats m 0 c).arrAt 6 cfg0.N = State (m ((c : Thread nD τ).loc main_arg0)) (m ((c : Thread nD τ).loc main_arg2)) := by
  refine (dats m 0 c).arrAt_eq_of_covers 6 _ (by decide +kernel) fun t _ y => ?_
  blk_simp
  rw [after0_6]
  have he : (win0_6.blk t).view.emb y = ix3 (seqOf t) (y 1) (y 2) := by blk_ext [idx t, seqOf]
  rw [he]
  have hy : (y : S1x2x5632.Idx) = ix3 0 (y 1) (y 2) := by blk_ext [Nat.zero_add]
  dsimp only [outsAt0]
  unfold out0_A_6
  frame_out
  refine (congrArg _ hy).trans ((pay2_at _ _ _).trans ?_)
  unfold State
  exact (rows_at _ _ 10 2 _ _ _ (⟨4 + (y 1).val, by have h1 : (y 1).val < 2 := (y 1).isLt; omega⟩ : Fin 6) (by show 10 + (y 1).val = 6 + (4 + (y 1).val); omega)).trans (ext_block m c t _ _)

end Cert.Kernel7Ideal.Body
end
-- ==== Proof.FfnGate.Claim.lean ====
/- The sample rows' gate: the kernel and its reference leave the same arrays. -/
module

public import proofs.«01_k».proof.Defs
public import proofs.«01_k».proof.Proof.FfnGate.Value
public import proofs.«01_k».proof.Proof.Gen.Reference7Ideal.Run

@[expose] public section

set_option maxRecDepth 16384

noncomputable section

namespace Cert.Reference7Ideal.Value

open Idealize.ShloMosaic Idealize.ShloMosaic.TcCoe Idealize.SL.Sem Idealize.ShloMosaic.StableHlo
open Cert.Reference7Ideal Cert.Reference7Ideal.Gen
open Cert.Kernel7Ideal.Body (Ext Conv gated)

/-- The reference's six rows of each sequence, -/
def refExt (A : FVec Ideal S32x5632 .f32) (B : FVec Ideal S4x8x2x5632 .f32) : FVec Ideal S8x6x5632 .f32 :=
  concatenate S8x6x5632 1 [⟨S8x2x5632, (shapeCast _ (extractStridedSlice S1x8x2x5632 ![0, 0, 0, 0] B slices_S4x8x2x5632_S1x8x2x5632_0_0_0_0) shapeCasts_S1x8x2x5632_S8x2x5632)⟩, ⟨S8x4x5632, (shapeCast _ A shapeCasts_S32x5632_S8x4x5632)⟩] concatenates_S8x2x5632_S8x4x5632_S8x6x5632_d1

/-- and the convolution over them. -/
def refConv (A : FVec Ideal S32x5632 .f32) (B : FVec Ideal S4x8x2x5632 .f32) (CW : FVec Ideal S4x3x5632 .f32) (CB : FVec Ideal S4x5632 .f32) : FVec Ideal S8x4x5632 .f32 :=
  addf (addf (addf (broadcastInDim S8x4x5632 ![0, 1, 2] bcast_S1x1x5632_S8x4x5632_0_1_2 (broadcastInDim S1x1x5632 ![2] bcast_S5632_S1x1x5632_2 (shapeCast _ (extractStridedSlice S1x5632 ![0, 0] CB slices_S4x5632_S1x5632_0_0) shapeCasts_S1x5632_S5632))) (mulf (broadcastInDim S8x4x5632 ![0, 1, 2] bcast_S1x1x5632_S8x4x5632_0_1_2 (broadcastInDim S1x1x5632 ![2] bcast_S5632_S1x1x5632_2 (shapeCast _ (extractStridedSlice S1x1x5632 ![0, 0, 0] CW slices_S4x3x5632_S1x1x5632_0_0_0) shapeCasts_S1x1x5632_S5632))) (extractStridedSlice S8x4x5632 ![0, 0, 0] (refExt A B) slices_S8x6x5632_S8x4x5632_0_0_0))) (mulf (broadcastInDim S8x4x5632 ![0, 1, 2] bcast_S1x1x5632_S8x4x5632_0_1_2 (broadcastInDim S1x1x5632 ![2] bcast_S5632_S1x1x5632_2 (shapeCast _ (extractStridedSlice S1x1x5632 ![0, 1, 0] CW slices_S4x3x5632_S1x1x5632_0_1_0) shapeCasts_S1x1x5632_S5632))) (extractStridedSlice S8x4x5632 ![0, 1, 0] (refExt A B) slices_S8x6x5632_S8x4x5632_0_1_0))) (mulf (broadcastInDim S8x4x5632 ![0, 1, 2] bcast_S1x1x5632_S8x4x5632_0_1_2 (broadcastInDim S1x1x5632 ![2] bcast_S5632_S1x1x5632_2 (shapeCast _ (extractStridedSlice S1x1x5632 ![0, 2, 0] CW slices_S4x3x5632_S1x1x5632_0_2_0) shapeCasts_S1x1x5632_S5632))) (extractStridedSlice S8x4x5632 ![0, 2, 0] (refExt A B) slices_S8x6x5632_S8x4x5632_0_2_0))

theorem refExt_at (A : FVec Ideal S32x5632 .f32) (B : FVec Ideal S4x8x2x5632 .f32) (s : Fin 8) (r : Fin 6) (q : Fin 5632) :
    refExt A B (ix3 s r q) = Ext A B s r q := by
  pointwise [refExt, Ext]
  by_cases h : r.val < 2
  · rw [dif_pos h, dif_pos h]
  · rw [dif_neg h, dif_neg h]
    exact congrArg (fun p : Fin 32 => A (ix2 p q)) (Fin.ext (by show s.val * 4 + (r.val - 2) = 4 * s.val + (r.val - 2); omega))

theorem refConv_at (A : FVec Ideal S32x5632 .f32) (B : FVec Ideal S4x8x2x5632 .f32) (CW : FVec Ideal S4x3x5632 .f32) (CB : FVec Ideal S4x5632 .f32) (s : Fin 8) (r : Fin 4) (q : Fin 5632) :
    refConv A B CW CB (ix3 s r q) = Conv A B CW CB s r q := by
  have h0 := refExt_at A B s (⟨r.val, by omega⟩ : Fin 6) q
  have h1 := refExt_at A B s (⟨1 + r.val, by omega⟩ : Fin 6) q
  have h2 : refExt A B (ix3 s (⟨2 + r.val, by omega⟩ : Fin 6) q) = A (ix2 (⟨4 * s.val + r.val, by omega⟩ : Fin 32) q) := by
    refine (refExt_at A B s (⟨2 + r.val, by omega⟩ : Fin 6) q).trans ?_
    unfold Ext
    rw [dif_neg (by show ¬ 2 + r.val < 2; omega)]
    exact congrArg (fun p : Fin 32 => A (ix2 p q)) (Fin.ext (by show 4 * s.val + (2 + r.val - 2) = 4 * s.val + r.val; omega))
  pointwise [refConv, Conv]
  exact congrArg₂ (· + ·) (congrArg₂ (· + ·) (congrArg (fun v => CB (ix2 0 q) + CW (ix3 0 0 q) * v) h0)
    (congrArg (fun v => CW (ix3 0 1 q) * v) h1)) (congrArg (fun v => CW (ix3 0 2 q) * v) h2)

/-- The reference's gated product. -/
theorem ref_result (A A' : FVec Ideal S32x5632 .f32) (B : FVec Ideal S4x8x2x5632 .f32) (CW : FVec Ideal S4x3x5632 .f32) (CB : FVec Ideal S4x5632 .f32) :
    mulf (mulf (refConv A B CW CB) (Host.divf (broadcastInDim S8x4x5632 ![] bcast_S_S8x4x5632 (constant S_ .f32 0x3F800000#32)) (addf (broadcastInDim S8x4x5632 ![] bcast_S_S8x4x5632 (constant S_ .f32 0x3F800000#32)) (Host.exp (Host.negf (refConv A B CW CB)))))) (shapeCast _ A' shapeCasts_S32x5632_S8x4x5632)
      = Cert.Kernel7Ideal.Body.Result A A' B CW CB := by
  funext y
  have h0 : (y 0).val < 8 := (y 0).isLt
  have h1 : (y 1).val < 4 := (y 1).isLt
  have ec : refConv A B CW CB y = Conv A B CW CB (y 0) (y 1) (y 2) :=
    (congrArg (refConv A B CW CB) (eq_ix3 y)).trans (refConv_at A B CW CB (y 0) (y 1) (y 2))
  pointwise [Cert.Kernel7Ideal.Body.Result, gated]
  refine congrArg₂ (· * ·) (congrArg₂ (· * ·) ec ?_) ?_
  · exact congrArg (fun v => Ideal.div 1 (1 + Ideal.exp v)) ((congrArg (fun v => -v) ec).trans (zero_sub _).symm)
  · exact congrArg (fun p : Fin 32 => A' (ix2 p (y 2))) (Fin.ext (by show (y 0).val * 4 + (y 1).val = 4 * (y 0).val + (y 1).val; omega))

/-- The reference's state. -/
theorem ref_state (A : FVec Ideal S32x5632 .f32) (B : FVec Ideal S4x8x2x5632 .f32) :
    extractStridedSlice S8x2x5632 ![0, 4, 0] (refExt A B) slices_S8x6x5632_S8x2x5632_0_4_0 = Cert.Kernel7Ideal.Body.State A B := by
  funext y
  have h1 : (y 1).val < 2 := (y 1).isLt
  pointwise [Cert.Kernel7Ideal.Body.State]
  exact refExt_at A B (y 0) (⟨4 + (y 1).val, by omega⟩ : Fin 6) (y 2)

end Cert.Reference7Ideal.Value

namespace Cert.Kernel7Ideal.Body

open Idealize.ShloMosaic Idealize.ShloMosaic.TcCoe Idealize.SL.Sem
open Cert.Kernel7Ideal Cert.Kernel7Ideal.Gen

/-- The kernel's run, its results named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3_0) = Result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v3_1) = State (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_final m c), (h c).2.1.trans (state_final m c), (h c).2.2⟩)
    (Cert.Kernel7Ideal.Value.run_blocks m ρ)

end Cert.Kernel7Ideal.Body

open Idealize.ShloMosaic Idealize.ShloMosaic.TcCoe Idealize.SL.Sem

/-- The call computes its reference. -/
theorem Cert.Kernel7Ideal.Body.algebraic : Cert.algebraic_Kernel7Ideal_Reference7Ideal (hKernel7Ideal := Cert.Kernel7Ideal.Gen.facts)
    (hReference7Ideal := Cert.Reference7Ideal.Gen.facts) := by
  intro m g m' g' _ hag
  refine ⟨fun c => Cert.Kernel7Ideal.Body.Result (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)),
    fun c => Cert.Kernel7Ideal.Body.State (m (c.tc.loc Cert.Kernel7Ideal.main_arg0)) (m (c.tc.loc Cert.Kernel7Ideal.main_arg2)),
    Cert.Kernel7Ideal.Body.run_values m g, ?_⟩
  refine (θ_run Cert.Reference7Ideal.defs _ _).mono (fun r hr c => ?_) (Cert.Reference7Ideal.Value.run m' g')
  obtain ⟨h0, h1, h2, h3, h4⟩ := hag c
  obtain ⟨hv, hw, hk⟩ := hr c
  refine ⟨hv.trans ?_, hw.trans ?_, hk⟩
  · refine (Cert.Reference7Ideal.Value.ref_result _ _ _ _ _).trans ?_
    rw [h0, h1, h2, h3, h4]
  · refine (Cert.Reference7Ideal.Value.ref_state _ _).trans ?_
    rw [h0, h2]

end
-- ==== Proof.KvHeads.Heads.lean ====
/-
  Sixteen heads of 128 columns, kept side by side or one below the other.

  A tile of `T` rows is worked through a head at a time. `flat` puts the sixteen heads side by side: head `k` of a
  row goes to columns `128 k` to `128 k + 127`. `byHead` puts a row's heads one below the other: head `k` of row `r`
  goes to row `16 r + k`. Sixteen stores, one for each head, leave these arrays, whatever was there before.
-/
module

public import Idealize.ShloMosaic.Lib.Pipeline.ValueKit
public import Idealize.ShloMosaic.Lib.Pipeline.Value
public import Idealize.ShloMosaic.Lib.VecWindow

@[expose] public section

noncomputable section

namespace Cert.Heads

open Idealize.ShloMosaic

variable {F : FTy → Type} [FloatOps F] {e : EltTy} {T R : ℕ}

/-- A tile, the heads side by side. -/
abbrev Flat (T : ℕ) : Shape := ⟨2, ![T, 2048]⟩
/-- One head of it. -/
abbrev Part (T : ℕ) : Shape := ⟨2, ![T, 128]⟩
/-- A tile of `R = 16 T` rows, a row's heads one below the other. -/
abbrev Rows (R : ℕ) : Shape := ⟨3, ![1, R, 128]⟩
/-- One head of it. -/
abbrev Head (T : ℕ) : Shape := ⟨3, ![1, T, 128]⟩

/-- Sixteen heads side by side. -/
def flat (p : (k : ℕ) → k < 16 → Vec F (Part T) e) : Vec F (Flat T) e := fun y =>
  p ((y 1 : ℕ) / 128) (Nat.div_lt_of_lt_mul (show (y 1 : ℕ) < 128 * 16 from (y 1).isLt))
    (ix2 (y 0 : Fin T) (⟨(y 1 : ℕ) % 128, Nat.mod_lt _ (by norm_num)⟩ : Fin 128))

theorem flat_at (p : (k : ℕ) → k < 16 → Vec F (Part T) e) (k : ℕ) (hk : k < 16) (y : (Flat T).Idx) (z : (Part T).Idx)
    (h0 : (y 0 : ℕ) = (z 0 : ℕ)) (h1 : (y 1 : ℕ) = 128 * k + (z 1 : ℕ)) : flat p y = p k hk z := by
  have hz : (z 1 : ℕ) < 128 := (z 1).isLt
  obtain rfl : k = (y 1 : ℕ) / 128 := by omega
  unfold flat
  refine congrArg _ ?_
  funext a
  fin_cases a
  · apply Fin.ext; exact h0
  · apply Fin.ext; show (y 1 : ℕ) % 128 = (z 1 : ℕ); omega

/-- The columns of head `k`. -/
def colRect (k : ℕ) (hk : k < 16) : Rect (Flat T) :=
  Rect.unit ![0, 128 * k] (Part T).size (by
    intro a; fin_cases a
    · show 0 + T ≤ T; omega
    · show 128 * k + 128 ≤ 2048; omega)

theorem mem_colRect (k : ℕ) (hk : k < 16) (y : (Flat T).Idx) (h : (y 1 : ℕ) / 128 = k) : y ∈ (colRect k hk).set := by
  have h0 : (y 0 : ℕ) < T := (y 0).isLt
  refine Rect.mem_set_unit.mpr fun a => ?_
  match a with
  | ⟨0, _⟩ => show 0 ≤ (y 0 : ℕ) ∧ (y 0 : ℕ) < 0 + T; omega
  | ⟨1, _⟩ => show 128 * k ≤ (y 1 : ℕ) ∧ (y 1 : ℕ) < 128 * k + 128; omega

/-- Sixteen stores, one of each head's columns, the last head's first. -/
def colPieces (p : (k : ℕ) → k < 16 → Vec F (Part T) e) : List (View.Piece (Elt F) (Flat T) e) :=
  [⟨colRect 15 (by decide), p 15 (by decide)⟩, ⟨colRect 14 (by decide), p 14 (by decide)⟩, ⟨colRect 13 (by decide), p 13 (by decide)⟩, ⟨colRect 12 (by decide), p 12 (by decide)⟩, ⟨colRect 11 (by decide), p 11 (by decide)⟩, ⟨colRect 10 (by decide), p 10 (by decide)⟩, ⟨colRect 9 (by decide), p 9 (by decide)⟩, ⟨colRect 8 (by decide), p 8 (by decide)⟩, ⟨colRect 7 (by decide), p 7 (by decide)⟩, ⟨colRect 6 (by decide), p 6 (by decide)⟩, ⟨colRect 5 (by decide), p 5 (by decide)⟩, ⟨colRect 4 (by decide), p 4 (by decide)⟩, ⟨colRect 3 (by decide), p 3 (by decide)⟩, ⟨colRect 2 (by decide), p 2 (by decide)⟩, ⟨colRect 1 (by decide), p 1 (by decide)⟩, ⟨colRect 0 (by decide), p 0 (by decide)⟩]

/-- They leave the sixteen heads. -/
theorem read_flat {sig : RefSig} {κ : Kind} {sp : Space} (v : View sig κ sp (Flat T) e) (f : v.ty.Contents (Elt F)) (p : (k : ℕ) → k < 16 → Vec F (Part T) e) :
    v.read (Elt F) (v.writes (Elt F) f (colPieces p)) = flat p := by
  funext y
  have hc : ∃ q ∈ colPieces p, y ∈ q.1.set := by
    have hk : (y 1 : ℕ) / 128 < 16 := Nat.div_lt_of_lt_mul (show (y 1 : ℕ) < 128 * 16 from (y 1).isLt)
    generalize hm : (y 1 : ℕ) / 128 = k at hk
    interval_cases k
    · exact ⟨_, List.getElem_mem (l := colPieces p) (show 15 < 16 by norm_num), mem_colRect 0 (by decide) y hm⟩
    · exact ⟨_, List.getElem_mem (l := colPieces p) (show 14 < 16 by norm_num), mem_colRect 1 (by decide) y hm⟩
    · exact ⟨_, List.getElem_mem (l := colPieces p) (show 13 < 16 by norm_num), mem_colRect 2 (by decide) y hm⟩
    · exact ⟨_, List.getElem_mem (l := colPieces p) (show 12 < 16 by norm_num), mem_colRect 3 (by decide) y hm⟩
    · exact ⟨_, List.getElem_mem (l := colPieces p) (show 11 < 16 by norm_num), mem_colRect 4 (by decide) y hm⟩
    · exact ⟨_, List.getElem_mem (l := colPieces p) (show 10 < 16 by norm_num), mem_colRect 5 (by decide) y hm⟩
    · exact ⟨_, List.getElem_mem (l := colPieces p) (show 9 < 16 by norm_num), mem_colRect 6 (by decide) y hm⟩
    · exact ⟨_, List.getElem_mem (l := colPieces p) (show 8 < 16 by norm_num), mem_colRect 7 (by decide) y hm⟩
    · exact ⟨_, List.getElem_mem (l := colPieces p) (show 7 < 16 by norm_num), mem_colRect 8 (by decide) y hm⟩
    · exact ⟨_, List.getElem_mem (l := colPieces p) (show 6 < 16 by norm_num), mem_colRect 9 (by decide) y hm⟩
    · exact ⟨_, List.getElem_mem (l := colPieces p) (show 5 < 16 by norm_num), mem_colRect 10 (by decide) y hm⟩
    · exact ⟨_, List.getElem_mem (l := colPieces p) (show 4 < 16 by norm_num), mem_colRect 11 (by decide) y hm⟩
    · exact ⟨_, List.getElem_mem (l := colPieces p) (show 3 < 16 by norm_num), mem_colRect 12 (by decide) y hm⟩
    · exact ⟨_, List.getElem_mem (l := colPieces p) (show 2 < 16 by norm_num), mem_colRect 13 (by decide) y hm⟩
    · exact ⟨_, List.getElem_mem (l := colPieces p) (show 1 < 16 by norm_num), mem_colRect 14 (by decide) y hm⟩
    · exact ⟨_, List.getElem_mem (l := colPieces p) (show 0 < 16 by norm_num), mem_colRect 15 (by decide) y hm⟩
  refine (View.read_writes_apply_eq_canon _ _ y _ hc).trans (View.canon_apply_of_pieces (flat p) _ ?_ y hc)
  have h : ∀ (k : ℕ) (hk : k < 16) (z : (Part T).Idx), p k hk z = flat p ((colRect k hk).emb z) := fun k hk z =>
    (flat_at p k hk _ z (show 0 + 1 * (z 0 : ℕ) = (z 0 : ℕ) by omega) (show 128 * k + 1 * (z 1 : ℕ) = 128 * k + (z 1 : ℕ) by omega)).symm
  unfold colPieces
  simp only [List.forall_mem_cons]
  exact ⟨h 15 (by decide), h 14 (by decide), h 13 (by decide), h 12 (by decide), h 11 (by decide), h 10 (by decide), h 9 (by decide), h 8 (by decide), h 7 (by decide), h 6 (by decide), h 5 (by decide), h 4 (by decide), h 3 (by decide), h 2 (by decide), h 1 (by decide), h 0 (by decide), fun q hq => absurd hq List.not_mem_nil⟩

/-- Sixteen heads, a row's heads one below the other. -/
def byHead (hR : R = 16 * T) (p : (k : ℕ) → k < 16 → Vec F (Head T) e) : Vec F (Rows R) e := fun y =>
  p ((y 1 : ℕ) % 16) (Nat.mod_lt _ (by norm_num))
    (ix3 (y 0 : Fin 1) (⟨(y 1 : ℕ) / 16, Nat.div_lt_of_lt_mul (hR ▸ (show (y 1 : ℕ) < R from (y 1).isLt))⟩ : Fin T) (y 2 : Fin 128))

theorem byHead_at (hR : R = 16 * T) (p : (k : ℕ) → k < 16 → Vec F (Head T) e) (k : ℕ) (hk : k < 16) (y : (Rows R).Idx) (z : (Head T).Idx)
    (h1 : (y 1 : ℕ) = k + 16 * (z 1 : ℕ)) (h2 : (y 2 : ℕ) = (z 2 : ℕ)) : byHead hR p y = p k hk z := by
  obtain rfl : k = (y 1 : ℕ) % 16 := by omega
  have hy : (y 0 : ℕ) < 1 := (y 0).isLt
  have hz : (z 0 : ℕ) < 1 := (z 0).isLt
  unfold byHead
  refine congrArg _ ?_
  funext a
  fin_cases a
  · apply Fin.ext; show (y 0 : ℕ) = (z 0 : ℕ); omega
  · apply Fin.ext; show (y 1 : ℕ) / 16 = (z 1 : ℕ); omega
  · apply Fin.ext; exact h2

/-- The rows of head `k`. -/
def rowRect (hR : R = 16 * T) (hT : 0 < T) (k : ℕ) (hk : k < 16) : Rect (Rows R) :=
  ⟨⟨![0, k, 0], (Head T).size, ![1, 16, 1], by
    intro a; fin_cases a
    · exact Or.inr (show 0 + 1 * (1 - 1) < 1 by norm_num)
    · exact Or.inr (show k + 16 * (T - 1) < R by omega)
    · exact Or.inr (show 0 + 1 * (128 - 1) < 128 by norm_num)⟩, by
    intro a; fin_cases a
    · exact Nat.one_pos
    · exact (show 0 < 16 by norm_num)
    · exact Nat.one_pos⟩

theorem mem_rowRect (hR : R = 16 * T) (hT : 0 < T) (k : ℕ) (hk : k < 16) (y : (Rows R).Idx) (h : (y 1 : ℕ) % 16 = k) : y ∈ (rowRect hR hT k hk).set := by
  have hy : (y 0 : ℕ) < 1 := (y 0).isLt
  have hr : (y 1 : ℕ) < R := (y 1).isLt
  rw [LoadRect.mem_set]
  intro a
  match a with
  | ⟨0, _⟩ => exact ⟨0, Nat.one_pos, show (y 0 : ℕ) = 0 + 1 * 0 by omega⟩
  | ⟨1, _⟩ => exact ⟨(y 1 : ℕ) / 16, show (y 1 : ℕ) / 16 < T by omega, show (y 1 : ℕ) = k + 16 * ((y 1 : ℕ) / 16) by omega⟩
  | ⟨2, _⟩ => exact ⟨(y 2 : ℕ), (y 2).isLt, show (y 2 : ℕ) = 0 + 1 * (y 2 : ℕ) by omega⟩

/-- Sixteen stores, one of each head's rows, the last head's first. -/
def rowPieces (hR : R = 16 * T) (hT : 0 < T) (p : (k : ℕ) → k < 16 → Vec F (Head T) e) : List (View.Piece (Elt F) (Rows R) e) :=
  [⟨rowRect hR hT 15 (by decide), p 15 (by decide)⟩, ⟨rowRect hR hT 14 (by decide), p 14 (by decide)⟩, ⟨rowRect hR hT 13 (by decide), p 13 (by decide)⟩, ⟨rowRect hR hT 12 (by decide), p 12 (by decide)⟩, ⟨rowRect hR hT 11 (by decide), p 11 (by decide)⟩, ⟨rowRect hR hT 10 (by decide), p 10 (by decide)⟩, ⟨rowRect hR hT 9 (by decide), p 9 (by decide)⟩, ⟨rowRect hR hT 8 (by decide), p 8 (by decide)⟩, ⟨rowRect hR hT 7 (by decide), p 7 (by decide)⟩, ⟨rowRect hR hT 6 (by decide), p 6 (by decide)⟩, ⟨rowRect hR hT 5 (by decide), p 5 (by decide)⟩, ⟨rowRect hR hT 4 (by decide), p 4 (by decide)⟩, ⟨rowRect hR hT 3 (by decide), p 3 (by decide)⟩, ⟨rowRect hR hT 2 (by decide), p 2 (by decide)⟩, ⟨rowRect hR hT 1 (by decide), p 1 (by decide)⟩, ⟨rowRect hR hT 0 (by decide), p 0 (by decide)⟩]

/-- They leave the sixteen heads. -/
theorem read_byHead {sig : RefSig} {κ : Kind} {sp : Space} (hR : R = 16 * T) (hT : 0 < T) (v : View sig κ sp (Rows R) e) (f : v.ty.Contents (Elt F)) (p : (k : ℕ) → k < 16 → Vec F (Head T) e) :
    v.read (Elt F) (v.writes (Elt F) f (rowPieces hR hT p)) = byHead hR p := by
  funext y
  have hc : ∃ q ∈ rowPieces hR hT p, y ∈ q.1.set := by
    have hk : (y 1 : ℕ) % 16 < 16 := Nat.mod_lt _ (by norm_num)
    generalize hm : (y 1 : ℕ) % 16 = k at hk
    interval_cases k
    · exact ⟨_, List.getElem_mem (l := rowPieces hR hT p) (show 15 < 16 by norm_num), mem_rowRect hR hT 0 (by decide) y hm⟩
    · exact ⟨_, List.getElem_mem (l := rowPieces hR hT p) (show 14 < 16 by norm_num), mem_rowRect hR hT 1 (by decide) y hm⟩
    · exact ⟨_, List.getElem_mem (l := rowPieces hR hT p) (show 13 < 16 by norm_num), mem_rowRect hR hT 2 (by decide) y hm⟩
    · exact ⟨_, List.getElem_mem (l := rowPieces hR hT p) (show 12 < 16 by norm_num), mem_rowRect hR hT 3 (by decide) y hm⟩
    · exact ⟨_, List.getElem_mem (l := rowPieces hR hT p) (show 11 < 16 by norm_num), mem_rowRect hR hT 4 (by decide) y hm⟩
    · exact ⟨_, List.getElem_mem (l := rowPieces hR hT p) (show 10 < 16 by norm_num), mem_rowRect hR hT 5 (by decide) y hm⟩
    · exact ⟨_, List.getElem_mem (l := rowPieces hR hT p) (show 9 < 16 by norm_num), mem_rowRect hR hT 6 (by decide) y hm⟩
    · exact ⟨_, List.getElem_mem (l := rowPieces hR hT p) (show 8 < 16 by norm_num), mem_rowRect hR hT 7 (by decide) y hm⟩
    · exact ⟨_, List.getElem_mem (l := rowPieces hR hT p) (show 7 < 16 by norm_num), mem_rowRect hR hT 8 (by decide) y hm⟩
    · exact ⟨_, List.getElem_mem (l := rowPieces hR hT p) (show 6 < 16 by norm_num), mem_rowRect hR hT 9 (by decide) y hm⟩
    · exact ⟨_, List.getElem_mem (l := rowPieces hR hT p) (show 5 < 16 by norm_num), mem_rowRect hR hT 10 (by decide) y hm⟩
    · exact ⟨_, List.getElem_mem (l := rowPieces hR hT p) (show 4 < 16 by norm_num), mem_rowRect hR hT 11 (by decide) y hm⟩
    · exact ⟨_, List.getElem_mem (l := rowPieces hR hT p) (show 3 < 16 by norm_num), mem_rowRect hR hT 12 (by decide) y hm⟩
    · exact ⟨_, List.getElem_mem (l := rowPieces hR hT p) (show 2 < 16 by norm_num), mem_rowRect hR hT 13 (by decide) y hm⟩
    · exact ⟨_, List.getElem_mem (l := rowPieces hR hT p) (show 1 < 16 by norm_num), mem_rowRect hR hT 14 (by decide) y hm⟩
    · exact ⟨_, List.getElem_mem (l := rowPieces hR hT p) (show 0 < 16 by norm_num), mem_rowRect hR hT 15 (by decide) y hm⟩
  refine (View.read_writes_apply_eq_canon _ _ y _ hc).trans (View.canon_apply_of_pieces (byHead hR p) _ ?_ y hc)
  have h : ∀ (k : ℕ) (hk : k < 16) (z : (Head T).Idx), p k hk z = byHead hR p ((rowRect hR hT k hk).emb z) := fun k hk z =>
    (byHead_at hR p k hk _ z rfl (show 0 + 1 * (z 2 : ℕ) = (z 2 : ℕ) by omega)).symm
  unfold rowPieces
  simp only [List.forall_mem_cons]
  exact ⟨h 15 (by decide), h 14 (by decide), h 13 (by decide), h 12 (by decide), h 11 (by decide), h 10 (by decide), h 9 (by decide), h 8 (by decide), h 7 (by decide), h 6 (by decide), h 5 (by decide), h 4 (by decide), h 3 (by decide), h 2 (by decide), h 1 (by decide), h 0 (by decide), fun q hq => absurd hq List.not_mem_nil⟩

end Cert.Heads

end
-- ==== Proof.KvHeads.RunIdeal.lean ====
/-
  The keys and values of the prompt rows, one grid point at a time: what the body leaves in its buffers.

  The body works through a tile of 256 rows in sixteen heads of 128 columns. A head's keys are normed and scaled
  with the gain; keys and values are stored rounded, side by side, and unrounded, one row per head: row `r` of head
  `k` goes to row `16 r + k`. The printed body cuts this differently for each head; here it is one function of the
  head's number.
-/
module

public import proofs.«01_k».proof.Proof.Gen.Kernel8Ideal.Frame
public import proofs.«01_k».proof.Proof.Gen.Kernel8Ideal.Skeleton
public import proofs.«01_k».proof.Proof.KvHeads.Heads
public import Idealize.ShloMosaic.Lib.Claim
public import Idealize.ShloMosaic.Lib.Pipeline.ValueKit
public import Idealize.ShloMosaic.Lib.Pointwise

@[expose] public section

set_option maxRecDepth 16384

noncomputable section

namespace Cert.Kernel8Ideal.Body

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Head `k` of a tile. -/
def cols (x : Vec F S1x256x2048 .f32) (k : ℕ) (hk : k < 16) : Vec F S1x256x128 .f32 :=
  View.ld x (Rect.unit (s := S1x256x2048) ![0, 0, 128 * k] S1x256x128.size (by
    intro a; fin_cases a
    · show 0 + 1 ≤ 1; omega
    · show 0 + 256 ≤ 256; omega
    · show 128 * k + 128 ≤ 2048; omega))

/-- The normed keys of a tile, rounded, the heads side by side. -/
def keysFlat (g : Vec F S1x1x128 .f32) (x : Vec F S1x256x2048 .f32) : Vec F S256x2048 .bf16 := Heads.flat (T := 256) (e := .bf16) fun k hk => k0_pay6 g (cols x k hk)

/-- The values of a tile, rounded, the heads side by side. -/
def valuesFlat (x : Vec F S1x256x2048 .f32) : Vec F S256x2048 .bf16 := Heads.flat (T := 256) (e := .bf16) fun k hk => k0_pay7 (cols x k hk)

/-- The normed keys of a tile, a row's heads one below the other. -/
def keysByHead (g : Vec F S1x1x128 .f32) (x : Vec F S1x256x2048 .f32) : Vec F S1x4096x128 .f32 := Heads.byHead (T := 256) (R := 4096) (e := .f32) rfl fun k hk => k0_pay8 g (cols x k hk)

/-- The values of a tile, a row's heads one below the other. -/
def valuesByHead (x : Vec F S1x256x2048 .f32) : Vec F S1x4096x128 .f32 := Heads.byHead (T := 256) (R := 4096) (e := .f32) rfl fun k hk => k0_pay9 (cols x k hk)

set_option maxHeartbeats 16000000 in
/-- The body: every buffer is written whole, with the tile's keys and values. -/
theorem tileRun (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x1x128 .f32) (harg3 : arg3.IsWhole) (arg4 : Memref sig .tc .hbm S2x131072x128 .f32) (harg4 : arg4.IsWhole) (arg5 : Memref sig .tc .hbm S2x131072x128 .f32) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S1x4096x128 .f32) (harg8 : arg8.IsWhole) (arg9 : Memref sig .tc .vmem S1x4096x128 .f32) (harg9 : arg9.IsWhole)
    (x0 x1 : Vec F S1x256x2048 .f32) (x2 : Vec F S1x1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg6 fullShare (keysFlat x2 x0) ∗ owns (c : Thread nD τ) arg7 fullShare (valuesFlat x1) ∗ owns (c : Thread nD τ) arg8 fullShare (keysByHead x2 x0) ∗ owns (c : Thread nD τ) arg9 fullShare (valuesByHead x1)) -∗ K ⟨⟩))
      ⊢ wp frame (wpE (defs₀ (F := F)) Variants.none c none) E (cc0_kv_heads i arg1 harg1 arg2 harg2 arg3 harg3 arg4 harg4 arg5 harg5 arg6 harg6 arg7 harg7 arg8 harg8 arg9 harg9) K := by
  simp only [cc0_kv_heads_eq_skeleton]; unfold cc0_kv_heads_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro; frame_out; exact Heads.read_flat (T := 256) (e := .bf16) _ _ (fun k hk => k0_pay6 x2 (cols x0 k hk))
  isplitl [H4]
  · iexists _; isplitr; swap; · iexact H4
    ipureintro; frame_out; exact Heads.read_flat (T := 256) (e := .bf16) _ _ (fun k hk => k0_pay7 (cols x1 k hk))
  isplitl [H5]
  · iexists _; isplitr; swap; · iexact H5
    ipureintro; frame_out; exact Heads.read_byHead (T := 256) (R := 4096) (e := .f32) rfl (by decide) _ _ (fun k hk => k0_pay8 x2 (cols x0 k hk))
  iexists _; isplitr; swap; · iexact H6
  ipureintro; frame_out; exact Heads.read_byHead (T := 256) (R := 4096) (e := .f32) rfl (by decide) _ _ (fun k hk => k0_pay9 (cols x1 k hk))

variable (m : (ℓ : Loc nD τ sig) → Buf (Elt F) ℓ) (ρ : Dev nD → PrngReg)

/-- Window 0's buffer at a point. -/
abbrev ms0_0 (t : Fin cfg0.N) := win0_0.stage (cfg0.slots t 0)
/-- Window 1's buffer at a point. -/
abbrev ms0_1 (t : Fin cfg0.N) := win0_1.stage (cfg0.slots t 1)
/-- Window 2's buffer at a point. -/
abbrev ms0_2 (t : Fin cfg0.N) := win0_2.stage (cfg0.slots t 2)
/-- Window 3's buffer at a point. -/
abbrev ms0_3 (t : Fin cfg0.N) := win0_3.stage (cfg0.slots t 3)
/-- Window 4's buffer at a point. -/
abbrev ms0_4 (t : Fin cfg0.N) := win0_4.stage (cfg0.slots t 4)
/-- Window 5's buffer at a point. -/
abbrev ms0_5 (t : Fin cfg0.N) := win0_5.stage (cfg0.slots t 5)
/-- Window 6's buffer at a point. -/
abbrev ms0_6 (t : Fin cfg0.N) := win0_6.stage (cfg0.slots t 6)

/-- The run's data: the arrays as found, and what each point leaves in each buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => keysFlat (iblk m c 2 t) (iblk m c 0 t)
    | ⟨4, _⟩ => valuesFlat (iblk m c 1 t)
    | ⟨5, _⟩ => keysByHead (iblk m c 2 t) (iblk m c 0 t)
    | ⟨6, _⟩ => valuesByHead (iblk m c 1 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = keysFlat (iblk m c 2 t) (iblk m c 0 t) := by dsimp only [dats]
theorem after0_4 (c : Dev nD) (t : Fin cfg0.N) : (dats m 0 c).after 4 t = valuesFlat (iblk m c 1 t) := by dsimp only [dats]
theorem after0_5 (c : Dev nD) (t : Fin cfg0.N) : (dats m 0 c).after 5 t = keysByHead (iblk m c 2 t) (iblk m c 0 t) := by dsimp only [dats]
theorem after0_6 (c : Dev nD) (t : Fin cfg0.N) : (dats m 0 c).after 6 t = valuesByHead (iblk m c 1 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HP, Ho, ⟨%d0, H0⟩, ⟨%d1, H1⟩, ⟨%d2, H2⟩, ⟨%d3, H3⟩, ⟨%d4, H4⟩, ⟨%d5, H5⟩, ⟨%d6, H6⟩⟩
  iapply (tileRun c (grid0.coords t)  _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body is the printed one. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  exact .rfl

set_option backward.isDefEq.respectTransparency.types false in
/-- The launch: every fair execution ends with the arrays at what the run's data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- Every fair execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel8Ideal.Body

end
-- ==== Proof.KvHeads.Run.lean ====
/-
  The prompt rows' keys and values, head by head: the kernel's frame. Idealizing replaces nothing in it, so that it and its idealization are one
  program, and the frame is the idealization's (RunIdeal.lean).
-/
module

public import proofs.«01_k».proof.Proof.Gen.Kernel8.Frame
public import proofs.«01_k».proof.Proof.KvHeads.RunIdeal

@[expose] public section

noncomputable section

namespace Cert.Kernel8.Body

open Idealize.ShloMosaic Idealize.ShloMosaic.TcCoe Idealize.SL.Sem
open Cert.Kernel8 Cert.Kernel8.Gen

variable {F : FTy → Type} [FloatOps F]

/-- The two tables of bodies are one. -/
theorem defs₀_eq : Cert.Kernel8.defs₀ (F := F) = Cert.Kernel8Ideal.defs₀ := by
  unfold Cert.Kernel8.defs₀ Cert.Kernel8Ideal.defs₀
  refine congrArg Defs.onTc (funext fun l => ?_)
  match l with
  | 0 => rfl
  | ⟨_ + 1, h⟩ => exact absurd h (Nat.not_lt.2 (Nat.le_add_left _ _))

theorem defs_eq : Cert.Kernel8.defs (F := F) = Cert.Kernel8Ideal.defs := congrArg (Pipeline.defs pcfgs) defs₀_eq

/-- Every fair execution ends with the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.Kernel8Ideal.Body.frame m ρ

end Cert.Kernel8.Body

end
-- ==== Proof.KvHeads.Value.lean ====
/- The prompt rows' keys and values, head by head: what the four result arrays hold. -/
module

public import proofs.«01_k».proof.Proof.KvHeads.RunIdeal
public import Idealize.ShloMosaic.Lib.Pipeline.ValueKit

@[expose] public section

set_option maxRecDepth 16384

noncomputable section

namespace Cert.Kernel8Ideal.Body

open Idealize.ShloMosaic Idealize.ShloMosaic.TcCoe Idealize.SL.Sem
open Idealize.ShloMosaic.Pipeline (Dat)
open Cert.Kernel8Ideal Cert.Kernel8Ideal.Gen

/-- Column `q` of head `k`. -/
def col (k : Fin 16) (q : Fin 128) : Fin 2048 := ⟨k.val * 128 + q.val, by omega⟩

/-- A row over the root of the mean of its squares, times a gain. -/
def normed (x g : Fin 128 → EReal) (q : Fin 128) : EReal :=
  x q * Ideal.rsqrt (Ideal.div (∑ j : Fin 128, x j * x j) (Ideal.ofBits .f32 0x43000000#32) + Ideal.ofBits .f32 0x358637BD#32) * g q

/-- The normed key of a row, at a column of a head. -/
def Key (X : FVec Ideal S3x8192x2048 .f32) (G : FVec Ideal S2x128 .f32) (r : Fin 8192) (k : Fin 16) (q : Fin 128) : EReal :=
  normed (fun j => X (ix3 1 r (col k j))) (fun j => G (ix2 1 j)) q

/-- The head of a column, and the column within it. -/
def hd (c : Fin 2048) : Fin 16 := ⟨c.val / 128, by omega⟩
def lane (c : Fin 2048) : Fin 128 := ⟨c.val % 128, by omega⟩

theorem col_hd (c : Fin 2048) : col (hd c) (lane c) = c := by
  apply Fin.ext; show c.val / 128 * 128 + c.val % 128 = c.val; omega

/-- The keys, the heads side by side. -/
def Keys (X : FVec Ideal S3x8192x2048 .f32) (G : FVec Ideal S2x128 .f32) : FVec Ideal S8192x2048 .bf16 := fun y => Key X G (y 0) (hd (y 1)) (lane (y 1))

/-- The values, the heads side by side. -/
def Values (X : FVec Ideal S3x8192x2048 .f32) : FVec Ideal S8192x2048 .bf16 := fun y => X (ix3 2 (y 0) (y 1))

/-- The row a stacked row belongs to, and its head. -/
def rowOf (r : Fin 131072) : Fin 8192 := ⟨r.val / 16, by omega⟩
def headOf (r : Fin 131072) : Fin 16 := ⟨r.val % 16, by omega⟩

/-- The earlier layer's keys, and below them this layer's, the heads of a row one below the other. -/
def KeyStack (X : FVec Ideal S3x8192x2048 .f32) (G : FVec Ideal S2x128 .f32) (A : FVec Ideal S2x131072x128 .f32) : FVec Ideal S2x131072x128 .f32 := fun y =>
  if (y 0).val = 1 then Key X G (rowOf (y 1)) (headOf (y 1)) (y 2) else A y

/-- The same of the values. -/
def ValueStack (X : FVec Ideal S3x8192x2048 .f32) (A : FVec Ideal S2x131072x128 .f32) : FVec Ideal S2x131072x128 .f32 := fun y =>
  if (y 0).val = 1 then X (ix3 2 (rowOf (y 1)) (col (headOf (y 1)) (y 2))) else A y

/-- A head of a tile. -/
theorem cols_at (x : FVec Ideal S1x256x2048 .f32) (k : ℕ) (hk : k < 16) (p : Fin 256) (q : Fin 128) :
    cols (F := Ideal) x k hk (ix3 0 p q) = x (ix3 0 p (col ⟨k, hk⟩ q)) := by
  unfold cols
  refine View.ld_unit_apply_of _ _ _ _ _ _ fun a => ?_
  fin_cases a
  · rfl
  · exact (Nat.zero_add _).symm
  · exact congrArg (· + q.val) (Nat.mul_comm k 128)

/-- One head's normed keys. -/
theorem pay4_at (g : FVec Ideal S1x1x128 .f32) (x : FVec Ideal S1x256x128 .f32) (p : Fin 256) (q : Fin 128) :
    (k0_pay4 (F := Ideal) g x) (ix2 p q) = normed (fun j => x (ix3 0 p j)) (fun j => g (ix3 0 0 j)) q := by
  pointwise [k0_pay4, k0_pay3, normed]

theorem pay6_at (g : FVec Ideal S1x1x128 .f32) (x : FVec Ideal S1x256x128 .f32) (p : Fin 256) (q : Fin 128) :
    (k0_pay6 (F := Ideal) g x) (ix2 p q) = normed (fun j => x (ix3 0 p j)) (fun j => g (ix3 0 0 j)) q := pay4_at g x p q
theorem pay7_at (x : FVec Ideal S1x256x128 .f32) (p : Fin 256) (q : Fin 128) :
    (k0_pay7 (F := Ideal) x) (ix2 p q) = x (ix3 0 p q) := by pointwise [k0_pay7, k0_pay5]
theorem pay8_at (g : FVec Ideal S1x1x128 .f32) (x : FVec Ideal S1x256x128 .f32) (i : Fin 1) (p : Fin 256) (q : Fin 128) :
    (k0_pay8 (F := Ideal) g x) (ix3 i p q) = normed (fun j => x (ix3 0 p j)) (fun j => g (ix3 0 0 j)) q := by
  refine Eq.trans ?_ (pay4_at g x p q)
  pointwise [k0_pay8]
theorem pay9_at (x : FVec Ideal S1x256x128 .f32) (i : Fin 1) (p : Fin 256) (q : Fin 128) :
    (k0_pay9 (F := Ideal) x) (ix3 i p q) = x (ix3 0 p q) := by
  obtain rfl : i = 0 := Subsingleton.elim _ _
  pointwise [k0_pay9, k0_pay5]

variable (m : (ℓ : Loc nD τ sig) → Buf (Elt Ideal) ℓ)

theorem idx : ∀ t : Fin cfg0.N, win0_0.index t = ![1, t.val, 0] ∧ win0_1.index t = ![2, t.val, 0] ∧ win0_2.index t = ![1, 0, 0]
    ∧ win0_3.index t = ![t.val, 0] ∧ win0_4.index t = ![t.val, 0] ∧ win0_5.index t = ![1, t.val, 0] ∧ win0_6.index t = ![1, t.val, 0] :=
  (by decide +kernel : ∀ t : Fin grid0.N, _)

theorem points : cfg0.N = 32 := N_0

/-- The row behind row `p` of a tile. -/
def row (t : Fin cfg0.N) (p : Fin 256) : Fin 8192 := ⟨256 * t.val + p.val, by have h := lt_of_lt_of_eq t.isLt points; omega⟩

theorem k_block (c : Dev nD) (t : Fin cfg0.N) (p : Fin 256) (q : Fin 2048) :
    (iblk m c 0 t : FVec Ideal S1x256x2048 .f32) (ix3 0 p q) = (m ((c : Thread nD τ).loc main_arg0) : FVec Ideal S3x8192x2048 .f32) (ix3 1 (row t p) q) := by
  blk_ext [iblk, V, idx t, row]

theorem v_block (c : Dev nD) (t : Fin cfg0.N) (p : Fin 256) (q : Fin 2048) :
    (iblk m c 1 t : FVec Ideal S1x256x2048 .f32) (ix3 0 p q) = (m ((c : Thread nD τ).loc main_arg0) : FVec Ideal S3x8192x2048 .f32) (ix3 2 (row t p) q) := by
  blk_ext [iblk, V, idx t, row]

theorem g_block (c : Dev nD) (t : Fin cfg0.N) (q : Fin 128) :
    (iblk m c 2 t : FVec Ideal S1x1x128 .f32) (ix3 0 0 q) = (m ((c : Thread nD τ).loc main_arg1) : FVec Ideal S2x128 .f32) (ix2 1 q) := by
  blk_ext! [iblk, V, idx t]

/-- A tile's key, over the arguments. -/
theorem key_block (c : Dev nD) (t : Fin cfg0.N) (p : Fin 256) (k : ℕ) (hk : k < 16) (q : Fin 128) :
    normed (fun j => cols (F := Ideal) (iblk m c 0 t) k hk (ix3 0 p j)) (fun j => (iblk m c 2 t : FVec Ideal S1x1x128 .f32) (ix3 0 0 j)) q
      = Key (m ((c : Thread nD τ).loc main_arg0)) (m ((c : Thread nD τ).loc main_arg1)) (row t p) ⟨k, hk⟩ q := by
  unfold Key
  congr 1
  · funext j; exact (cols_at _ k hk p j).trans (k_block m c t p _)
  · funext j; exact g_block m c t j

theorem value_block (c : Dev nD) (t : Fin cfg0.N) (p : Fin 256) (k : ℕ) (hk : k < 16) (q : Fin 128) :
    cols (F := Ideal) (iblk m c 1 t) k hk (ix3 0 p q) = (m ((c : Thread nD τ).loc main_arg0) : FVec Ideal S3x8192x2048 .f32) (ix3 2 (row t p) (col ⟨k, hk⟩ q)) :=
  (cols_at _ k hk p q).trans (v_block m c t p _)

/-- Writing back the tiles leaves the keys, -/
theorem keys_final (c : Dev nD) : (dats m 0 c).arrAt 3 cfg0.N = Keys (m ((c : Thread nD τ).loc main_arg0)) (m ((c : Thread nD τ).loc main_arg1)) := by
  refine (dats m 0 c).arrAt_eq_of_covers 3 _ (by decide +kernel) fun t _ y => ?_
  blk_simp
  rw [after0_3]
  have he : (win0_3.blk t).view.emb y = ix2 (row t (y 0)) (y 1) := by blk_ext [idx t, row]
  rw [he]
  unfold keysFlat Heads.flat
  exact (pay6_at _ _ _ _).trans (key_block m c t _ _ _ _)

/-- the values, -/
theorem values_final (c : Dev nD) : (dats m 0 c).arrAt 4 cfg0.N = Values (m ((c : Thread nD τ).loc main_arg0)) := by
  refine (dats m 0 c).arrAt_eq_of_covers 4 _ (by decide +kernel) fun t _ y => ?_
  blk_simp
  rw [after0_4]
  have he : (win0_4.blk t).view.emb y = ix2 (row t (y 0)) (y 1) := by blk_ext [idx t, row]
  rw [he]
  unfold valuesFlat Heads.flat
  refine (pay7_at _ _ _).trans ((value_block m c t _ _ _ _).trans ?_)
  exact congrArg (fun q : Fin 2048 => (m ((c : Thread nD τ).loc main_arg0) : FVec Ideal S3x8192x2048 .f32) (ix3 2 (row t (y 0)) q)) (col_hd (y 1))

/-- The stacked row behind row `p` of a tile of them; it belongs to the tile's row `p / 16`. -/
def row' (t : Fin cfg0.N) (p : Fin 4096) : Fin 131072 := ⟨4096 * t.val + p.val, by have h := lt_of_lt_of_eq t.isLt points; omega⟩

theorem rowOf_row' (t : Fin cfg0.N) (p : Fin 4096) : rowOf (row' t p) = row t (⟨p.val / 16, by omega⟩ : Fin 256) := by
  apply Fin.ext; show (4096 * t.val + p.val) / 16 = 256 * t.val + p.val / 16; omega

theorem headOf_row' (t : Fin cfg0.N) (p : Fin 4096) : headOf (row' t p) = (⟨p.val % 16, by omega⟩ : Fin 16) := by
  apply Fin.ext; show (4096 * t.val + p.val) % 16 = p.val % 16; omega

theorem V_main_v1_2 (c : Dev nD) : V m c main_v1_2 = m ((c : Thread nD τ).loc main_arg2) := by unfold V; after_results; try rfl
theorem V_main_v1_3 (c : Dev nD) : V m c main_v1_3 = m ((c : Thread nD τ).loc main_arg3) := by unfold V; after_results; try rfl

/-- and the two stacks. -/
theorem keyStack_final (c : Dev nD) : (dats m 0 c).arrAt 5 cfg0.N
    = KeyStack (m ((c : Thread nD τ).loc main_arg0)) (m ((c : Thread nD τ).loc main_arg1)) (m ((c : Thread nD τ).loc main_arg2)) := by
  refine ((dats m 0 c).arrAt_eq_of_coversWhere 5 (KeyStack (m ((c : Thread nD τ).loc main_arg0)) (m ((c : Thread nD τ).loc main_arg1)) (m ((c : Thread nD τ).loc main_arg2)))
    (P := fun y : S2x131072x128.Idx => (y 0).val = 1) (fun β => β 0 = 1) (by decide +kernel) (fun t hf y => ?_) (fun j => by blk_simp [Pipeline.Window.cell_apply]; omega)).trans ?_
  · blk_simp
    rw [after0_5]
    have he : (win0_5.blk t).view.emb y = ix3 (1 : Fin 2) (row' t (y 1)) (y 2) := by blk_ext [idx t, row']
    rw [he]
    unfold keysByHead Heads.byHead KeyStack
    refine (pay8_at _ _ _ _ _).trans ((key_block m c t _ _ _ _).trans ?_)
    refine Eq.trans ?_ (if_pos rfl).symm
    exact (congrArg₂ (fun r k => Key (m ((c : Thread nD τ).loc main_arg0)) (m ((c : Thread nD τ).loc main_arg1)) r k (y 2)) (rowOf_row' t (y 1)) (headOf_row' t (y 1))).symm
  · funext y
    unfold KeyStack
    by_cases hy : (y 0).val = 1
    · rw [if_pos hy]
    · rw [if_neg hy, if_neg hy, A_eq m c 5]; exact congrFun (V_main_v1_2 m c) y

theorem valueStack_final (c : Dev nD) : (dats m 0 c).arrAt 6 cfg0.N
    = ValueStack (m ((c : Thread nD τ).loc main_arg0)) (m ((c : Thread nD τ).loc main_arg3)) := by
  refine ((dats m 0 c).arrAt_eq_of_coversWhere 6 (ValueStack (m ((c : Thread nD τ).loc main_arg0)) (m ((c : Thread nD τ).loc main_arg3)))
    (P := fun y : S2x131072x128.Idx => (y 0).val = 1) (fun β => β 0 = 1) (by decide +kernel) (fun t hf y => ?_) (fun j => by blk_simp [Pipeline.Window.cell_apply]; omega)).trans ?_
  · blk_simp
    rw [after0_6]
    have he : (win0_6.blk t).view.emb y = ix3 (1 : Fin 2) (row' t (y 1)) (y 2) := by blk_ext [idx t, row']
    rw [he]
    unfold valuesByHead Heads.byHead ValueStack
    refine (pay9_at _ _ _ _).trans ((value_block m c t _ _ _ _).trans ?_)
    refine Eq.trans ?_ (if_pos rfl).symm
    exact (congrArg₂ (fun r k => (m ((c : Thread nD τ).loc main_arg0) : FVec Ideal S3x8192x2048 .f32) (ix3 2 r (col k (y 2)))) (rowOf_row' t (y 1)) (headOf_row' t (y 1))).symm
  · funext y
    unfold ValueStack
    by_cases hy : (y 0).val = 1
    · rw [if_pos hy]
    · rw [if_neg hy, if_neg hy, A_eq m c 6]; exact congrFun (V_main_v1_3 m c) y

end Cert.Kernel8Ideal.Body

end
-- ==== Proof.KvHeads.Claim.lean ====
/- The prompt rows' keys and values: the kernel and its reference leave the same arrays. -/
module

public import proofs.«01_k».proof.Defs
public import proofs.«01_k».proof.Proof.KvHeads.Value
public import proofs.«01_k».proof.Proof.Gen.Reference8Ideal.Run

@[expose] public section

set_option maxRecDepth 16384

noncomputable section

namespace Cert.Reference8Ideal.Value

open Idealize.ShloMosaic Idealize.ShloMosaic.TcCoe Idealize.SL.Sem Idealize.ShloMosaic.StableHlo
open Cert.Reference8Ideal Cert.Reference8Ideal.Gen

variable (X : FVec Ideal S3x8192x2048 .f32) (G : FVec Ideal S2x128 .f32) (A B : FVec Ideal S2x131072x128 .f32)

/-- The reference's normed keys. -/
def keys : FVec Ideal S8192x16x128 .f32 :=
  (mulf (mulf (shapeCast _ (shapeCast _ (extractStridedSlice S1x8192x2048 ![1, 0, 0] X slices_S3x8192x2048_S1x8192x2048_1_0_0) shapeCasts_S1x8192x2048_S8192x2048) shapeCasts_S8192x2048_S8192x16x128) (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf (shapeCast _ (shapeCast _ (extractStridedSlice S1x8192x2048 ![1, 0, 0] X slices_S3x8192x2048_S1x8192x2048_1_0_0) shapeCasts_S1x8192x2048_S8192x2048) shapeCasts_S8192x2048_S8192x16x128) (shapeCast _ (shapeCast _ (extractStridedSlice S1x8192x2048 ![1, 0, 0] X slices_S3x8192x2048_S1x8192x2048_1_0_0) shapeCasts_S1x8192x2048_S8192x2048) shapeCasts_S8192x2048_S8192x16x128)) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) (broadcastInDim S8192x16x128 ![0, 1, 2] bcast_S1x1x128_S8192x16x128_0_1_2 (broadcastInDim S1x1x128 ![2] bcast_S128_S1x1x128_2 (shapeCast _ (extractStridedSlice S1x128 ![1, 0] G slices_S2x128_S1x128_1_0) shapeCasts_S1x128_S128))))

theorem keys_at (r : Fin 8192) (k : Fin 16) (q : Fin 128) : keys X G (ix3 r k q) = Cert.Kernel8Ideal.Body.Key X G r k q := by
  unfold keys
  pointwise
  rfl

theorem ref_keys : (truncf .bf16 (shapeCast _ (keys X G) shapeCasts_S8192x16x128_S8192x2048) bitsLt_bf16_f32 : FVec Ideal S8192x2048 .bf16) = Cert.Kernel8Ideal.Body.Keys X G := by
  funext y
  pointwise
  exact keys_at X G _ _ _

theorem ref_values : (truncf .bf16 (shapeCast _ (extractStridedSlice S1x8192x2048 ![2, 0, 0] X slices_S3x8192x2048_S1x8192x2048_2_0_0) shapeCasts_S1x8192x2048_S8192x2048) bitsLt_bf16_f32 : FVec Ideal S8192x2048 .bf16) = Cert.Kernel8Ideal.Body.Values X := by
  funext y
  pointwise
  rfl

/-- An index of the first layer. -/
theorem first_layer (y : S2x131072x128.Idx) (h : (y 0).val < 1) : (ix3 0 (y 1) (y 2) : S2x131072x128.Idx) = y := by
  funext a
  fin_cases a
  · apply Fin.ext; show 0 = (y 0).val; omega
  · rfl
  · rfl

theorem ref_keyStack : (concatenate S2x131072x128 0 [⟨S1x131072x128, (broadcastInDim S1x131072x128 ![1, 2] bcast_S131072x128_S1x131072x128_1_2 (shapeCast _ (extractStridedSlice S1x131072x128 ![0, 0, 0] A slices_S2x131072x128_S1x131072x128_0_0_0) shapeCasts_S1x131072x128_S131072x128))⟩, ⟨S1x131072x128, (broadcastInDim S1x131072x128 ![1, 2] bcast_S131072x128_S1x131072x128_1_2 (shapeCast _ (keys X G) shapeCasts_S8192x16x128_S131072x128))⟩] concatenates_S1x131072x128_S1x131072x128_S2x131072x128_d0 : FVec Ideal S2x131072x128 .f32) = Cert.Kernel8Ideal.Body.KeyStack X G A := by
  funext y
  have h2 : (y 0).val < 2 := (y 0).isLt
  pointwise
  by_cases h : (y 0).val < 1
  · rw [dif_pos h]; exact (congrArg A (first_layer y h)).trans (if_neg (by omega)).symm
  · rw [dif_neg h]; exact (keys_at X G _ _ _).trans (if_pos (by omega)).symm

theorem ref_valueStack : (concatenate S2x131072x128 0 [⟨S1x131072x128, (broadcastInDim S1x131072x128 ![1, 2] bcast_S131072x128_S1x131072x128_1_2 (shapeCast _ (extractStridedSlice S1x131072x128 ![0, 0, 0] B slices_S2x131072x128_S1x131072x128_0_0_0) shapeCasts_S1x131072x128_S131072x128))⟩, ⟨S1x131072x128, (broadcastInDim S1x131072x128 ![1, 2] bcast_S131072x128_S1x131072x128_1_2 (shapeCast _ (shapeCast _ (extractStridedSlice S1x8192x2048 ![2, 0, 0] X slices_S3x8192x2048_S1x8192x2048_2_0_0) shapeCasts_S1x8192x2048_S8192x2048) shapeCasts_S8192x2048_S131072x128))⟩] concatenates_S1x131072x128_S1x131072x128_S2x131072x128_d0 : FVec Ideal S2x131072x128 .f32) = Cert.Kernel8Ideal.Body.ValueStack X B := by
  funext y
  have h2 : (y 0).val < 2 := (y 0).isLt
  pointwise
  by_cases h : (y 0).val < 1
  · rw [dif_pos h]; exact (congrArg B (first_layer y h)).trans (if_neg (by omega)).symm
  · rw [dif_neg h]; exact (if_pos (by omega)).symm

end Cert.Reference8Ideal.Value

namespace Cert.Kernel8Ideal.Body

open Idealize.ShloMosaic Idealize.ShloMosaic.TcCoe Idealize.SL.Sem
open Idealize.ShloMosaic.Pipeline (Dat)
open Cert.Kernel8Ideal Cert.Kernel8Ideal.Gen

/-- The kernel's run, its results named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1_0) = Keys (m ((c.tc : Thread nD τ).loc main_arg0)) (m ((c.tc : Thread nD τ).loc main_arg1))
      ∧ r.2.mem ((c.tc : Thread nD τ).loc main_v1_1) = Values (m ((c.tc : Thread nD τ).loc main_arg0))
      ∧ r.2.mem ((c.tc : Thread nD τ).loc main_v1_2) = KeyStack (m ((c.tc : Thread nD τ).loc main_arg0)) (m ((c.tc : Thread nD τ).loc main_arg1)) (m ((c.tc : Thread nD τ).loc main_arg2))
      ∧ r.2.mem ((c.tc : Thread nD τ).loc main_v1_3) = ValueStack (m ((c.tc : Thread nD τ).loc main_arg0)) (m ((c.tc : Thread nD τ).loc main_arg3))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))) :=
  (θ_run defs _ _).mono (fun r h c => ⟨((h.1 c).1 3).trans (keys_final m c), ((h.1 c).1 4).trans (values_final m c),
      ((h.1 c).1 5).trans (keyStack_final m c), ((h.1 c).1 6).trans (valueStack_final m c), h.2 c⟩)
    (θ_run_and (run_main m ρ) (frame_of m ρ (dats m) (A_eq m) (run_main m ρ)))

end Cert.Kernel8Ideal.Body

open Idealize.ShloMosaic Idealize.ShloMosaic.TcCoe Idealize.SL.Sem

/-- The call computes its reference. -/
theorem Cert.Kernel8Ideal.Body.algebraic : Cert.algebraic_Kernel8Ideal_Reference8Ideal (hKernel8Ideal := Cert.Kernel8Ideal.Gen.facts)
    (hReference8Ideal := Cert.Reference8Ideal.Gen.facts) := by
  intro m g m' g' _ hag
  refine ⟨fun c => Cert.Kernel8Ideal.Body.Keys (m (c.tc.loc Cert.Kernel8Ideal.main_arg0)) (m (c.tc.loc Cert.Kernel8Ideal.main_arg1)), fun c => Cert.Kernel8Ideal.Body.Values (m (c.tc.loc Cert.Kernel8Ideal.main_arg0)),
    fun c => Cert.Kernel8Ideal.Body.KeyStack (m (c.tc.loc Cert.Kernel8Ideal.main_arg0)) (m (c.tc.loc Cert.Kernel8Ideal.main_arg1)) (m (c.tc.loc Cert.Kernel8Ideal.main_arg2)), fun c => Cert.Kernel8Ideal.Body.ValueStack (m (c.tc.loc Cert.Kernel8Ideal.main_arg0)) (m (c.tc.loc Cert.Kernel8Ideal.main_arg3)),
    Cert.Kernel8Ideal.Body.run_values m g, ?_⟩
  refine (θ_run Cert.Reference8Ideal.defs _ _).mono (fun r hr c => ?_) (Cert.Reference8Ideal.Value.run m' g')
  obtain ⟨h0, h1, h2, h3⟩ := hag c
  obtain ⟨ha, hb, hc, hd, hk⟩ := hr c
  refine ⟨ha.trans ?_, hb.trans ?_, hc.trans ?_, hd.trans ?_, hk⟩
  · refine (Cert.Reference8Ideal.Value.ref_keys _ _).trans ?_; rw [h0, h1]
  · refine (Cert.Reference8Ideal.Value.ref_values _).trans ?_; rw [h0]
  · refine (Cert.Reference8Ideal.Value.ref_keyStack _ _ _).trans ?_; rw [h0, h1, h2]
  · refine (Cert.Reference8Ideal.Value.ref_valueStack _ _).trans ?_; rw [h0, h3]

end
-- ==== Proof.KvSample.RunIdeal.lean ====
/-
  The keys and values of the sample rows, one grid point at a time: what the body leaves in its buffers.

  The body works through a tile of 32 rows in sixteen heads of 128 columns. A head's keys are normed and scaled
  with the gain; keys and values are stored rounded, side by side, and unrounded, one row per head: row `r` of head
  `k` goes to row `16 r + k`. The printed body cuts this differently for each head; here it is one function of the
  head's number.
-/
module

public import proofs.«01_k».proof.Proof.Gen.Kernel9Ideal.Frame
public import proofs.«01_k».proof.Proof.Gen.Kernel9Ideal.Skeleton
public import proofs.«01_k».proof.Proof.KvHeads.Heads
public import Idealize.ShloMosaic.Lib.Claim
public import Idealize.ShloMosaic.Lib.Pipeline.ValueKit
public import Idealize.ShloMosaic.Lib.Pointwise

@[expose] public section

set_option maxRecDepth 16384

noncomputable section

namespace Cert.Kernel9Ideal.Body

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Head `k` of a tile. -/
def cols (x : Vec F S1x32x2048 .f32) (k : ℕ) (hk : k < 16) : Vec F S1x32x128 .f32 :=
  View.ld x (Rect.unit (s := S1x32x2048) ![0, 0, 128 * k] S1x32x128.size (by
    intro a; fin_cases a
    · show 0 + 1 ≤ 1; omega
    · show 0 + 32 ≤ 32; omega
    · show 128 * k + 128 ≤ 2048; omega))

/-- The normed keys of a tile, rounded, the heads side by side. -/
def keysFlat (g : Vec F S1x1x128 .f32) (x : Vec F S1x32x2048 .f32) : Vec F S32x2048 .bf16 := Heads.flat (T := 32) (e := .bf16) fun k hk => k0_pay6 g (cols x k hk)

/-- The values of a tile, rounded, the heads side by side. -/
def valuesFlat (x : Vec F S1x32x2048 .f32) : Vec F S32x2048 .bf16 := Heads.flat (T := 32) (e := .bf16) fun k hk => k0_pay7 (cols x k hk)

/-- The normed keys of a tile, a row's heads one below the other. -/
def keysByHead (g : Vec F S1x1x128 .f32) (x : Vec F S1x32x2048 .f32) : Vec F S1x512x128 .f32 := Heads.byHead (T := 32) (R := 512) (e := .f32) rfl fun k hk => k0_pay8 g (cols x k hk)

/-- The values of a tile, a row's heads one below the other. -/
def valuesByHead (x : Vec F S1x32x2048 .f32) : Vec F S1x512x128 .f32 := Heads.byHead (T := 32) (R := 512) (e := .f32) rfl fun k hk => k0_pay9 (cols x k hk)

set_option maxHeartbeats 16000000 in
/-- The body: every buffer is written whole, with the tile's keys and values. -/
theorem tileRun (c : Dev nD) (i : grid0.Coords) (arg1 : Memref sig .tc .vmem S1x32x2048 .f32) (harg1 : arg1.IsWhole) (arg2 : Memref sig .tc .vmem S1x32x2048 .f32) (harg2 : arg2.IsWhole) (arg3 : Memref sig .tc .vmem S1x1x128 .f32) (harg3 : arg3.IsWhole) (arg4 : Memref sig .tc .hbm S2x512x128 .f32) (harg4 : arg4.IsWhole) (arg5 : Memref sig .tc .hbm S2x512x128 .f32) (harg5 : arg5.IsWhole) (arg6 : Memref sig .tc .vmem S32x2048 .bf16) (harg6 : arg6.IsWhole) (arg7 : Memref sig .tc .vmem S32x2048 .bf16) (harg7 : arg7.IsWhole) (arg8 : Memref sig .tc .vmem S1x512x128 .f32) (harg8 : arg8.IsWhole) (arg9 : Memref sig .tc .vmem S1x512x128 .f32) (harg9 : arg9.IsWhole)
    (x0 x1 : Vec F S1x32x2048 .f32) (x2 : Vec F S1x1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg6 fullShare (keysFlat x2 x0) ∗ owns (c : Thread nD τ) arg7 fullShare (valuesFlat x1) ∗ owns (c : Thread nD τ) arg8 fullShare (keysByHead x2 x0) ∗ owns (c : Thread nD τ) arg9 fullShare (valuesByHead x1)) -∗ K ⟨⟩))
      ⊢ wp frame (wpE (defs₀ (F := F)) Variants.none c none) E (cc0_kv_heads i arg1 harg1 arg2 harg2 arg3 harg3 arg4 harg4 arg5 harg5 arg6 harg6 arg7 harg7 arg8 harg8 arg9 harg9) K := by
  simp only [cc0_kv_heads_eq_skeleton]; unfold cc0_kv_heads_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro; frame_out; exact Heads.read_flat (T := 32) (e := .bf16) _ _ (fun k hk => k0_pay6 x2 (cols x0 k hk))
  isplitl [H4]
  · iexists _; isplitr; swap; · iexact H4
    ipureintro; frame_out; exact Heads.read_flat (T := 32) (e := .bf16) _ _ (fun k hk => k0_pay7 (cols x1 k hk))
  isplitl [H5]
  · iexists _; isplitr; swap; · iexact H5
    ipureintro; frame_out; exact Heads.read_byHead (T := 32) (R := 512) (e := .f32) rfl (by decide) _ _ (fun k hk => k0_pay8 x2 (cols x0 k hk))
  iexists _; isplitr; swap; · iexact H6
  ipureintro; frame_out; exact Heads.read_byHead (T := 32) (R := 512) (e := .f32) rfl (by decide) _ _ (fun k hk => k0_pay9 (cols x1 k hk))

variable (m : (ℓ : Loc nD τ sig) → Buf (Elt F) ℓ) (ρ : Dev nD → PrngReg)

/-- Window 0's buffer at a point. -/
abbrev ms0_0 (t : Fin cfg0.N) := win0_0.stage (cfg0.slots t 0)
/-- Window 1's buffer at a point. -/
abbrev ms0_1 (t : Fin cfg0.N) := win0_1.stage (cfg0.slots t 1)
/-- Window 2's buffer at a point. -/
abbrev ms0_2 (t : Fin cfg0.N) := win0_2.stage (cfg0.slots t 2)
/-- Window 3's buffer at a point. -/
abbrev ms0_3 (t : Fin cfg0.N) := win0_3.stage (cfg0.slots t 3)
/-- Window 4's buffer at a point. -/
abbrev ms0_4 (t : Fin cfg0.N) := win0_4.stage (cfg0.slots t 4)
/-- Window 5's buffer at a point. -/
abbrev ms0_5 (t : Fin cfg0.N) := win0_5.stage (cfg0.slots t 5)
/-- Window 6's buffer at a point. -/
abbrev ms0_6 (t : Fin cfg0.N) := win0_6.stage (cfg0.slots t 6)

/-- The run's data: the arrays as found, and what each point leaves in each buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => keysFlat (iblk m c 2 t) (iblk m c 0 t)
    | ⟨4, _⟩ => valuesFlat (iblk m c 1 t)
    | ⟨5, _⟩ => keysByHead (iblk m c 2 t) (iblk m c 0 t)
    | ⟨6, _⟩ => valuesByHead (iblk m c 1 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = keysFlat (iblk m c 2 t) (iblk m c 0 t) := by dsimp only [dats]
theorem after0_4 (c : Dev nD) (t : Fin cfg0.N) : (dats m 0 c).after 4 t = valuesFlat (iblk m c 1 t) := by dsimp only [dats]
theorem after0_5 (c : Dev nD) (t : Fin cfg0.N) : (dats m 0 c).after 5 t = keysByHead (iblk m c 2 t) (iblk m c 0 t) := by dsimp only [dats]
theorem after0_6 (c : Dev nD) (t : Fin cfg0.N) : (dats m 0 c).after 6 t = valuesByHead (iblk m c 1 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HP, Ho, ⟨%d0, H0⟩, ⟨%d1, H1⟩, ⟨%d2, H2⟩, ⟨%d3, H3⟩, ⟨%d4, H4⟩, ⟨%d5, H5⟩, ⟨%d6, H6⟩⟩
  iapply (tileRun c (grid0.coords t)  _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body is the printed one. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  exact .rfl

set_option backward.isDefEq.respectTransparency.types false in
/-- The launch: every fair execution ends with the arrays at what the run's data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- Every fair execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel9Ideal.Body

end
-- ==== Proof.KvSample.Run.lean ====
/-
  The sample rows' keys and values, head by head: the kernel's frame. Idealizing replaces nothing in it, so that it and its idealization are one
  program, and the frame is the idealization's (RunIdeal.lean).
-/
module

public import proofs.«01_k».proof.Proof.Gen.Kernel9.Frame
public import proofs.«01_k».proof.Proof.KvSample.RunIdeal

@[expose] public section

noncomputable section

namespace Cert.Kernel9.Body

open Idealize.ShloMosaic Idealize.ShloMosaic.TcCoe Idealize.SL.Sem
open Cert.Kernel9 Cert.Kernel9.Gen

variable {F : FTy → Type} [FloatOps F]

/-- The two tables of bodies are one. -/
theorem defs₀_eq : Cert.Kernel9.defs₀ (F := F) = Cert.Kernel9Ideal.defs₀ := by
  unfold Cert.Kernel9.defs₀ Cert.Kernel9Ideal.defs₀
  refine congrArg Defs.onTc (funext fun l => ?_)
  match l with
  | 0 => rfl
  | ⟨_ + 1, h⟩ => exact absurd h (Nat.not_lt.2 (Nat.le_add_left _ _))

theorem defs_eq : Cert.Kernel9.defs (F := F) = Cert.Kernel9Ideal.defs := congrArg (Pipeline.defs pcfgs) defs₀_eq

/-- Every fair execution ends with the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.Kernel9Ideal.Body.frame m ρ

end Cert.Kernel9.Body

end
-- ==== Proof.KvSample.Value.lean ====
/- The sample rows' keys and values, head by head: what the four result arrays hold. -/
module

public import proofs.«01_k».proof.Proof.KvSample.RunIdeal
public import Idealize.ShloMosaic.Lib.Pipeline.ValueKit

@[expose] public section

set_option maxRecDepth 16384

noncomputable section

namespace Cert.Kernel9Ideal.Body

open Idealize.ShloMosaic Idealize.ShloMosaic.TcCoe Idealize.SL.Sem
open Idealize.ShloMosaic.Pipeline (Dat)
open Cert.Kernel9Ideal Cert.Kernel9Ideal.Gen

/-- Column `q` of head `k`. -/
def col (k : Fin 16) (q : Fin 128) : Fin 2048 := ⟨k.val * 128 + q.val, by omega⟩

/-- A row over the root of the mean of its squares, times a gain. -/
def normed (x g : Fin 128 → EReal) (q : Fin 128) : EReal :=
  x q * Ideal.rsqrt (Ideal.div (∑ j : Fin 128, x j * x j) (Ideal.ofBits .f32 0x43000000#32) + Ideal.ofBits .f32 0x358637BD#32) * g q

/-- The normed key of a row, at a column of a head. -/
def Key (X : FVec Ideal S3x32x2048 .f32) (G : FVec Ideal S2x128 .f32) (r : Fin 32) (k : Fin 16) (q : Fin 128) : EReal :=
  normed (fun j => X (ix3 1 r (col k j))) (fun j => G (ix2 1 j)) q

/-- The head of a column, and the column within it. -/
def hd (c : Fin 2048) : Fin 16 := ⟨c.val / 128, by omega⟩
def lane (c : Fin 2048) : Fin 128 := ⟨c.val % 128, by omega⟩

theorem col_hd (c : Fin 2048) : col (hd c) (lane c) = c := by
  apply Fin.ext; show c.val / 128 * 128 + c.val % 128 = c.val; omega

/-- The keys, the heads side by side. -/
def Keys (X : FVec Ideal S3x32x2048 .f32) (G : FVec Ideal S2x128 .f32) : FVec Ideal S32x2048 .bf16 := fun y => Key X G (y 0) (hd (y 1)) (lane (y 1))

/-- The values, the heads side by side. -/
def Values (X : FVec Ideal S3x32x2048 .f32) : FVec Ideal S32x2048 .bf16 := fun y => X (ix3 2 (y 0) (y 1))

/-- The row a stacked row belongs to, and its head. -/
def rowOf (r : Fin 512) : Fin 32 := ⟨r.val / 16, by omega⟩
def headOf (r : Fin 512) : Fin 16 := ⟨r.val % 16, by omega⟩

/-- The earlier layer's keys, and below them this layer's, the heads of a row one below the other. -/
def KeyStack (X : FVec Ideal S3x32x2048 .f32) (G : FVec Ideal S2x128 .f32) (A : FVec Ideal S2x512x128 .f32) : FVec Ideal S2x512x128 .f32 := fun y =>
  if (y 0).val = 1 then Key X G (rowOf (y 1)) (headOf (y 1)) (y 2) else A y

/-- The same of the values. -/
def ValueStack (X : FVec Ideal S3x32x2048 .f32) (A : FVec Ideal S2x512x128 .f32) : FVec Ideal S2x512x128 .f32 := fun y =>
  if (y 0).val = 1 then X (ix3 2 (rowOf (y 1)) (col (headOf (y 1)) (y 2))) else A y

/-- A head of a tile. -/
theorem cols_at (x : FVec Ideal S1x32x2048 .f32) (k : ℕ) (hk : k < 16) (p : Fin 32) (q : Fin 128) :
    cols (F := Ideal) x k hk (ix3 0 p q) = x (ix3 0 p (col ⟨k, hk⟩ q)) := by
  unfold cols
  refine View.ld_unit_apply_of _ _ _ _ _ _ fun a => ?_
  fin_cases a
  · rfl
  · exact (Nat.zero_add _).symm
  · exact congrArg (· + q.val) (Nat.mul_comm k 128)

/-- One head's normed keys. -/
theorem pay4_at (g : FVec Ideal S1x1x128 .f32) (x : FVec Ideal S1x32x128 .f32) (p : Fin 32) (q : Fin 128) :
    (k0_pay4 (F := Ideal) g x) (ix2 p q) = normed (fun j => x (ix3 0 p j)) (fun j => g (ix3 0 0 j)) q := by
  pointwise [k0_pay4, k0_pay3, normed]

theorem pay6_at (g : FVec Ideal S1x1x128 .f32) (x : FVec Ideal S1x32x128 .f32) (p : Fin 32) (q : Fin 128) :
    (k0_pay6 (F := Ideal) g x) (ix2 p q) = normed (fun j => x (ix3 0 p j)) (fun j => g (ix3 0 0 j)) q := pay4_at g x p q
theorem pay7_at (x : FVec Ideal S1x32x128 .f32) (p : Fin 32) (q : Fin 128) :
    (k0_pay7 (F := Ideal) x) (ix2 p q) = x (ix3 0 p q) := by pointwise [k0_pay7, k0_pay5]
theorem pay8_at (g : FVec Ideal S1x1x128 .f32) (x : FVec Ideal S1x32x128 .f32) (i : Fin 1) (p : Fin 32) (q : Fin 128) :
    (k0_pay8 (F := Ideal) g x) (ix3 i p q) = normed (fun j => x (ix3 0 p j)) (fun j => g (ix3 0 0 j)) q := by
  refine Eq.trans ?_ (pay4_at g x p q)
  pointwise [k0_pay8]
theorem pay9_at (x : FVec Ideal S1x32x128 .f32) (i : Fin 1) (p : Fin 32) (q : Fin 128) :
    (k0_pay9 (F := Ideal) x) (ix3 i p q) = x (ix3 0 p q) := by
  obtain rfl : i = 0 := Subsingleton.elim _ _
  pointwise [k0_pay9, k0_pay5]

variable (m : (ℓ : Loc nD τ sig) → Buf (Elt Ideal) ℓ)

theorem idx : ∀ t : Fin cfg0.N, win0_0.index t = ![1, t.val, 0] ∧ win0_1.index t = ![2, t.val, 0] ∧ win0_2.index t = ![1, 0, 0]
    ∧ win0_3.index t = ![t.val, 0] ∧ win0_4.index t = ![t.val, 0] ∧ win0_5.index t = ![1, t.val, 0] ∧ win0_6.index t = ![1, t.val, 0] :=
  (by decide +kernel : ∀ t : Fin grid0.N, _)

theorem points : cfg0.N = 1 := N_0

/-- The row behind row `p` of a tile. -/
def row (t : Fin cfg0.N) (p : Fin 32) : Fin 32 := ⟨32 * t.val + p.val, by have h := lt_of_lt_of_eq t.isLt points; omega⟩

theorem k_block (c : Dev nD) (t : Fin cfg0.N) (p : Fin 32) (q : Fin 2048) :
    (iblk m c 0 t : FVec Ideal S1x32x2048 .f32) (ix3 0 p q) = (m ((c : Thread nD τ).loc main_arg0) : FVec Ideal S3x32x2048 .f32) (ix3 1 (row t p) q) := by
  blk_ext [iblk, V, idx t, row]

theorem v_block (c : Dev nD) (t : Fin cfg0.N) (p : Fin 32) (q : Fin 2048) :
    (iblk m c 1 t : FVec Ideal S1x32x2048 .f32) (ix3 0 p q) = (m ((c : Thread nD τ).loc main_arg0) : FVec Ideal S3x32x2048 .f32) (ix3 2 (row t p) q) := by
  blk_ext [iblk, V, idx t, row]

theorem g_block (c : Dev nD) (t : Fin cfg0.N) (q : Fin 128) :
    (iblk m c 2 t : FVec Ideal S1x1x128 .f32) (ix3 0 0 q) = (m ((c : Thread nD τ).loc main_arg1) : FVec Ideal S2x128 .f32) (ix2 1 q) := by
  blk_ext! [iblk, V, idx t]

/-- A tile's key, over the arguments. -/
theorem key_block (c : Dev nD) (t : Fin cfg0.N) (p : Fin 32) (k : ℕ) (hk : k < 16) (q : Fin 128) :
    normed (fun j => cols (F := Ideal) (iblk m c 0 t) k hk (ix3 0 p j)) (fun j => (iblk m c 2 t : FVec Ideal S1x1x128 .f32) (ix3 0 0 j)) q
      = Key (m ((c : Thread nD τ).loc main_arg0)) (m ((c : Thread nD τ).loc main_arg1)) (row t p) ⟨k, hk⟩ q := by
  unfold Key
  congr 1
  · funext j; exact (cols_at _ k hk p j).trans (k_block m c t p _)
  · funext j; exact g_block m c t j

theorem value_block (c : Dev nD) (t : Fin cfg0.N) (p : Fin 32) (k : ℕ) (hk : k < 16) (q : Fin 128) :
    cols (F := Ideal) (iblk m c 1 t) k hk (ix3 0 p q) = (m ((c : Thread nD τ).loc main_arg0) : FVec Ideal S3x32x2048 .f32) (ix3 2 (row t p) (col ⟨k, hk⟩ q)) :=
  (cols_at _ k hk p q).trans (v_block m c t p _)

/-- Writing back the tiles leaves the keys, -/
theorem keys_final (c : Dev nD) : (dats m 0 c).arrAt 3 cfg0.N = Keys (m ((c : Thread nD τ).loc main_arg0)) (m ((c : Thread nD τ).loc main_arg1)) := by
  refine (dats m 0 c).arrAt_eq_of_covers 3 _ (by decide +kernel) fun t _ y => ?_
  blk_simp
  rw [after0_3]
  have he : (win0_3.blk t).view.emb y = ix2 (row t (y 0)) (y 1) := by blk_ext [idx t, row]
  rw [he]
  unfold keysFlat Heads.flat
  exact (pay6_at _ _ _ _).trans (key_block m c t _ _ _ _)

/-- the values, -/
theorem values_final (c : Dev nD) : (dats m 0 c).arrAt 4 cfg0.N = Values (m ((c : Thread nD τ).loc main_arg0)) := by
  refine (dats m 0 c).arrAt_eq_of_covers 4 _ (by decide +kernel) fun t _ y => ?_
  blk_simp
  rw [after0_4]
  have he : (win0_4.blk t).view.emb y = ix2 (row t (y 0)) (y 1) := by blk_ext [idx t, row]
  rw [he]
  unfold valuesFlat Heads.flat
  refine (pay7_at _ _ _).trans ((value_block m c t _ _ _ _).trans ?_)
  exact congrArg (fun q : Fin 2048 => (m ((c : Thread nD τ).loc main_arg0) : FVec Ideal S3x32x2048 .f32) (ix3 2 (row t (y 0)) q)) (col_hd (y 1))

/-- The stacked row behind row `p` of a tile of them; it belongs to the tile's row `p / 16`. -/
def row' (t : Fin cfg0.N) (p : Fin 512) : Fin 512 := ⟨512 * t.val + p.val, by have h := lt_of_lt_of_eq t.isLt points; omega⟩

theorem rowOf_row' (t : Fin cfg0.N) (p : Fin 512) : rowOf (row' t p) = row t (⟨p.val / 16, by omega⟩ : Fin 32) := by
  apply Fin.ext; show (512 * t.val + p.val) / 16 = 32 * t.val + p.val / 16; omega

theorem headOf_row' (t : Fin cfg0.N) (p : Fin 512) : headOf (row' t p) = (⟨p.val % 16, by omega⟩ : Fin 16) := by
  apply Fin.ext; show (512 * t.val + p.val) % 16 = p.val % 16; omega

theorem V_main_v1_2 (c : Dev nD) : V m c main_v1_2 = m ((c : Thread nD τ).loc main_arg2) := by unfold V; after_results; try rfl
theorem V_main_v1_3 (c : Dev nD) : V m c main_v1_3 = m ((c : Thread nD τ).loc main_arg3) := by unfold V; after_results; try rfl

/-- and the two stacks. -/
theorem keyStack_final (c : Dev nD) : (dats m 0 c).arrAt 5 cfg0.N
    = KeyStack (m ((c : Thread nD τ).loc main_arg0)) (m ((c : Thread nD τ).loc main_arg1)) (m ((c : Thread nD τ).loc main_arg2)) := by
  refine ((dats m 0 c).arrAt_eq_of_coversWhere 5 (KeyStack (m ((c : Thread nD τ).loc main_arg0)) (m ((c : Thread nD τ).loc main_arg1)) (m ((c : Thread nD τ).loc main_arg2)))
    (P := fun y : S2x512x128.Idx => (y 0).val = 1) (fun β => β 0 = 1) (by decide +kernel) (fun t hf y => ?_) (fun j => by blk_simp [Pipeline.Window.cell_apply]; omega)).trans ?_
  · blk_simp
    rw [after0_5]
    have he : (win0_5.blk t).view.emb y = ix3 (1 : Fin 2) (row' t (y 1)) (y 2) := by blk_ext [idx t, row']
    rw [he]
    unfold keysByHead Heads.byHead KeyStack
    refine (pay8_at _ _ _ _ _).trans ((key_block m c t _ _ _ _).trans ?_)
    refine Eq.trans ?_ (if_pos rfl).symm
    exact (congrArg₂ (fun r k => Key (m ((c : Thread nD τ).loc main_arg0)) (m ((c : Thread nD τ).loc main_arg1)) r k (y 2)) (rowOf_row' t (y 1)) (headOf_row' t (y 1))).symm
  · funext y
    unfold KeyStack
    by_cases hy : (y 0).val = 1
    · rw [if_pos hy]
    · rw [if_neg hy, if_neg hy, A_eq m c 5]; exact congrFun (V_main_v1_2 m c) y

theorem valueStack_final (c : Dev nD) : (dats m 0 c).arrAt 6 cfg0.N
    = ValueStack (m ((c : Thread nD τ).loc main_arg0)) (m ((c : Thread nD τ).loc main_arg3)) := by
  refine ((dats m 0 c).arrAt_eq_of_coversWhere 6 (ValueStack (m ((c : Thread nD τ).loc main_arg0)) (m ((c : Thread nD τ).loc main_arg3)))
    (P := fun y : S2x512x128.Idx => (y 0).val = 1) (fun β => β 0 = 1) (by decide +kernel) (fun t hf y => ?_) (fun j => by blk_simp [Pipeline.Window.cell_apply]; omega)).trans ?_
  · blk_simp
    rw [after0_6]
    have he : (win0_6.blk t).view.emb y = ix3 (1 : Fin 2) (row' t (y 1)) (y 2) := by blk_ext [idx t, row']
    rw [he]
    unfold valuesByHead Heads.byHead ValueStack
    refine (pay9_at _ _ _ _).trans ((value_block m c t _ _ _ _).trans ?_)
    refine Eq.trans ?_ (if_pos rfl).symm
    exact (congrArg₂ (fun r k => (m ((c : Thread nD τ).loc main_arg0) : FVec Ideal S3x32x2048 .f32) (ix3 2 r (col k (y 2)))) (rowOf_row' t (y 1)) (headOf_row' t (y 1))).symm
  · funext y
    unfold ValueStack
    by_cases hy : (y 0).val = 1
    · rw [if_pos hy]
    · rw [if_neg hy, if_neg hy, A_eq m c 6]; exact congrFun (V_main_v1_3 m c) y

end Cert.Kernel9Ideal.Body

end
-- ==== Proof.KvSample.Claim.lean ====
/- The sample rows' keys and values: the kernel and its reference leave the same arrays. -/
module

public import proofs.«01_k».proof.Defs
public import proofs.«01_k».proof.Proof.KvSample.Value
public import proofs.«01_k».proof.Proof.Gen.Reference9Ideal.Run

@[expose] public section

set_option maxRecDepth 16384

noncomputable section

namespace Cert.Reference9Ideal.Value

open Idealize.ShloMosaic Idealize.ShloMosaic.TcCoe Idealize.SL.Sem Idealize.ShloMosaic.StableHlo
open Cert.Reference9Ideal Cert.Reference9Ideal.Gen

variable (X : FVec Ideal S3x32x2048 .f32) (G : FVec Ideal S2x128 .f32) (A B : FVec Ideal S2x512x128 .f32)

/-- The reference's normed keys. -/
def keys : FVec Ideal S32x16x128 .f32 :=
  (mulf (mulf (shapeCast _ (shapeCast _ (extractStridedSlice S1x32x2048 ![1, 0, 0] X slices_S3x32x2048_S1x32x2048_1_0_0) shapeCasts_S1x32x2048_S32x2048) shapeCasts_S32x2048_S32x16x128) (broadcastInDim S32x16x128 ![0, 1, 2] bcast_S32x16x1_S32x16x128_0_1_2 (Host.rsqrt (addf (Host.divf (broadcastInDim S32x16x1 ![0, 1] bcast_S32x16_S32x16x1_0_1 (Host.reduceAdd (mulf (shapeCast _ (shapeCast _ (extractStridedSlice S1x32x2048 ![1, 0, 0] X slices_S3x32x2048_S1x32x2048_1_0_0) shapeCasts_S1x32x2048_S32x2048) shapeCasts_S32x2048_S32x16x128) (shapeCast _ (shapeCast _ (extractStridedSlice S1x32x2048 ![1, 0, 0] X slices_S3x32x2048_S1x32x2048_1_0_0) shapeCasts_S1x32x2048_S32x2048) shapeCasts_S32x2048_S32x16x128)) (constant S_ .f32 0x00000000#32) reducesTo_S32x16x128_S32x16_d2 h_S_)) (broadcastInDim S32x16x1 ![] bcast_S_S32x16x1 (constant S_ .f32 0x43000000#32))) (broadcastInDim S32x16x1 ![] bcast_S_S32x16x1 (constant S_ .f32 0x358637BD#32)))))) (broadcastInDim S32x16x128 ![0, 1, 2] bcast_S1x1x128_S32x16x128_0_1_2 (broadcastInDim S1x1x128 ![2] bcast_S128_S1x1x128_2 (shapeCast _ (extractStridedSlice S1x128 ![1, 0] G slices_S2x128_S1x128_1_0) shapeCasts_S1x128_S128))))

theorem keys_at (r : Fin 32) (k : Fin 16) (q : Fin 128) : keys X G (ix3 r k q) = Cert.Kernel9Ideal.Body.Key X G r k q := by
  unfold keys
  pointwise
  rfl

theorem ref_keys : (truncf .bf16 (shapeCast _ (keys X G) shapeCasts_S32x16x128_S32x2048) bitsLt_bf16_f32 : FVec Ideal S32x2048 .bf16) = Cert.Kernel9Ideal.Body.Keys X G := by
  funext y
  pointwise
  exact keys_at X G _ _ _

theorem ref_values : (truncf .bf16 (shapeCast _ (extractStridedSlice S1x32x2048 ![2, 0, 0] X slices_S3x32x2048_S1x32x2048_2_0_0) shapeCasts_S1x32x2048_S32x2048) bitsLt_bf16_f32 : FVec Ideal S32x2048 .bf16) = Cert.Kernel9Ideal.Body.Values X := by
  funext y
  pointwise
  rfl

/-- An index of the first layer. -/
theorem first_layer (y : S2x512x128.Idx) (h : (y 0).val < 1) : (ix3 0 (y 1) (y 2) : S2x512x128.Idx) = y := by
  funext a
  fin_cases a
  · apply Fin.ext; show 0 = (y 0).val; omega
  · rfl
  · rfl

theorem ref_keyStack : (concatenate S2x512x128 0 [⟨S1x512x128, (broadcastInDim S1x512x128 ![1, 2] bcast_S512x128_S1x512x128_1_2 (shapeCast _ (extractStridedSlice S1x512x128 ![0, 0, 0] A slices_S2x512x128_S1x512x128_0_0_0) shapeCasts_S1x512x128_S512x128))⟩, ⟨S1x512x128, (broadcastInDim S1x512x128 ![1, 2] bcast_S512x128_S1x512x128_1_2 (shapeCast _ (keys X G) shapeCasts_S32x16x128_S512x128))⟩] concatenates_S1x512x128_S1x512x128_S2x512x128_d0 : FVec Ideal S2x512x128 .f32) = Cert.Kernel9Ideal.Body.KeyStack X G A := by
  funext y
  have h2 : (y 0).val < 2 := (y 0).isLt
  pointwise
  by_cases h : (y 0).val < 1
  · rw [dif_pos h]; exact (congrArg A (first_layer y h)).trans (if_neg (by omega)).symm
  · rw [dif_neg h]; exact (keys_at X G _ _ _).trans (if_pos (by omega)).symm

theorem ref_valueStack : (concatenate S2x512x128 0 [⟨S1x512x128, (broadcastInDim S1x512x128 ![1, 2] bcast_S512x128_S1x512x128_1_2 (shapeCast _ (extractStridedSlice S1x512x128 ![0, 0, 0] B slices_S2x512x128_S1x512x128_0_0_0) shapeCasts_S1x512x128_S512x128))⟩, ⟨S1x512x128, (broadcastInDim S1x512x128 ![1, 2] bcast_S512x128_S1x512x128_1_2 (shapeCast _ (shapeCast _ (extractStridedSlice S1x32x2048 ![2, 0, 0] X slices_S3x32x2048_S1x32x2048_2_0_0) shapeCasts_S1x32x2048_S32x2048) shapeCasts_S32x2048_S512x128))⟩] concatenates_S1x512x128_S1x512x128_S2x512x128_d0 : FVec Ideal S2x512x128 .f32) = Cert.Kernel9Ideal.Body.ValueStack X B := by
  funext y
  have h2 : (y 0).val < 2 := (y 0).isLt
  pointwise
  by_cases h : (y 0).val < 1
  · rw [dif_pos h]; exact (congrArg B (first_layer y h)).trans (if_neg (by omega)).symm
  · rw [dif_neg h]; exact (if_pos (by omega)).symm

end Cert.Reference9Ideal.Value

namespace Cert.Kernel9Ideal.Body

open Idealize.ShloMosaic Idealize.ShloMosaic.TcCoe Idealize.SL.Sem
open Idealize.ShloMosaic.Pipeline (Dat)
open Cert.Kernel9Ideal Cert.Kernel9Ideal.Gen

/-- The kernel's run, its results named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1_0) = Keys (m ((c.tc : Thread nD τ).loc main_arg0)) (m ((c.tc : Thread nD τ).loc main_arg1))
      ∧ r.2.mem ((c.tc : Thread nD τ).loc main_v1_1) = Values (m ((c.tc : Thread nD τ).loc main_arg0))
      ∧ r.2.mem ((c.tc : Thread nD τ).loc main_v1_2) = KeyStack (m ((c.tc : Thread nD τ).loc main_arg0)) (m ((c.tc : Thread nD τ).loc main_arg1)) (m ((c.tc : Thread nD τ).loc main_arg2))
      ∧ r.2.mem ((c.tc : Thread nD τ).loc main_v1_3) = ValueStack (m ((c.tc : Thread nD τ).loc main_arg0)) (m ((c.tc : Thread nD τ).loc main_arg3))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))) :=
  (θ_run defs _ _).mono (fun r h c => ⟨((h.1 c).1 3).trans (keys_final m c), ((h.1 c).1 4).trans (values_final m c),
      ((h.1 c).1 5).trans (keyStack_final m c), ((h.1 c).1 6).trans (valueStack_final m c), h.2 c⟩)
    (θ_run_and (run_main m ρ) (frame_of m ρ (dats m) (A_eq m) (run_main m ρ)))

end Cert.Kernel9Ideal.Body

open Idealize.ShloMosaic Idealize.ShloMosaic.TcCoe Idealize.SL.Sem

/-- The call computes its reference. -/
theorem Cert.Kernel9Ideal.Body.algebraic : Cert.algebraic_Kernel9Ideal_Reference9Ideal (hKernel9Ideal := Cert.Kernel9Ideal.Gen.facts)
    (hReference9Ideal := Cert.Reference9Ideal.Gen.facts) := by
  intro m g m' g' _ hag
  refine ⟨fun c => Cert.Kernel9Ideal.Body.Keys (m (c.tc.loc Cert.Kernel9Ideal.main_arg0)) (m (c.tc.loc Cert.Kernel9Ideal.main_arg1)), fun c => Cert.Kernel9Ideal.Body.Values (m (c.tc.loc Cert.Kernel9Ideal.main_arg0)),
    fun c => Cert.Kernel9Ideal.Body.KeyStack (m (c.tc.loc Cert.Kernel9Ideal.main_arg0)) (m (c.tc.loc Cert.Kernel9Ideal.main_arg1)) (m (c.tc.loc Cert.Kernel9Ideal.main_arg2)), fun c => Cert.Kernel9Ideal.Body.ValueStack (m (c.tc.loc Cert.Kernel9Ideal.main_arg0)) (m (c.tc.loc Cert.Kernel9Ideal.main_arg3)),
    Cert.Kernel9Ideal.Body.run_values m g, ?_⟩
  refine (θ_run Cert.Reference9Ideal.defs _ _).mono (fun r hr c => ?_) (Cert.Reference9Ideal.Value.run m' g')
  obtain ⟨h0, h1, h2, h3⟩ := hag c
  obtain ⟨ha, hb, hc, hd, hk⟩ := hr c
  refine ⟨ha.trans ?_, hb.trans ?_, hc.trans ?_, hd.trans ?_, hk⟩
  · refine (Cert.Reference9Ideal.Value.ref_keys _ _).trans ?_; rw [h0, h1]
  · refine (Cert.Reference9Ideal.Value.ref_values _).trans ?_; rw [h0]
  · refine (Cert.Reference9Ideal.Value.ref_keyStack _ _ _).trans ?_; rw [h0, h1, h2]
  · refine (Cert.Reference9Ideal.Value.ref_valueStack _ _).trans ?_; rw [h0, h3]

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Skeleton
public import proofs.«01_k».proof.Proof.Gen.Kernel2.Frame
public import proofs.«01_k».proof.Proof.Gen.Kernel2Ideal.Skeleton
public import proofs.«01_k».proof.Proof.Gen.Kernel2Ideal.Frame
public import proofs.«01_k».proof.Proof.Gen.Reference2Ideal.Run
public import proofs.«01_k».proof.Proof.Gen.Kernel3.Skeleton
public import proofs.«01_k».proof.Proof.Gen.Kernel3.Frame
public import proofs.«01_k».proof.Proof.Gen.Kernel3Ideal.Skeleton
public import proofs.«01_k».proof.Proof.Gen.Kernel3Ideal.Frame
public import proofs.«01_k».proof.Proof.Gen.Reference3Ideal.Run
public import proofs.«01_k».proof.Proof.Gen.Kernel4.Skeleton
public import proofs.«01_k».proof.Proof.Gen.Kernel4.Frame
public import proofs.«01_k».proof.Proof.Gen.Kernel4Ideal.Skeleton
public import proofs.«01_k».proof.Proof.Gen.Kernel4Ideal.Frame
public import proofs.«01_k».proof.Proof.Gen.Reference4Ideal.Run
public import proofs.«01_k».proof.Proof.Gen.Kernel5.Skeleton
public import proofs.«01_k».proof.Proof.Gen.Kernel5.Frame
public import proofs.«01_k».proof.Proof.Gen.Kernel5Ideal.Skeleton
public import proofs.«01_k».proof.Proof.Gen.Kernel5Ideal.Frame
public import proofs.«01_k».proof.Proof.Gen.Reference5Ideal.Run
public import proofs.«01_k».proof.Proof.Gen.Kernel6.Skeleton
public import proofs.«01_k».proof.Proof.Gen.Kernel6.Frame
public import proofs.«01_k».proof.Proof.Gen.Kernel6Ideal.Skeleton
public import proofs.«01_k».proof.Proof.Gen.Kernel6Ideal.Frame
public import proofs.«01_k».proof.Proof.Gen.Reference6Ideal.Run
public import proofs.«01_k».proof.Proof.Gen.Kernel7.Skeleton
public import proofs.«01_k».proof.Proof.Gen.Kernel7.Frame
public import proofs.«01_k».proof.Proof.Gen.Kernel7Ideal.Skeleton
public import proofs.«01_k».proof.Proof.Gen.Kernel7Ideal.Frame
public import proofs.«01_k».proof.Proof.Gen.Reference7Ideal.Run
public import proofs.«01_k».proof.Proof.Gen.Kernel8.Skeleton
public import proofs.«01_k».proof.Proof.Gen.Kernel8.Frame
public import proofs.«01_k».proof.Proof.Gen.Kernel8Ideal.Skeleton
public import proofs.«01_k».proof.Proof.Gen.Kernel8Ideal.Frame
public import proofs.«01_k».proof.Proof.Gen.Reference8Ideal.Run
public import proofs.«01_k».proof.Proof.Gen.Kernel9.Skeleton
public import proofs.«01_k».proof.Proof.Gen.Kernel9.Frame
public import proofs.«01_k».proof.Proof.Gen.Kernel9Ideal.Skeleton
public import proofs.«01_k».proof.Proof.Gen.Kernel9Ideal.Frame
public import proofs.«01_k».proof.Proof.Gen.Reference9Ideal.Run
public import proofs.«01_k».proof.Proof.Sb.Eq
public import proofs.«01_k».proof.Proof.FfnIn.Run
public import proofs.«01_k».proof.Proof.FfnIn.Claim
public import proofs.«01_k».proof.Proof.FfnOut.Run
public import proofs.«01_k».proof.Proof.FfnOut.Claim
public import proofs.«01_k».proof.Proof.HgIn.Run
public import proofs.«01_k».proof.Proof.HgIn.Claim
public import proofs.«01_k».proof.Proof.Qkv.Run
public import proofs.«01_k».proof.Proof.Qkv.Claim
public import proofs.«01_k».proof.Proof.ProjOut.Run
public import proofs.«01_k».proof.Proof.ProjOut.Claim
public import proofs.«01_k».proof.Proof.FfnGate.Claim
public import proofs.«01_k».proof.Proof.KvHeads.Run
public import proofs.«01_k».proof.Proof.KvHeads.Claim
public import proofs.«01_k».proof.Proof.KvSample.Run
public import proofs.«01_k».proof.Proof.KvSample.Claim

@[expose] public section

open Idealize.ShloMosaic Idealize.ShloMosaic.TcCoe Idealize.SL.Sem

/-- The attention call computes its reference. -/
theorem Cert.Proof.sb : Cert.algebraic_KernelIdeal_ReferenceIdeal (hKernelIdeal := Cert.KernelIdeal.Gen.facts)
    (hReferenceIdeal := Cert.ReferenceIdeal.Gen.facts) := by
  intro m g m' g' _ hag
  refine ⟨fun c => Cert.Sb.G (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4)), ?_, ?_⟩
  · refine (θ_run Cert.KernelIdeal.defs _ _).mono (fun r hr c => ?_) (Cert.KernelIdeal.Value.run_blocks m g)
    obtain ⟨hv, hk⟩ := hr c
    exact ⟨hv.trans (Cert.Sb.final m c), hk⟩
  · refine (θ_run Cert.ReferenceIdeal.defs _ _).mono (fun r hr c => ?_) (Cert.ReferenceIdeal.Value.run m' g')
    obtain ⟨h0, h1, h2, h3, h4⟩ := hag c
    obtain ⟨hv, hk⟩ := hr c
    refine ⟨hv.trans ?_, hk⟩
    rw [Cert.Sb.Ref.res_eq, h0, h1, h2, h3, h4]
    exact (Cert.Sb.G_eq _ _ _ _ _).symm

theorem Cert.Proof.claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
    fun m g _ => Cert.Kernel.Gen.frame m g, fun m g _ => Cert.KernelIdeal.Gen.frame m g,
    fun m g _ => (θ_run Cert.ReferenceIdeal.defs _ _).mono (fun r h => ⟨fun c => (h c).2, sem_eq_zero_of_no_sems (by decide) r.2⟩)
      (Cert.ReferenceIdeal.Value.run m g),
    fun m g _ => Cert.Kernel2.Body.frame m g, fun m g _ => Cert.Kernel2Ideal.Body.frame m g,
    fun m g _ => (θ_run Cert.Reference2Ideal.defs _ _).mono (fun r h => ⟨fun c => (h c).2.2.2.2, sem_eq_zero_of_no_sems (by decide) r.2⟩)
      (Cert.Reference2Ideal.Value.run m g),
    fun m g _ => Cert.Kernel3.Body.frame m g, fun m g _ => Cert.Kernel3Ideal.Body.frame m g,
    fun m g _ => (θ_run Cert.Reference3Ideal.defs _ _).mono (fun r h => ⟨fun c => (h c).2.2, sem_eq_zero_of_no_sems (by decide) r.2⟩)
      (Cert.Reference3Ideal.Value.run m g),
    fun m g _ => Cert.Kernel4.Body.frame m g, fun m g _ => Cert.Kernel4Ideal.Body.frame m g,
    fun m g _ => (θ_run Cert.Reference4Ideal.defs _ _).mono (fun r h => ⟨fun c => (h c).2.2, sem_eq_zero_of_no_sems (by decide) r.2⟩)
      (Cert.Reference4Ideal.Value.run m g),
    fun m g _ => Cert.Kernel5.Body.frame m g, fun m g _ => Cert.Kernel5Ideal.Body.frame m g,
    fun m g _ => (θ_run Cert.Reference5Ideal.defs _ _).mono (fun r h => ⟨fun c => (h c).2.2, sem_eq_zero_of_no_sems (by decide) r.2⟩)
      (Cert.Reference5Ideal.Value.run m g),
    fun m g _ => Cert.Kernel6.Body.frame m g, fun m g _ => Cert.Kernel6Ideal.Body.frame m g,
    fun m g _ => (θ_run Cert.Reference6Ideal.defs _ _).mono (fun r h => ⟨fun c => (h c).2.2, sem_eq_zero_of_no_sems (by decide) r.2⟩)
      (Cert.Reference6Ideal.Value.run m g),
    fun m g _ => Cert.Kernel7.Gen.frame m g, fun m g _ => Cert.Kernel7Ideal.Gen.frame m g,
    fun m g _ => (θ_run Cert.Reference7Ideal.defs _ _).mono (fun r h => ⟨fun c => (h c).2.2, sem_eq_zero_of_no_sems (by decide) r.2⟩)
      (Cert.Reference7Ideal.Value.run m g),
    fun m g _ => Cert.Kernel8.Body.frame m g, fun m g _ => Cert.Kernel8Ideal.Body.frame m g,
    fun m g _ => (θ_run Cert.Reference8Ideal.defs _ _).mono (fun r h => ⟨fun c => (h c).2.2.2.2, sem_eq_zero_of_no_sems (by decide) r.2⟩)
      (Cert.Reference8Ideal.Value.run m g),
    fun m g _ => Cert.Kernel9.Body.frame m g, fun m g _ => Cert.Kernel9Ideal.Body.frame m g,
    fun m g _ => (θ_run Cert.Reference9Ideal.defs _ _).mono (fun r h => ⟨fun c => (h c).2.2.2.2, sem_eq_zero_of_no_sems (by decide) r.2⟩)
      (Cert.Reference9Ideal.Value.run m g),
    ⟨IdealRules.named_const.statement Cert.KernelIdeal.κ "qscale" .f32 0x3E0293EE#32 _ rfl,
      IdealRules.named_const.statement Cert.KernelIdeal.κ "log2e" .f32 0x3FB8AA3B#32 _ rfl⟩,
    Cert.Proof.sb,
    trivial, Cert.Kernel2Ideal.Body.algebraic,
    trivial, Cert.Kernel3Ideal.Body.algebraic,
    trivial, Cert.Kernel4Ideal.Body.algebraic,
    trivial, Cert.Kernel5Ideal.Body.algebraic,
    trivial, Cert.Kernel6Ideal.Body.algebraic,
    trivial, Cert.Kernel7Ideal.Body.algebraic,
    trivial, Cert.Kernel8Ideal.Body.algebraic,
    trivial, Cert.Kernel9Ideal.Body.algebraic⟩
